-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range_KernelIdeal [hPre_ids_in_range_KernelIdeal : Cert.Pre_ids_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_ReferenceIdeal [hPre_ids_in_range_ReferenceIdeal : Cert.Pre_ids_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range_KernelIdeal [hKernelIdeal : Cert.KernelIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range_ReferenceIdeal [hReferenceIdeal : Cert.ReferenceIdeal.Facts] [hPre_ids_in_range_ReferenceIdeal : Cert.Pre_ids_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range_KernelIdeal [hKernelIdeal : Cert.KernelIdeal.Facts] [hReferenceIdeal : Cert.ReferenceIdeal.Facts] [hPre_ids_in_range_KernelIdeal : Cert.Pre_ids_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![8192, 2048]⟩ ⟨2, ![16384, 2048]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range_KernelIdeal : Cert.Pre_ids_in_range_KernelIdeal.Facts) (hPre_ids_in_range_ReferenceIdeal : Cert.Pre_ids_in_range_ReferenceIdeal.Facts),
    quiescent_Kernel (hKernel := hKernel)
    ∧ quiescent_KernelIdeal (hKernelIdeal := hKernelIdeal)
    ∧ quiescent_KernelIdeal_pre_ids_in_range_KernelIdeal (hKernelIdeal := hKernelIdeal) (hPre_ids_in_range_KernelIdeal := hPre_ids_in_range_KernelIdeal)
    ∧ quiescent_ReferenceIdeal (hReferenceIdeal := hReferenceIdeal)
    ∧ quiescent_ReferenceIdeal_pre_ids_in_range_ReferenceIdeal (hReferenceIdeal := hReferenceIdeal) (hPre_ids_in_range_ReferenceIdeal := hPre_ids_in_range_ReferenceIdeal)
    ∧ preserves_Kernel_KernelIdeal
    ∧ algebraic_KernelIdeal_ReferenceIdeal_pre_ids_in_range_KernelIdeal (hKernelIdeal := hKernelIdeal) (hReferenceIdeal := hReferenceIdeal) (hPre_ids_in_range_KernelIdeal := hPre_ids_in_range_KernelIdeal)
-- ==== Pre_ids_in_range_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S8192x2048 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Pre_ids_in_range_ReferenceIdeal.lean ====
abbrev S4096 : Shape := ⟨1, ![4096]⟩
abbrev S16384x2048 : Shape := ⟨2, ![16384, 2048]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S16384x2048 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 16384#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Kernel.lean ====
abbrev S4096 : Shape := ⟨1, ![4096]⟩
abbrev S8192x2048 : Shape := ⟨2, ![8192, 2048]⟩
abbrev S_ : Shape := ⟨0, ![]⟩
abbrev S1024 : Shape := ⟨1, ![1024]⟩
abbrev S8x128 : Shape := ⟨2, ![8, 128]⟩
abbrev S8 : Shape := ⟨1, ![8]⟩
abbrev S1024x1 : Shape := ⟨2, ![1024, 1]⟩
abbrev S4096x2048 : Shape := ⟨2, ![4096, 2048]⟩
abbrev S1024x2048 : Shape := ⟨2, ![1024, 2048]⟩
abbrev S1 : Shape := ⟨1, ![1]⟩
abbrev S1x2048 : Shape := ⟨2, ![1, 2048]⟩
abbrev S128x2048 : Shape := ⟨2, ![128, 2048]⟩
abbrev S128x1 : Shape := ⟨2, ![128, 1]⟩
abbrev S64x2048 : Shape := ⟨2, ![64, 2048]⟩

abbrev nBuf : Space → Nat
  | .hbm => 57
  | .vmem => 5
  | .smem => 3
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S8x128, .i32⟩
  | .hbm, ⟨52, _⟩ => ⟨S_, .i32⟩
  | .hbm, ⟨53, _⟩ => ⟨S8, .i32⟩
  | .hbm, ⟨54, _⟩ => ⟨S1024, .bf16⟩
  | .hbm, ⟨55, _⟩ => ⟨S1024x1, .bf16⟩
  | .hbm, ⟨56, _⟩ => ⟨S4096x2048, .bf16⟩
  | .local _ .vmem, ⟨0, _⟩ => ⟨S1024x1, .bf16⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .smem, ⟨0, _⟩ => ⟨S1024, .i32⟩
  | .local _ .smem, ⟨1, _⟩ => ⟨S1024, .i32⟩
  | .local _ .smem, ⟨2, _⟩ => ⟨S8, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_5 : Ref sig .tc := ⟨.hbm, 20, rfl⟩
abbrev main_v13 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_c_7 : Ref sig .tc := ⟨.hbm, 25, rfl⟩
abbrev main_v16 : Ref sig .tc := ⟨.hbm, 26, rfl⟩
abbrev main_c_8 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_9 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_10 : Ref sig .tc := ⟨.hbm, 35, rfl⟩
abbrev main_v23 : Ref sig .tc := ⟨.hbm, 36, rfl⟩
abbrev main_v24 : Ref sig .tc := ⟨.hbm, 37, rfl⟩
abbrev main_c_11 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_12 : Ref sig .tc := ⟨.hbm, 42, rfl⟩
abbrev main_c_13 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_14 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev cc0_stg3_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v20 : BitVec 32 := Scalar.addi c0_i32 c128_i32
  let c1_i32_11 : BitVec 32 := 1#32
  ⟨c0_i32, v20, c1_i32_11⟩
def k0_off1 (k0_t1 : Fin k0_t1_loop.trips) : Fin 1 → Nat :=
  let c0_i32_1253 : BitVec 32 := 0#32
  let c0_i32 : BitVec 32 := 0#32
  let c1_i32_11 : BitVec 32 := 1#32
  let arg22 : BitVec 32 := Scf.iv c0_i32 c1_i32_11 k0_t1
  let v1407 : BitVec 32 := Scalar.addi c0_i32_1253 arg22
  let v1408 : Index := Scalar.indexCast v1407
  ![v1408.toNat]
def k0_off2 (k0_t1 : Fin k0_t1_loop.trips) : Fin 1 → Nat :=
  let c0_i32_1253 : BitVec 32 := 0#32
  let c0_i32 : BitVec 32 := 0#32
  let c1_i32_11 : BitVec 32 := 1#32
  let arg22 : BitVec 32 := Scf.iv c0_i32 c1_i32_11 k0_t1
  let v1407 : BitVec 32 := Scalar.addi c0_i32_1253 arg22
  let v1413 : Index := Scalar.indexCast v1407
  ![v1413.toNat]
def k0_off3 (k0_t1 : Fin k0_t1_loop.trips) : Fin 2 → Nat :=
  let c0_i32_1253 : BitVec 32 := 0#32
  let c0_i32 : BitVec 32 := 0#32
  let c1_i32_11 : BitVec 32 := 1#32
  let arg22 : BitVec 32 := Scf.iv c0_i32 c1_i32_11 k0_t1
  let v1407 : BitVec 32 := Scalar.addi c0_i32_1253 arg22
  let c0_i32_1257 : BitVec 32 := 0#32
  ![v1407.toNat, 0]
def k0_off4 (v1414 : BitVec 32) : Fin 2 → Nat :=
  let c0_i32_1258 : BitVec 32 := 0#32
  ![v1414.toNat, 0]
def k0_cond1 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk1 (v1409 : BitVec 32) (v1414 : BitVec 32) : Prop :=
  (∀ (k0_h1 : k0_cond1 v1409 = 1#1), ∀ a, (k0_off4 v1414) a + S1x2048.size a ≤ S8192x2048.size a)
theorem k0_off4_inb : ∀ (v1409 : BitVec 32) (v1414 : BitVec 32) (k0_hw1 : k0_chk1 v1409 v1414), ∀ (k0_h1 : k0_cond1 v1409 = 1#1), ∀ a, (k0_off4 v1414) a + S1x2048.size a ≤ S8192x2048.size a := fun v1409 v1414 k0_hw1 k0_h1 => k0_hw1 k0_h1

@[reducible] def k0_t2_loop : Scf.Loop 32 :=
  let c0_i32_13 : BitVec 32 := 0#32
  let c128_i32_14 : BitVec 32 := 128#32
  let v21 : BitVec 32 := Scalar.addi c0_i32_13 c128_i32_14
  let c1_i32_15 : BitVec 32 := 1#32
  ⟨c0_i32_13, v21, c1_i32_15⟩
def k0_off5 (k0_t2 : Fin k0_t2_loop.trips) : Fin 1 → Nat :=
  let c128_i32_1253 : BitVec 32 := 128#32
  let c0_i32_13 : BitVec 32 := 0#32
  let c1_i32_15 : BitVec 32 := 1#32
  let arg22 : BitVec 32 := Scf.iv c0_i32_13 c1_i32_15 k0_t2
  let v1407 : BitVec 32 := Scalar.addi c128_i32_1253 arg22
  let v1408 : Index := Scalar.indexCast v1407
  ![v1408.toNat]
def k0_off6 (k0_t2 : Fin k0_t2_loop.trips) : Fin 1 → Nat :=
  let c128_i32_1253 : BitVec 32 := 128#32
  let c0_i32_13 : BitVec 32 := 0#32
  let c1_i32_15 : BitVec 32 := 1#32
  let arg22 : BitVec 32 := Scf.iv c0_i32_13 c1_i32_15 k0_t2
  let v1407 : BitVec 32 := Scalar.addi c128_i32_1253 arg22
  let v1413 : Index := Scalar.indexCast v1407
  ![v1413.toNat]
def k0_off7 (k0_t2 : Fin k0_t2_loop.trips) : Fin 2 → Nat :=
  let c128_i32_1253 : BitVec 32 := 128#32
  let c0_i32_13 : BitVec 32 := 0#32
  let c1_i32_15 : BitVec 32 := 1#32
  let arg22 : BitVec 32 := Scf.iv c0_i32_13 c1_i32_15 k0_t2
  let v1407 : BitVec 32 := Scalar.addi c128_i32_1253 arg22
  let c0_i32_1257 : BitVec 32 := 0#32
  ![v1407.toNat, 0]
def k0_off8 (v1414 : BitVec 32) : Fin 2 → Nat :=
  let c0_i32_1258 : BitVec 32 := 0#32
  ![v1414.toNat, 0]
def k0_cond2 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk2 (v1409 : BitVec 32) (v1414 : BitVec 32) : Prop :=
  (∀ (k0_h2 : k0_cond2 v1409 = 1#1), ∀ a, (k0_off8 v1414) a + S1x2048.size a ≤ S8192x2048.size a)
theorem k0_off8_inb : ∀ (v1409 : BitVec 32) (v1414 : BitVec 32) (k0_hw2 : k0_chk2 v1409 v1414), ∀ (k0_h2 : k0_cond2 v1409 = 1#1), ∀ a, (k0_off8 v1414) a + S1x2048.size a ≤ S8192x2048.size a := fun v1409 v1414 k0_hw2 k0_h2 => k0_hw2 k0_h2

def k0_dev1 (d0 : Dev nD) : Nat :=
  let c0_i32_19 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_18 : BitVec 32 := 4#32
  let v23 : BitVec 32 := Scalar.muli v17 c4_i32_18
  let v24 : BitVec 32 := Scalar.addi c0_i32_19 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v25 : BitVec 32 := Scalar.muli v5 c2_i32_20
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v27 : BitVec 32 := Scalar.muli v8 c1_i32_21
  let v28 : BitVec 32 := Scalar.addi v26 v27
  v28.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v29 : BitVec 32 := Scalar.muli v2 c4_i32_23
  let v30 : BitVec 32 := Scalar.addi c0_i32_24 v29
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_25 : BitVec 32 := 2#32
  let v31 : BitVec 32 := Scalar.muli v18 c2_i32_25
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v33 : BitVec 32 := Scalar.muli v8 c1_i32_26
  let v34 : BitVec 32 := Scalar.addi v32 v33
  v34.toNat
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v35 : BitVec 32 := Scalar.muli v2 c4_i32_28
  let v36 : BitVec 32 := Scalar.addi c0_i32_29 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v37 : BitVec 32 := Scalar.muli v5 c2_i32_30
  let v38 : BitVec 32 := Scalar.addi v36 v37
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_31 : BitVec 32 := 1#32
  let v39 : BitVec 32 := Scalar.muli v19 c1_i32_31
  let v40 : BitVec 32 := Scalar.addi v38 v39
  v40.toNat
@[reducible] def k0_t3_loop : Scf.Loop 32 :=
  let c0_i32_32 : BitVec 32 := 0#32
  let c128_i32_33 : BitVec 32 := 128#32
  let v41 : BitVec 32 := Scalar.addi c0_i32_32 c128_i32_33
  let c1_i32_34 : BitVec 32 := 1#32
  ⟨c0_i32_32, v41, c1_i32_34⟩
def k0_off9 (k0_t3 : Fin k0_t3_loop.trips) : Fin 1 → Nat :=
  let c256_i32_1253 : BitVec 32 := 256#32
  let c0_i32_32 : BitVec 32 := 0#32
  let c1_i32_34 : BitVec 32 := 1#32
  let arg22 : BitVec 32 := Scf.iv c0_i32_32 c1_i32_34 k0_t3
  let v1407 : BitVec 32 := Scalar.addi c256_i32_1253 arg22
  let v1408 : Index := Scalar.indexCast v1407
  ![v1408.toNat]
def k0_off10 (k0_t3 : Fin k0_t3_loop.trips) : Fin 1 → Nat :=
  let c256_i32_1253 : BitVec 32 := 256#32
  let c0_i32_32 : BitVec 32 := 0#32
  let c1_i32_34 : BitVec 32 := 1#32
  let arg22 : BitVec 32 := Scf.iv c0_i32_32 c1_i32_34 k0_t3
  let v1407 : BitVec 32 := Scalar.addi c256_i32_1253 arg22
  let v1413 : Index := Scalar.indexCast v1407
  ![v1413.toNat]
def k0_off11 (k0_t3 : Fin k0_t3_loop.trips) : Fin 2 → Nat :=
  let c256_i32_1253 : BitVec 32 := 256#32
  let c0_i32_32 : BitVec 32 := 0#32
  let c1_i32_34 : BitVec 32 := 1#32
  let arg22 : BitVec 32 := Scf.iv c0_i32_32 c1_i32_34 k0_t3
  let v1407 : BitVec 32 := Scalar.addi c256_i32_1253 arg22
  let c0_i32_1257 : BitVec 32 := 0#32
  ![v1407.toNat, 0]
def k0_off12 (v1414 : BitVec 32) : Fin 2 → Nat :=
  let c0_i32_1258 : BitVec 32 := 0#32
  ![v1414.toNat, 0]
def k0_cond3 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk3 (v1409 : BitVec 32) (v1414 : BitVec 32) : Prop :=
  (∀ (k0_h3 : k0_cond3 v1409 = 1#1), ∀ a, (k0_off12 v1414) a + S1x2048.size a ≤ S8192x2048.size a)
theorem k0_off12_inb : ∀ (v1409 : BitVec 32) (v1414 : BitVec 32) (k0_hw3 : k0_chk3 v1409 v1414), ∀ (k0_h3 : k0_cond3 v1409 = 1#1), ∀ a, (k0_off12 v1414) a + S1x2048.size a ≤ S8192x2048.size a := fun v1409 v1414 k0_hw3 k0_h3 => k0_hw3 k0_h3

@[reducible] def k0_t4_loop (v42 : BitVec 32) : Scf.Loop 32 :=
  let c0_i32_37 : BitVec 32 := 0#32
  let v43 : BitVec 32 := Scalar.subi v42 c0_i32_37
  let c1_i32_38 : BitVec 32 := 1#32
  let v45 : BitVec 32 := Scalar.divsi v43 c1_i32_38
  let v46 : BitVec 32 := Scalar.muli v45 c1_i32_38
  let v47 : BitVec 32 := Scalar.addi c0_i32_37 v46
  let c1_i32_39 : BitVec 32 := 1#32
  ⟨c0_i32_37, v47, c1_i32_39⟩

@[reducible] def k0_t5_loop (v42 : BitVec 32) : Scf.Loop 32 :=
  let c0_i32_37 : BitVec 32 := 0#32
  let v43 : BitVec 32 := Scalar.subi v42 c0_i32_37
  let c1_i32_38 : BitVec 32 := 1#32
  let v45 : BitVec 32 := Scalar.divsi v43 c1_i32_38
  let v46 : BitVec 32 := Scalar.muli v45 c1_i32_38
  let v47 : BitVec 32 := Scalar.addi c0_i32_37 v46
  let v44 : BitVec 32 := Scalar.addi c0_i32_37 v43
  let c1_i32_40 : BitVec 32 := 1#32
  ⟨v47, v44, c1_i32_40⟩

def k0_chk4 (v42 : BitVec 32) : Prop :=
  ((k0_t4_loop v42).OK) ∧
  ((k0_t5_loop v42).OK)
theorem k0_t4_ok : ∀ (v42 : BitVec 32) (k0_hw4 : k0_chk4 v42), (k0_t4_loop v42).OK := fun v42 k0_hw4 => k0_hw4.1
theorem k0_t5_ok : ∀ (v42 : BitVec 32) (k0_hw4 : k0_chk4 v42), (k0_t5_loop v42).OK := fun v42 k0_hw4 => k0_hw4.2

def k0_dev4 (d0 : Dev nD) : Nat :=
  let c0_i32_48 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_47 : BitVec 32 := 4#32
  let v53 : BitVec 32 := Scalar.muli v17 c4_i32_47
  let v54 : BitVec 32 := Scalar.addi c0_i32_48 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_49 : BitVec 32 := 2#32
  let v55 : BitVec 32 := Scalar.muli v5 c2_i32_49
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v57 : BitVec 32 := Scalar.muli v8 c1_i32_50
  let v58 : BitVec 32 := Scalar.addi v56 v57
  v58.toNat
@[reducible] def k0_t6_loop : Scf.Loop 32 :=
  let c0_i32_55 : BitVec 32 := 0#32
  let c128_i32_56 : BitVec 32 := 128#32
  let v65 : BitVec 32 := Scalar.addi c0_i32_55 c128_i32_56
  let c1_i32_57 : BitVec 32 := 1#32
  ⟨c0_i32_55, v65, c1_i32_57⟩
def k0_off13 (k0_t6 : Fin k0_t6_loop.trips) : Fin 1 → Nat :=
  let c384_i32_1253 : BitVec 32 := 384#32
  let c0_i32_55 : BitVec 32 := 0#32
  let c1_i32_57 : BitVec 32 := 1#32
  let arg22 : BitVec 32 := Scf.iv c0_i32_55 c1_i32_57 k0_t6
  let v1407 : BitVec 32 := Scalar.addi c384_i32_1253 arg22
  let v1408 : Index := Scalar.indexCast v1407
  ![v1408.toNat]
def k0_off14 (k0_t6 : Fin k0_t6_loop.trips) : Fin 1 → Nat :=
  let c384_i32_1253 : BitVec 32 := 384#32
  let c0_i32_55 : BitVec 32 := 0#32
  let c1_i32_57 : BitVec 32 := 1#32
  let arg22 : BitVec 32 := Scf.iv c0_i32_55 c1_i32_57 k0_t6
  let v1407 : BitVec 32 := Scalar.addi c384_i32_1253 arg22
  let v1413 : Index := Scalar.indexCast v1407
  ![v1413.toNat]
def k0_off15 (k0_t6 : Fin k0_t6_loop.trips) : Fin 2 → Nat :=
  let c384_i32_1253 : BitVec 32 := 384#32
  let c0_i32_55 : BitVec 32 := 0#32
  let c1_i32_57 : BitVec 32 := 1#32
  let arg22 : BitVec 32 := Scf.iv c0_i32_55 c1_i32_57 k0_t6
  let v1407 : BitVec 32 := Scalar.addi c384_i32_1253 arg22
  let c0_i32_1257 : BitVec 32 := 0#32
  ![v1407.toNat, 0]
def k0_off16 (v1414 : BitVec 32) : Fin 2 → Nat :=
  let c0_i32_1258 : BitVec 32 := 0#32
  ![v1414.toNat, 0]
def k0_cond4 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk5 (v1409 : BitVec 32) (v1414 : BitVec 32) : Prop :=
  (∀ (k0_h4 : k0_cond4 v1409 = 1#1), ∀ a, (k0_off16 v1414) a + S1x2048.size a ≤ S8192x2048.size a)
theorem k0_off16_inb : ∀ (v1409 : BitVec 32) (v1414 : BitVec 32) (k0_hw5 : k0_chk5 v1409 v1414), ∀ (k0_h4 : k0_cond4 v1409 = 1#1), ∀ a, (k0_off16 v1414) a + S1x2048.size a ≤ S8192x2048.size a := fun v1409 v1414 k0_hw5 k0_h4 => k0_hw5 k0_h4

@[reducible] def k0_t7_loop (v66 : BitVec 32) : Scf.Loop 32 :=
  let c0_i32_60 : BitVec 32 := 0#32
  let v67 : BitVec 32 := Scalar.subi v66 c0_i32_60
  let c1_i32_61 : BitVec 32 := 1#32
  let v69 : BitVec 32 := Scalar.divsi v67 c1_i32_61
  let v70 : BitVec 32 := Scalar.muli v69 c1_i32_61
  let v71 : BitVec 32 := Scalar.addi c0_i32_60 v70
  let c1_i32_62 : BitVec 32 := 1#32
  ⟨c0_i32_60, v71, c1_i32_62⟩

@[reducible] def k0_t8_loop (v66 : BitVec 32) : Scf.Loop 32 :=
  let c0_i32_60 : BitVec 32 := 0#32
  let v67 : BitVec 32 := Scalar.subi v66 c0_i32_60
  let c1_i32_61 : BitVec 32 := 1#32
  let v69 : BitVec 32 := Scalar.divsi v67 c1_i32_61
  let v70 : BitVec 32 := Scalar.muli v69 c1_i32_61
  let v71 : BitVec 32 := Scalar.addi c0_i32_60 v70
  let v68 : BitVec 32 := Scalar.addi c0_i32_60 v67
  let c1_i32_63 : BitVec 32 := 1#32
  ⟨v71, v68, c1_i32_63⟩

def k0_chk6 (v66 : BitVec 32) : Prop :=
  ((k0_t7_loop v66).OK) ∧
  ((k0_t8_loop v66).OK)
theorem k0_t7_ok : ∀ (v66 : BitVec 32) (k0_hw6 : k0_chk6 v66), (k0_t7_loop v66).OK := fun v66 k0_hw6 => k0_hw6.1
theorem k0_t8_ok : ∀ (v66 : BitVec 32) (k0_hw6 : k0_chk6 v66), (k0_t8_loop v66).OK := fun v66 k0_hw6 => k0_hw6.2

def k0_dev5 (d0 : Dev nD) : Nat :=
  let c0_i32_70 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_69 : BitVec 32 := 4#32
  let v77 : BitVec 32 := Scalar.muli v17 c4_i32_69
  let v78 : BitVec 32 := Scalar.addi c0_i32_70 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v79 : BitVec 32 := Scalar.muli v5 c2_i32_71
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v81 : BitVec 32 := Scalar.muli v8 c1_i32_72
  let v82 : BitVec 32 := Scalar.addi v80 v81
  v82.toNat
@[reducible] def k0_t9_loop : Scf.Loop 32 :=
  let c0_i32_77 : BitVec 32 := 0#32
  let c128_i32_78 : BitVec 32 := 128#32
  let v89 : BitVec 32 := Scalar.addi c0_i32_77 c128_i32_78
  let c1_i32_79 : BitVec 32 := 1#32
  ⟨c0_i32_77, v89, c1_i32_79⟩
def k0_off17 (k0_t9 : Fin k0_t9_loop.trips) : Fin 1 → Nat :=
  let c512_i32_1253 : BitVec 32 := 512#32
  let c0_i32_77 : BitVec 32 := 0#32
  let c1_i32_79 : BitVec 32 := 1#32
  let arg22 : BitVec 32 := Scf.iv c0_i32_77 c1_i32_79 k0_t9
  let v1407 : BitVec 32 := Scalar.addi c512_i32_1253 arg22
  let v1408 : Index := Scalar.indexCast v1407
  ![v1408.toNat]
def k0_off18 (k0_t9 : Fin k0_t9_loop.trips) : Fin 1 → Nat :=
  let c512_i32_1253 : BitVec 32 := 512#32
  let c0_i32_77 : BitVec 32 := 0#32
  let c1_i32_79 : BitVec 32 := 1#32
  let arg22 : BitVec 32 := Scf.iv c0_i32_77 c1_i32_79 k0_t9
  let v1407 : BitVec 32 := Scalar.addi c512_i32_1253 arg22
  let v1413 : Index := Scalar.indexCast v1407
  ![v1413.toNat]
def k0_off19 (k0_t9 : Fin k0_t9_loop.trips) : Fin 2 → Nat :=
  let c512_i32_1253 : BitVec 32 := 512#32
  let c0_i32_77 : BitVec 32 := 0#32
  let c1_i32_79 : BitVec 32 := 1#32
  let arg22 : BitVec 32 := Scf.iv c0_i32_77 c1_i32_79 k0_t9
  let v1407 : BitVec 32 := Scalar.addi c512_i32_1253 arg22
  let c0_i32_1257 : BitVec 32 := 0#32
  ![v1407.toNat, 0]
def k0_off20 (v1414 : BitVec 32) : Fin 2 → Nat :=
  let c0_i32_1258 : BitVec 32 := 0#32
  ![v1414.toNat, 0]
def k0_cond5 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk7 (v1409 : BitVec 32) (v1414 : BitVec 32) : Prop :=
  (∀ (k0_h5 : k0_cond5 v1409 = 1#1), ∀ a, (k0_off20 v1414) a + S1x2048.size a ≤ S8192x2048.size a)
theorem k0_off20_inb : ∀ (v1409 : BitVec 32) (v1414 : BitVec 32) (k0_hw7 : k0_chk7 v1409 v1414), ∀ (k0_h5 : k0_cond5 v1409 = 1#1), ∀ a, (k0_off20 v1414) a + S1x2048.size a ≤ S8192x2048.size a := fun v1409 v1414 k0_hw7 k0_h5 => k0_hw7 k0_h5

@[reducible] def k0_t10_loop (v90 : BitVec 32) : Scf.Loop 32 :=
  let c0_i32_82 : BitVec 32 := 0#32
  let v91 : BitVec 32 := Scalar.subi v90 c0_i32_82
  let c1_i32_83 : BitVec 32 := 1#32
  let v93 : BitVec 32 := Scalar.divsi v91 c1_i32_83
  let v94 : BitVec 32 := Scalar.muli v93 c1_i32_83
  let v95 : BitVec 32 := Scalar.addi c0_i32_82 v94
  let c1_i32_84 : BitVec 32 := 1#32
  ⟨c0_i32_82, v95, c1_i32_84⟩

@[reducible] def k0_t11_loop (v90 : BitVec 32) : Scf.Loop 32 :=
  let c0_i32_82 : BitVec 32 := 0#32
  let v91 : BitVec 32 := Scalar.subi v90 c0_i32_82
  let c1_i32_83 : BitVec 32 := 1#32
  let v93 : BitVec 32 := Scalar.divsi v91 c1_i32_83
  let v94 : BitVec 32 := Scalar.muli v93 c1_i32_83
  let v95 : BitVec 32 := Scalar.addi c0_i32_82 v94
  let v92 : BitVec 32 := Scalar.addi c0_i32_82 v91
  let c1_i32_85 : BitVec 32 := 1#32
  ⟨v95, v92, c1_i32_85⟩

def k0_chk8 (v90 : BitVec 32) : Prop :=
  ((k0_t10_loop v90).OK) ∧
  ((k0_t11_loop v90).OK)
theorem k0_t10_ok : ∀ (v90 : BitVec 32) (k0_hw8 : k0_chk8 v90), (k0_t10_loop v90).OK := fun v90 k0_hw8 => k0_hw8.1
theorem k0_t11_ok : ∀ (v90 : BitVec 32) (k0_hw8 : k0_chk8 v90), (k0_t11_loop v90).OK := fun v90 k0_hw8 => k0_hw8.2

def k0_dev6 (d0 : Dev nD) : Nat :=
  let c0_i32_92 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_91 : BitVec 32 := 4#32
  let v101 : BitVec 32 := Scalar.muli v17 c4_i32_91
  let v102 : BitVec 32 := Scalar.addi c0_i32_92 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v103 : BitVec 32 := Scalar.muli v5 c2_i32_93
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v105 : BitVec 32 := Scalar.muli v8 c1_i32_94
  let v106 : BitVec 32 := Scalar.addi v104 v105
  v106.toNat
@[reducible] def k0_t12_loop : Scf.Loop 32 :=
  let c0_i32_98 : BitVec 32 := 0#32
  let c128_i32_99 : BitVec 32 := 128#32
  let v113 : BitVec 32 := Scalar.addi c0_i32_98 c128_i32_99
  let c1_i32_100 : BitVec 32 := 1#32
  ⟨c0_i32_98, v113, c1_i32_100⟩
def k0_off21 (k0_t12 : Fin k0_t12_loop.trips) : Fin 1 → Nat :=
  let c640_i32_1253 : BitVec 32 := 640#32
  let c0_i32_98 : BitVec 32 := 0#32
  let c1_i32_100 : BitVec 32 := 1#32
  let arg22 : BitVec 32 := Scf.iv c0_i32_98 c1_i32_100 k0_t12
  let v1407 : BitVec 32 := Scalar.addi c640_i32_1253 arg22
  let v1408 : Index := Scalar.indexCast v1407
  ![v1408.toNat]
def k0_off22 (k0_t12 : Fin k0_t12_loop.trips) : Fin 1 → Nat :=
  let c640_i32_1253 : BitVec 32 := 640#32
  let c0_i32_98 : BitVec 32 := 0#32
  let c1_i32_100 : BitVec 32 := 1#32
  let arg22 : BitVec 32 := Scf.iv c0_i32_98 c1_i32_100 k0_t12
  let v1407 : BitVec 32 := Scalar.addi c640_i32_1253 arg22
  let v1413 : Index := Scalar.indexCast v1407
  ![v1413.toNat]
def k0_off23 (k0_t12 : Fin k0_t12_loop.trips) : Fin 2 → Nat :=
  let c640_i32_1253 : BitVec 32 := 640#32
  let c0_i32_98 : BitVec 32 := 0#32
  let c1_i32_100 : BitVec 32 := 1#32
  let arg22 : BitVec 32 := Scf.iv c0_i32_98 c1_i32_100 k0_t12
  let v1407 : BitVec 32 := Scalar.addi c640_i32_1253 arg22
  let c0_i32_1257 : BitVec 32 := 0#32
  ![v1407.toNat, 0]
def k0_off24 (v1414 : BitVec 32) : Fin 2 → Nat :=
  let c0_i32_1258 : BitVec 32 := 0#32
  ![v1414.toNat, 0]
def k0_cond6 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk9 (v1409 : BitVec 32) (v1414 : BitVec 32) : Prop :=
  (∀ (k0_h6 : k0_cond6 v1409 = 1#1), ∀ a, (k0_off24 v1414) a + S1x2048.size a ≤ S8192x2048.size a)
theorem k0_off24_inb : ∀ (v1409 : BitVec 32) (v1414 : BitVec 32) (k0_hw9 : k0_chk9 v1409 v1414), ∀ (k0_h6 : k0_cond6 v1409 = 1#1), ∀ a, (k0_off24 v1414) a + S1x2048.size a ≤ S8192x2048.size a := fun v1409 v1414 k0_hw9 k0_h6 => k0_hw9 k0_h6

@[reducible] def k0_t13_loop (v114 : BitVec 32) : Scf.Loop 32 :=
  let c0_i32_103 : BitVec 32 := 0#32
  let v115 : BitVec 32 := Scalar.subi v114 c0_i32_103
  let c1_i32_104 : BitVec 32 := 1#32
  let v117 : BitVec 32 := Scalar.divsi v115 c1_i32_104
  let v118 : BitVec 32 := Scalar.muli v117 c1_i32_104
  let v119 : BitVec 32 := Scalar.addi c0_i32_103 v118
  let c1_i32_105 : BitVec 32 := 1#32
  ⟨c0_i32_103, v119, c1_i32_105⟩

@[reducible] def k0_t14_loop (v114 : BitVec 32) : Scf.Loop 32 :=
  let c0_i32_103 : BitVec 32 := 0#32
  let v115 : BitVec 32 := Scalar.subi v114 c0_i32_103
  let c1_i32_104 : BitVec 32 := 1#32
  let v117 : BitVec 32 := Scalar.divsi v115 c1_i32_104
  let v118 : BitVec 32 := Scalar.muli v117 c1_i32_104
  let v119 : BitVec 32 := Scalar.addi c0_i32_103 v118
  let v116 : BitVec 32 := Scalar.addi c0_i32_103 v115
  let c1_i32_106 : BitVec 32 := 1#32
  ⟨v119, v116, c1_i32_106⟩

def k0_chk10 (v114 : BitVec 32) : Prop :=
  ((k0_t13_loop v114).OK) ∧
  ((k0_t14_loop v114).OK)
theorem k0_t13_ok : ∀ (v114 : BitVec 32) (k0_hw10 : k0_chk10 v114), (k0_t13_loop v114).OK := fun v114 k0_hw10 => k0_hw10.1
theorem k0_t14_ok : ∀ (v114 : BitVec 32) (k0_hw10 : k0_chk10 v114), (k0_t14_loop v114).OK := fun v114 k0_hw10 => k0_hw10.2

def k0_dev7 (d0 : Dev nD) : Nat :=
  let c0_i32_113 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_112 : BitVec 32 := 4#32
  let v125 : BitVec 32 := Scalar.muli v17 c4_i32_112
  let v126 : BitVec 32 := Scalar.addi c0_i32_113 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v127 : BitVec 32 := Scalar.muli v5 c2_i32_114
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v129 : BitVec 32 := Scalar.muli v8 c1_i32_115
  let v130 : BitVec 32 := Scalar.addi v128 v129
  v130.toNat
@[reducible] def k0_t15_loop : Scf.Loop 32 :=
  let c0_i32_119 : BitVec 32 := 0#32
  let c128_i32_120 : BitVec 32 := 128#32
  let v137 : BitVec 32 := Scalar.addi c0_i32_119 c128_i32_120
  let c1_i32_121 : BitVec 32 := 1#32
  ⟨c0_i32_119, v137, c1_i32_121⟩
def k0_off25 (k0_t15 : Fin k0_t15_loop.trips) : Fin 1 → Nat :=
  let c768_i32_1253 : BitVec 32 := 768#32
  let c0_i32_119 : BitVec 32 := 0#32
  let c1_i32_121 : BitVec 32 := 1#32
  let arg22 : BitVec 32 := Scf.iv c0_i32_119 c1_i32_121 k0_t15
  let v1407 : BitVec 32 := Scalar.addi c768_i32_1253 arg22
  let v1408 : Index := Scalar.indexCast v1407
  ![v1408.toNat]
def k0_off26 (k0_t15 : Fin k0_t15_loop.trips) : Fin 1 → Nat :=
  let c768_i32_1253 : BitVec 32 := 768#32
  let c0_i32_119 : BitVec 32 := 0#32
  let c1_i32_121 : BitVec 32 := 1#32
  let arg22 : BitVec 32 := Scf.iv c0_i32_119 c1_i32_121 k0_t15
  let v1407 : BitVec 32 := Scalar.addi c768_i32_1253 arg22
  let v1413 : Index := Scalar.indexCast v1407
  ![v1413.toNat]
def k0_off27 (k0_t15 : Fin k0_t15_loop.trips) : Fin 2 → Nat :=
  let c768_i32_1253 : BitVec 32 := 768#32
  let c0_i32_119 : BitVec 32 := 0#32
  let c1_i32_121 : BitVec 32 := 1#32
  let arg22 : BitVec 32 := Scf.iv c0_i32_119 c1_i32_121 k0_t15
  let v1407 : BitVec 32 := Scalar.addi c768_i32_1253 arg22
  let c0_i32_1257 : BitVec 32 := 0#32
  ![v1407.toNat, 0]
def k0_off28 (v1414 : BitVec 32) : Fin 2 → Nat :=
  let c0_i32_1258 : BitVec 32 := 0#32
  ![v1414.toNat, 0]
def k0_cond7 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk11 (v1409 : BitVec 32) (v1414 : BitVec 32) : Prop :=
  (∀ (k0_h7 : k0_cond7 v1409 = 1#1), ∀ a, (k0_off28 v1414) a + S1x2048.size a ≤ S8192x2048.size a)
theorem k0_off28_inb : ∀ (v1409 : BitVec 32) (v1414 : BitVec 32) (k0_hw11 : k0_chk11 v1409 v1414), ∀ (k0_h7 : k0_cond7 v1409 = 1#1), ∀ a, (k0_off28 v1414) a + S1x2048.size a ≤ S8192x2048.size a := fun v1409 v1414 k0_hw11 k0_h7 => k0_hw11 k0_h7

@[reducible] def k0_t16_loop (v138 : BitVec 32) : Scf.Loop 32 :=
  let c0_i32_124 : BitVec 32 := 0#32
  let v139 : BitVec 32 := Scalar.subi v138 c0_i32_124
  let c1_i32_125 : BitVec 32 := 1#32
  let v141 : BitVec 32 := Scalar.divsi v139 c1_i32_125
  let v142 : BitVec 32 := Scalar.muli v141 c1_i32_125
  let v143 : BitVec 32 := Scalar.addi c0_i32_124 v142
  let c1_i32_126 : BitVec 32 := 1#32
  ⟨c0_i32_124, v143, c1_i32_126⟩

@[reducible] def k0_t17_loop (v138 : BitVec 32) : Scf.Loop 32 :=
  let c0_i32_124 : BitVec 32 := 0#32
  let v139 : BitVec 32 := Scalar.subi v138 c0_i32_124
  let c1_i32_125 : BitVec 32 := 1#32
  let v141 : BitVec 32 := Scalar.divsi v139 c1_i32_125
  let v142 : BitVec 32 := Scalar.muli v141 c1_i32_125
  let v143 : BitVec 32 := Scalar.addi c0_i32_124 v142
  let v140 : BitVec 32 := Scalar.addi c0_i32_124 v139
  let c1_i32_127 : BitVec 32 := 1#32
  ⟨v143, v140, c1_i32_127⟩

def k0_chk12 (v138 : BitVec 32) : Prop :=
  ((k0_t16_loop v138).OK) ∧
  ((k0_t17_loop v138).OK)
theorem k0_t16_ok : ∀ (v138 : BitVec 32) (k0_hw12 : k0_chk12 v138), (k0_t16_loop v138).OK := fun v138 k0_hw12 => k0_hw12.1
theorem k0_t17_ok : ∀ (v138 : BitVec 32) (k0_hw12 : k0_chk12 v138), (k0_t17_loop v138).OK := fun v138 k0_hw12 => k0_hw12.2

def k0_dev8 (d0 : Dev nD) : Nat :=
  let c0_i32_134 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_133 : BitVec 32 := 4#32
  let v149 : BitVec 32 := Scalar.muli v17 c4_i32_133
  let v150 : BitVec 32 := Scalar.addi c0_i32_134 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v151 : BitVec 32 := Scalar.muli v5 c2_i32_135
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v153 : BitVec 32 := Scalar.muli v8 c1_i32_136
  let v154 : BitVec 32 := Scalar.addi v152 v153
  v154.toNat
@[reducible] def k0_t18_loop : Scf.Loop 32 :=
  let c0_i32_140 : BitVec 32 := 0#32
  let c128_i32_141 : BitVec 32 := 128#32
  let v161 : BitVec 32 := Scalar.addi c0_i32_140 c128_i32_141
  let c1_i32_142 : BitVec 32 := 1#32
  ⟨c0_i32_140, v161, c1_i32_142⟩
def k0_off29 (k0_t18 : Fin k0_t18_loop.trips) : Fin 1 → Nat :=
  let c896_i32_1253 : BitVec 32 := 896#32
  let c0_i32_140 : BitVec 32 := 0#32
  let c1_i32_142 : BitVec 32 := 1#32
  let arg22 : BitVec 32 := Scf.iv c0_i32_140 c1_i32_142 k0_t18
  let v1407 : BitVec 32 := Scalar.addi c896_i32_1253 arg22
  let v1408 : Index := Scalar.indexCast v1407
  ![v1408.toNat]
def k0_off30 (k0_t18 : Fin k0_t18_loop.trips) : Fin 1 → Nat :=
  let c896_i32_1253 : BitVec 32 := 896#32
  let c0_i32_140 : BitVec 32 := 0#32
  let c1_i32_142 : BitVec 32 := 1#32
  let arg22 : BitVec 32 := Scf.iv c0_i32_140 c1_i32_142 k0_t18
  let v1407 : BitVec 32 := Scalar.addi c896_i32_1253 arg22
  let v1413 : Index := Scalar.indexCast v1407
  ![v1413.toNat]
def k0_off31 (k0_t18 : Fin k0_t18_loop.trips) : Fin 2 → Nat :=
  let c896_i32_1253 : BitVec 32 := 896#32
  let c0_i32_140 : BitVec 32 := 0#32
  let c1_i32_142 : BitVec 32 := 1#32
  let arg22 : BitVec 32 := Scf.iv c0_i32_140 c1_i32_142 k0_t18
  let v1407 : BitVec 32 := Scalar.addi c896_i32_1253 arg22
  let c0_i32_1257 : BitVec 32 := 0#32
  ![v1407.toNat, 0]
def k0_off32 (v1414 : BitVec 32) : Fin 2 → Nat :=
  let c0_i32_1258 : BitVec 32 := 0#32
  ![v1414.toNat, 0]
def k0_cond8 (v1409 : BitVec 32) : BitVec 1 :=
  let c1_i32_1254 : BitVec 32 := 1#32
  let v1410 : BitVec 1 := Scalar.cmpi .eq v1409 c1_i32_1254
  let v1411 : BitVec 32 := Scalar.extui v1410
  let c0_i32_1255 : BitVec 32 := 0#32
  let v1412 : BitVec 1 := Scalar.cmpi .ne v1411 c0_i32_1255
  v1412

def k0_chk13 (v1409 : BitVec 32) (v1414 : BitVec 32) : Prop :=
  (∀ (k0_h8 : k0_cond8 v1409 = 1#1), ∀ a, (k0_off32 v1414) a + S1x2048.size a ≤ S8192x2048.size a)
theorem k0_off32_inb : ∀ (v1409 : BitVec 32) (v1414 : BitVec 32) (k0_hw13 : k0_chk13 v1409 v1414), ∀ (k0_h8 : k0_cond8 v1409 = 1#1), ∀ a, (k0_off32 v1414) a + S1x2048.size a ≤ S8192x2048.size a := fun v1409 v1414 k0_hw13 k0_h8 => k0_hw13 k0_h8

@[reducible] def k0_t19_loop (v162 : BitVec 32) : Scf.Loop 32 :=
  let c0_i32_145 : BitVec 32 := 0#32
  let v163 : BitVec 32 := Scalar.subi v162 c0_i32_145
  let c1_i32_146 : BitVec 32 := 1#32
  let v165 : BitVec 32 := Scalar.divsi v163 c1_i32_146
  let v166 : BitVec 32 := Scalar.muli v165 c1_i32_146
  let v167 : BitVec 32 := Scalar.addi c0_i32_145 v166
  let c1_i32_147 : BitVec 32 := 1#32
  ⟨c0_i32_145, v167, c1_i32_147⟩

@[reducible] def k0_t20_loop (v162 : BitVec 32) : Scf.Loop 32 :=
  let c0_i32_145 : BitVec 32 := 0#32
  let v163 : BitVec 32 := Scalar.subi v162 c0_i32_145
  let c1_i32_146 : BitVec 32 := 1#32
  let v165 : BitVec 32 := Scalar.divsi v163 c1_i32_146
  let v166 : BitVec 32 := Scalar.muli v165 c1_i32_146
  let v167 : BitVec 32 := Scalar.addi c0_i32_145 v166
  let v164 : BitVec 32 := Scalar.addi c0_i32_145 v163
  let c1_i32_148 : BitVec 32 := 1#32
  ⟨v167, v164, c1_i32_148⟩

def k0_chk14 (v162 : BitVec 32) : Prop :=
  ((k0_t19_loop v162).OK) ∧
  ((k0_t20_loop v162).OK)
theorem k0_t19_ok : ∀ (v162 : BitVec 32) (k0_hw14 : k0_chk14 v162), (k0_t19_loop v162).OK := fun v162 k0_hw14 => k0_hw14.1
theorem k0_t20_ok : ∀ (v162 : BitVec 32) (k0_hw14 : k0_chk14 v162), (k0_t20_loop v162).OK := fun v162 k0_hw14 => k0_hw14.2

def k0_dev9 (d0 : Dev nD) : Nat :=
  let c0_i32_154 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_153 : BitVec 32 := 4#32
  let v173 : BitVec 32 := Scalar.muli v17 c4_i32_153
  let v174 : BitVec 32 := Scalar.addi c0_i32_154 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v175 : BitVec 32 := Scalar.muli v5 c2_i32_155
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v177 : BitVec 32 := Scalar.muli v8 c1_i32_156
  let v178 : BitVec 32 := Scalar.addi v176 v177
  v178.toNat
@[reducible] def k0_t21_loop (v185 : BitVec 32) : Scf.Loop 32 :=
  let c0_i32_161 : BitVec 32 := 0#32
  let v186 : BitVec 32 := Scalar.subi v185 c0_i32_161
  let c1_i32_162 : BitVec 32 := 1#32
  let v188 : BitVec 32 := Scalar.divsi v186 c1_i32_162
  let v189 : BitVec 32 := Scalar.muli v188 c1_i32_162
  let v190 : BitVec 32 := Scalar.addi c0_i32_161 v189
  let c1_i32_163 : BitVec 32 := 1#32
  ⟨c0_i32_161, v190, c1_i32_163⟩

@[reducible] def k0_t22_loop (v185 : BitVec 32) : Scf.Loop 32 :=
  let c0_i32_161 : BitVec 32 := 0#32
  let v186 : BitVec 32 := Scalar.subi v185 c0_i32_161
  let c1_i32_162 : BitVec 32 := 1#32
  let v188 : BitVec 32 := Scalar.divsi v186 c1_i32_162
  let v189 : BitVec 32 := Scalar.muli v188 c1_i32_162
  let v190 : BitVec 32 := Scalar.addi c0_i32_161 v189
  let v187 : BitVec 32 := Scalar.addi c0_i32_161 v186
  let c1_i32_164 : BitVec 32 := 1#32
  ⟨v190, v187, c1_i32_164⟩

def k0_chk15 (v185 : BitVec 32) : Prop :=
  ((k0_t21_loop v185).OK) ∧
  ((k0_t22_loop v185).OK)
theorem k0_t21_ok : ∀ (v185 : BitVec 32) (k0_hw15 : k0_chk15 v185), (k0_t21_loop v185).OK := fun v185 k0_hw15 => k0_hw15.1
theorem k0_t22_ok : ∀ (v185 : BitVec 32) (k0_hw15 : k0_chk15 v185), (k0_t22_loop v185).OK := fun v185 k0_hw15 => k0_hw15.2

def k0_dev10 (d0 : Dev nD) : Nat :=
  let c0_i32_170 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_169 : BitVec 32 := 4#32
  let v196 : BitVec 32 := Scalar.muli v17 c4_i32_169
  let v197 : BitVec 32 := Scalar.addi c0_i32_170 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v198 : BitVec 32 := Scalar.muli v5 c2_i32_171
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_172 : BitVec 32 := 1#32
  let v200 : BitVec 32 := Scalar.muli v8 c1_i32_172
  let v201 : BitVec 32 := Scalar.addi v199 v200
  v201.toNat
@[reducible] def k0_t23_loop (v208 : BitVec 32) : Scf.Loop 32 :=
  let c0_i32_177 : BitVec 32 := 0#32
  let v209 : BitVec 32 := Scalar.subi v208 c0_i32_177
  let c1_i32_178 : BitVec 32 := 1#32
  let v211 : BitVec 32 := Scalar.divsi v209 c1_i32_178
  let v212 : BitVec 32 := Scalar.muli v211 c1_i32_178
  let v213 : BitVec 32 := Scalar.addi c0_i32_177 v212
  let c1_i32_179 : BitVec 32 := 1#32
  ⟨c0_i32_177, v213, c1_i32_179⟩

@[reducible] def k0_t24_loop (v208 : BitVec 32) : Scf.Loop 32 :=
  let c0_i32_177 : BitVec 32 := 0#32
  let v209 : BitVec 32 := Scalar.subi v208 c0_i32_177
  let c1_i32_178 : BitVec 32 := 1#32
  let v211 : BitVec 32 := Scalar.divsi v209 c1_i32_178
  let v212 : BitVec 32 := Scalar.muli v211 c1_i32_178
  let v213 : BitVec 32 := Scalar.addi c0_i32_177 v212
  let v210 : BitVec 32 := Scalar.addi c0_i32_177 v209
  let c1_i32_180 : BitVec 32 := 1#32
  ⟨v213, v210, c1_i32_180⟩

def k0_chk16 (v208 : BitVec 32) : Prop :=
  ((k0_t23_loop v208).OK) ∧
  ((k0_t24_loop v208).OK)
theorem k0_t23_ok : ∀ (v208 : BitVec 32) (k0_hw16 : k0_chk16 v208), (k0_t23_loop v208).OK := fun v208 k0_hw16 => k0_hw16.1
theorem k0_t24_ok : ∀ (v208 : BitVec 32) (k0_hw16 : k0_chk16 v208), (k0_t24_loop v208).OK := fun v208 k0_hw16 => k0_hw16.2

def k0_dev11 (d0 : Dev nD) : Nat :=
  let c0_i32_186 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_185 : BitVec 32 := 4#32
  let v219 : BitVec 32 := Scalar.muli v17 c4_i32_185
  let v220 : BitVec 32 := Scalar.addi c0_i32_186 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v221 : BitVec 32 := Scalar.muli v5 c2_i32_187
  let v222 : BitVec 32 := Scalar.addi v220 v221
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_188 : BitVec 32 := 1#32
  let v223 : BitVec 32 := Scalar.muli v8 c1_i32_188
  let v224 : BitVec 32 := Scalar.addi v222 v223
  v224.toNat
def k0_off33 (d0 : Dev nD) (c0_i32_215 : BitVec 32) : Fin 2 → Nat :=
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v254 : BitVec 32 := Scalar.muli v10 c1024_i32
  let v255 : BitVec 32 := Scalar.addi v254 c0_i32_215
  let c0_i32_219 : BitVec 32 := 0#32
  ![v255.toNat, 0]
def k0_dev12 (d0 : Dev nD) : Nat :=
  let c0_i32_225 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_224 : BitVec 32 := 4#32
  let v263 : BitVec 32 := Scalar.muli v2 c4_i32_224
  let v264 : BitVec 32 := Scalar.addi c0_i32_225 v263
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_226 : BitVec 32 := 2#32
  let v265 : BitVec 32 := Scalar.muli v18 c2_i32_226
  let v266 : BitVec 32 := Scalar.addi v264 v265
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v267 : BitVec 32 := Scalar.muli v8 c1_i32_227
  let v268 : BitVec 32 := Scalar.addi v266 v267
  v268.toNat
def k0_dev13 (d0 : Dev nD) : Nat :=
  let c0_i32_234 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_233 : BitVec 32 := 4#32
  let v275 : BitVec 32 := Scalar.muli v2 c4_i32_233
  let v276 : BitVec 32 := Scalar.addi c0_i32_234 v275
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v277 : BitVec 32 := Scalar.muli v5 c2_i32_235
  let v278 : BitVec 32 := Scalar.addi v276 v277
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_236 : BitVec 32 := 1#32
  let v279 : BitVec 32 := Scalar.muli v19 c1_i32_236
  let v280 : BitVec 32 := Scalar.addi v278 v279
  v280.toNat
def k0_dev14 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v319 : BitVec 32 := Scalar.muli v2 c4_i32_274
  let v320 : BitVec 32 := Scalar.addi c0_i32_275 v319
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_276 : BitVec 32 := 2#32
  let v321 : BitVec 32 := Scalar.muli v18 c2_i32_276
  let v322 : BitVec 32 := Scalar.addi v320 v321
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_277 : BitVec 32 := 1#32
  let v323 : BitVec 32 := Scalar.muli v8 c1_i32_277
  let v324 : BitVec 32 := Scalar.addi v322 v323
  v324.toNat
def k0_dev15 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_283 : BitVec 32 := 4#32
  let v331 : BitVec 32 := Scalar.muli v2 c4_i32_283
  let v332 : BitVec 32 := Scalar.addi c0_i32_284 v331
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_285 : BitVec 32 := 2#32
  let v333 : BitVec 32 := Scalar.muli v5 c2_i32_285
  let v334 : BitVec 32 := Scalar.addi v332 v333
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_286 : BitVec 32 := 1#32
  let v335 : BitVec 32 := Scalar.muli v19 c1_i32_286
  let v336 : BitVec 32 := Scalar.addi v334 v335
  v336.toNat
def k0_off34 (d0 : Dev nD) (c0_i32_306 : BitVec 32) : Fin 2 → Nat :=
  let c2_i32_5 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_4 v5
  let v12 : BitVec 32 := Scalar.muli c2_i32_5 v11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_305 : BitVec 32 := 1024#32
  let v357 : BitVec 32 := Scalar.muli v13 c1024_i32_305
  let v358 : BitVec 32 := Scalar.addi v357 c0_i32_306
  let c0_i32_313 : BitVec 32 := 0#32
  ![v358.toNat, 0]
def k0_dev16 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_309 : BitVec 32 := 4#32
  let v359 : BitVec 32 := Scalar.muli v2 c4_i32_309
  let v360 : BitVec 32 := Scalar.addi c0_i32_310 v359
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_311 : BitVec 32 := 2#32
  let v361 : BitVec 32 := Scalar.muli v5 c2_i32_311
  let v362 : BitVec 32 := Scalar.addi v360 v361
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_312 : BitVec 32 := 1#32
  let v363 : BitVec 32 := Scalar.muli v19 c1_i32_312
  let v364 : BitVec 32 := Scalar.addi v362 v363
  v364.toNat
def k0_off35 (d0 : Dev nD) (c0_i32_331 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_6 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let v16 : BitVec 32 := Scalar.addi v14 v15
  let c1024_i32_330 : BitVec 32 := 1024#32
  let v385 : BitVec 32 := Scalar.muli v16 c1024_i32_330
  let v386 : BitVec 32 := Scalar.addi v385 c0_i32_331
  let c64_i32 : BitVec 32 := 64#32
  let v387 : BitVec 32 := Scalar.addi v386 c64_i32
  let c0_i32_338 : BitVec 32 := 0#32
  ![v387.toNat, 0]
def k0_dev17 (d0 : Dev nD) : Nat :=
  let c0_i32_335 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_334 : BitVec 32 := 4#32
  let v388 : BitVec 32 := Scalar.muli v2 c4_i32_334
  let v389 : BitVec 32 := Scalar.addi c0_i32_335 v388
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_336 : BitVec 32 := 2#32
  let v390 : BitVec 32 := Scalar.muli v18 c2_i32_336
  let v391 : BitVec 32 := Scalar.addi v389 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_337 : BitVec 32 := 1#32
  let v392 : BitVec 32 := Scalar.muli v8 c1_i32_337
  let v393 : BitVec 32 := Scalar.addi v391 v392
  v393.toNat
def k0_dev18 (d0 : Dev nD) : Nat :=
  let c0_i32_375 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_374 : BitVec 32 := 4#32
  let v432 : BitVec 32 := Scalar.muli v2 c4_i32_374
  let v433 : BitVec 32 := Scalar.addi c0_i32_375 v432
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_376 : BitVec 32 := 2#32
  let v434 : BitVec 32 := Scalar.muli v18 c2_i32_376
  let v435 : BitVec 32 := Scalar.addi v433 v434
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_377 : BitVec 32 := 1#32
  let v436 : BitVec 32 := Scalar.muli v8 c1_i32_377
  let v437 : BitVec 32 := Scalar.addi v435 v436
  v437.toNat
def k0_dev19 (d0 : Dev nD) : Nat :=
  let c0_i32_384 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_383 : BitVec 32 := 4#32
  let v444 : BitVec 32 := Scalar.muli v2 c4_i32_383
  let v445 : BitVec 32 := Scalar.addi c0_i32_384 v444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_385 : BitVec 32 := 2#32
  let v446 : BitVec 32 := Scalar.muli v5 c2_i32_385
  let v447 : BitVec 32 := Scalar.addi v445 v446
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_386 : BitVec 32 := 1#32
  let v448 : BitVec 32 := Scalar.muli v19 c1_i32_386
  let v449 : BitVec 32 := Scalar.addi v447 v448
  v449.toNat
def k0_dev20 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v472 : BitVec 32 := Scalar.muli v2 c4_i32_409
  let v473 : BitVec 32 := Scalar.addi c0_i32_410 v472
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v474 : BitVec 32 := Scalar.muli v5 c2_i32_411
  let v475 : BitVec 32 := Scalar.addi v473 v474
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_412 : BitVec 32 := 1#32
  let v476 : BitVec 32 := Scalar.muli v19 c1_i32_412
  let v477 : BitVec 32 := Scalar.addi v475 v476
  v477.toNat
def k0_dev21 (d0 : Dev nD) : Nat :=
  let c0_i32_436 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_435 : BitVec 32 := 4#32
  let v501 : BitVec 32 := Scalar.muli v2 c4_i32_435
  let v502 : BitVec 32 := Scalar.addi c0_i32_436 v501
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_437 : BitVec 32 := 2#32
  let v503 : BitVec 32 := Scalar.muli v18 c2_i32_437
  let v504 : BitVec 32 := Scalar.addi v502 v503
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v505 : BitVec 32 := Scalar.muli v8 c1_i32_438
  let v506 : BitVec 32 := Scalar.addi v504 v505
  v506.toNat
def k0_dev22 (d0 : Dev nD) : Nat :=
  let c0_i32_476 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_475 : BitVec 32 := 4#32
  let v545 : BitVec 32 := Scalar.muli v2 c4_i32_475
  let v546 : BitVec 32 := Scalar.addi c0_i32_476 v545
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_477 : BitVec 32 := 2#32
  let v547 : BitVec 32 := Scalar.muli v18 c2_i32_477
  let v548 : BitVec 32 := Scalar.addi v546 v547
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v549 : BitVec 32 := Scalar.muli v8 c1_i32_478
  let v550 : BitVec 32 := Scalar.addi v548 v549
  v550.toNat
def k0_dev23 (d0 : Dev nD) : Nat :=
  let c0_i32_485 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_484 : BitVec 32 := 4#32
  let v557 : BitVec 32 := Scalar.muli v2 c4_i32_484
  let v558 : BitVec 32 := Scalar.addi c0_i32_485 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_486 : BitVec 32 := 2#32
  let v559 : BitVec 32 := Scalar.muli v5 c2_i32_486
  let v560 : BitVec 32 := Scalar.addi v558 v559
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_487 : BitVec 32 := 1#32
  let v561 : BitVec 32 := Scalar.muli v19 c1_i32_487
  let v562 : BitVec 32 := Scalar.addi v560 v561
  v562.toNat
def k0_dev24 (d0 : Dev nD) : Nat :=
  let c0_i32_511 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_510 : BitVec 32 := 4#32
  let v585 : BitVec 32 := Scalar.muli v2 c4_i32_510
  let v586 : BitVec 32 := Scalar.addi c0_i32_511 v585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_512 : BitVec 32 := 2#32
  let v587 : BitVec 32 := Scalar.muli v5 c2_i32_512
  let v588 : BitVec 32 := Scalar.addi v586 v587
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_513 : BitVec 32 := 1#32
  let v589 : BitVec 32 := Scalar.muli v19 c1_i32_513
  let v590 : BitVec 32 := Scalar.addi v588 v589
  v590.toNat
def k0_dev25 (d0 : Dev nD) : Nat :=
  let c0_i32_537 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_536 : BitVec 32 := 4#32
  let v614 : BitVec 32 := Scalar.muli v2 c4_i32_536
  let v615 : BitVec 32 := Scalar.addi c0_i32_537 v614
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_538 : BitVec 32 := 2#32
  let v616 : BitVec 32 := Scalar.muli v18 c2_i32_538
  let v617 : BitVec 32 := Scalar.addi v615 v616
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_539 : BitVec 32 := 1#32
  let v618 : BitVec 32 := Scalar.muli v8 c1_i32_539
  let v619 : BitVec 32 := Scalar.addi v617 v618
  v619.toNat
def k0_dev26 (d0 : Dev nD) : Nat :=
  let c0_i32_577 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_576 : BitVec 32 := 4#32
  let v658 : BitVec 32 := Scalar.muli v2 c4_i32_576
  let v659 : BitVec 32 := Scalar.addi c0_i32_577 v658
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_578 : BitVec 32 := 2#32
  let v660 : BitVec 32 := Scalar.muli v18 c2_i32_578
  let v661 : BitVec 32 := Scalar.addi v659 v660
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_579 : BitVec 32 := 1#32
  let v662 : BitVec 32 := Scalar.muli v8 c1_i32_579
  let v663 : BitVec 32 := Scalar.addi v661 v662
  v663.toNat
def k0_dev27 (d0 : Dev nD) : Nat :=
  let c0_i32_586 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_585 : BitVec 32 := 4#32
  let v670 : BitVec 32 := Scalar.muli v2 c4_i32_585
  let v671 : BitVec 32 := Scalar.addi c0_i32_586 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_587 : BitVec 32 := 2#32
  let v672 : BitVec 32 := Scalar.muli v5 c2_i32_587
  let v673 : BitVec 32 := Scalar.addi v671 v672
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_588 : BitVec 32 := 1#32
  let v674 : BitVec 32 := Scalar.muli v19 c1_i32_588
  let v675 : BitVec 32 := Scalar.addi v673 v674
  v675.toNat
def k0_dev28 (d0 : Dev nD) : Nat :=
  let c0_i32_612 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_611 : BitVec 32 := 4#32
  let v698 : BitVec 32 := Scalar.muli v2 c4_i32_611
  let v699 : BitVec 32 := Scalar.addi c0_i32_612 v698
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_613 : BitVec 32 := 2#32
  let v700 : BitVec 32 := Scalar.muli v5 c2_i32_613
  let v701 : BitVec 32 := Scalar.addi v699 v700
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_614 : BitVec 32 := 1#32
  let v702 : BitVec 32 := Scalar.muli v19 c1_i32_614
  let v703 : BitVec 32 := Scalar.addi v701 v702
  v703.toNat
def k0_dev29 (d0 : Dev nD) : Nat :=
  let c0_i32_638 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_637 : BitVec 32 := 4#32
  let v727 : BitVec 32 := Scalar.muli v2 c4_i32_637
  let v728 : BitVec 32 := Scalar.addi c0_i32_638 v727
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_639 : BitVec 32 := 2#32
  let v729 : BitVec 32 := Scalar.muli v18 c2_i32_639
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_640 : BitVec 32 := 1#32
  let v731 : BitVec 32 := Scalar.muli v8 c1_i32_640
  let v732 : BitVec 32 := Scalar.addi v730 v731
  v732.toNat
def k0_dev30 (d0 : Dev nD) : Nat :=
  let c0_i32_678 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_677 : BitVec 32 := 4#32
  let v771 : BitVec 32 := Scalar.muli v2 c4_i32_677
  let v772 : BitVec 32 := Scalar.addi c0_i32_678 v771
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_679 : BitVec 32 := 2#32
  let v773 : BitVec 32 := Scalar.muli v18 c2_i32_679
  let v774 : BitVec 32 := Scalar.addi v772 v773
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_680 : BitVec 32 := 1#32
  let v775 : BitVec 32 := Scalar.muli v8 c1_i32_680
  let v776 : BitVec 32 := Scalar.addi v774 v775
  v776.toNat
def k0_dev31 (d0 : Dev nD) : Nat :=
  let c0_i32_687 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_686 : BitVec 32 := 4#32
  let v783 : BitVec 32 := Scalar.muli v2 c4_i32_686
  let v784 : BitVec 32 := Scalar.addi c0_i32_687 v783
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_688 : BitVec 32 := 2#32
  let v785 : BitVec 32 := Scalar.muli v5 c2_i32_688
  let v786 : BitVec 32 := Scalar.addi v784 v785
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_689 : BitVec 32 := 1#32
  let v787 : BitVec 32 := Scalar.muli v19 c1_i32_689
  let v788 : BitVec 32 := Scalar.addi v786 v787
  v788.toNat
def k0_dev32 (d0 : Dev nD) : Nat :=
  let c0_i32_713 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_712 : BitVec 32 := 4#32
  let v811 : BitVec 32 := Scalar.muli v2 c4_i32_712
  let v812 : BitVec 32 := Scalar.addi c0_i32_713 v811
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_714 : BitVec 32 := 2#32
  let v813 : BitVec 32 := Scalar.muli v5 c2_i32_714
  let v814 : BitVec 32 := Scalar.addi v812 v813
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_715 : BitVec 32 := 1#32
  let v815 : BitVec 32 := Scalar.muli v19 c1_i32_715
  let v816 : BitVec 32 := Scalar.addi v814 v815
  v816.toNat
def k0_dev33 (d0 : Dev nD) : Nat :=
  let c0_i32_739 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_738 : BitVec 32 := 4#32
  let v840 : BitVec 32 := Scalar.muli v2 c4_i32_738
  let v841 : BitVec 32 := Scalar.addi c0_i32_739 v840
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_740 : BitVec 32 := 2#32
  let v842 : BitVec 32 := Scalar.muli v18 c2_i32_740
  let v843 : BitVec 32 := Scalar.addi v841 v842
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_741 : BitVec 32 := 1#32
  let v844 : BitVec 32 := Scalar.muli v8 c1_i32_741
  let v845 : BitVec 32 := Scalar.addi v843 v844
  v845.toNat
def k0_dev34 (d0 : Dev nD) : Nat :=
  let c0_i32_779 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_778 : BitVec 32 := 4#32
  let v884 : BitVec 32 := Scalar.muli v2 c4_i32_778
  let v885 : BitVec 32 := Scalar.addi c0_i32_779 v884
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_780 : BitVec 32 := 2#32
  let v886 : BitVec 32 := Scalar.muli v18 c2_i32_780
  let v887 : BitVec 32 := Scalar.addi v885 v886
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_781 : BitVec 32 := 1#32
  let v888 : BitVec 32 := Scalar.muli v8 c1_i32_781
  let v889 : BitVec 32 := Scalar.addi v887 v888
  v889.toNat
def k0_dev35 (d0 : Dev nD) : Nat :=
  let c0_i32_788 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_787 : BitVec 32 := 4#32
  let v896 : BitVec 32 := Scalar.muli v2 c4_i32_787
  let v897 : BitVec 32 := Scalar.addi c0_i32_788 v896
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_789 : BitVec 32 := 2#32
  let v898 : BitVec 32 := Scalar.muli v5 c2_i32_789
  let v899 : BitVec 32 := Scalar.addi v897 v898
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_790 : BitVec 32 := 1#32
  let v900 : BitVec 32 := Scalar.muli v19 c1_i32_790
  let v901 : BitVec 32 := Scalar.addi v899 v900
  v901.toNat
def k0_dev36 (d0 : Dev nD) : Nat :=
  let c0_i32_814 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_813 : BitVec 32 := 4#32
  let v924 : BitVec 32 := Scalar.muli v2 c4_i32_813
  let v925 : BitVec 32 := Scalar.addi c0_i32_814 v924
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_815 : BitVec 32 := 2#32
  let v926 : BitVec 32 := Scalar.muli v5 c2_i32_815
  let v927 : BitVec 32 := Scalar.addi v925 v926
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_816 : BitVec 32 := 1#32
  let v928 : BitVec 32 := Scalar.muli v19 c1_i32_816
  let v929 : BitVec 32 := Scalar.addi v927 v928
  v929.toNat
def k0_dev37 (d0 : Dev nD) : Nat :=
  let c0_i32_840 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_839 : BitVec 32 := 4#32
  let v953 : BitVec 32 := Scalar.muli v2 c4_i32_839
  let v954 : BitVec 32 := Scalar.addi c0_i32_840 v953
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_841 : BitVec 32 := 2#32
  let v955 : BitVec 32 := Scalar.muli v18 c2_i32_841
  let v956 : BitVec 32 := Scalar.addi v954 v955
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_842 : BitVec 32 := 1#32
  let v957 : BitVec 32 := Scalar.muli v8 c1_i32_842
  let v958 : BitVec 32 := Scalar.addi v956 v957
  v958.toNat
def k0_dev38 (d0 : Dev nD) : Nat :=
  let c0_i32_880 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_879 : BitVec 32 := 4#32
  let v997 : BitVec 32 := Scalar.muli v2 c4_i32_879
  let v998 : BitVec 32 := Scalar.addi c0_i32_880 v997
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_881 : BitVec 32 := 2#32
  let v999 : BitVec 32 := Scalar.muli v18 c2_i32_881
  let v1000 : BitVec 32 := Scalar.addi v998 v999
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_882 : BitVec 32 := 1#32
  let v1001 : BitVec 32 := Scalar.muli v8 c1_i32_882
  let v1002 : BitVec 32 := Scalar.addi v1000 v1001
  v1002.toNat
def k0_dev39 (d0 : Dev nD) : Nat :=
  let c0_i32_889 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_888 : BitVec 32 := 4#32
  let v1009 : BitVec 32 := Scalar.muli v2 c4_i32_888
  let v1010 : BitVec 32 := Scalar.addi c0_i32_889 v1009
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_890 : BitVec 32 := 2#32
  let v1011 : BitVec 32 := Scalar.muli v5 c2_i32_890
  let v1012 : BitVec 32 := Scalar.addi v1010 v1011
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_891 : BitVec 32 := 1#32
  let v1013 : BitVec 32 := Scalar.muli v19 c1_i32_891
  let v1014 : BitVec 32 := Scalar.addi v1012 v1013
  v1014.toNat
def k0_dev40 (d0 : Dev nD) : Nat :=
  let c0_i32_915 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_914 : BitVec 32 := 4#32
  let v1037 : BitVec 32 := Scalar.muli v2 c4_i32_914
  let v1038 : BitVec 32 := Scalar.addi c0_i32_915 v1037
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_916 : BitVec 32 := 2#32
  let v1039 : BitVec 32 := Scalar.muli v5 c2_i32_916
  let v1040 : BitVec 32 := Scalar.addi v1038 v1039
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_917 : BitVec 32 := 1#32
  let v1041 : BitVec 32 := Scalar.muli v19 c1_i32_917
  let v1042 : BitVec 32 := Scalar.addi v1040 v1041
  v1042.toNat
def k0_dev41 (d0 : Dev nD) : Nat :=
  let c0_i32_941 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_940 : BitVec 32 := 4#32
  let v1066 : BitVec 32 := Scalar.muli v2 c4_i32_940
  let v1067 : BitVec 32 := Scalar.addi c0_i32_941 v1066
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_942 : BitVec 32 := 2#32
  let v1068 : BitVec 32 := Scalar.muli v18 c2_i32_942
  let v1069 : BitVec 32 := Scalar.addi v1067 v1068
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_943 : BitVec 32 := 1#32
  let v1070 : BitVec 32 := Scalar.muli v8 c1_i32_943
  let v1071 : BitVec 32 := Scalar.addi v1069 v1070
  v1071.toNat
def k0_dev42 (d0 : Dev nD) : Nat :=
  let c0_i32_966 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_965 : BitVec 32 := 4#32
  let v1094 : BitVec 32 := Scalar.muli v2 c4_i32_965
  let v1095 : BitVec 32 := Scalar.addi c0_i32_966 v1094
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_967 : BitVec 32 := 2#32
  let v1096 : BitVec 32 := Scalar.muli v5 c2_i32_967
  let v1097 : BitVec 32 := Scalar.addi v1095 v1096
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.subi c1_i32_10 v8
  let c1_i32_968 : BitVec 32 := 1#32
  let v1098 : BitVec 32 := Scalar.muli v19 c1_i32_968
  let v1099 : BitVec 32 := Scalar.addi v1097 v1098
  v1099.toNat
def k0_dev43 (d0 : Dev nD) : Nat :=
  let c0_i32_992 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_991 : BitVec 32 := 4#32
  let v1123 : BitVec 32 := Scalar.muli v2 c4_i32_991
  let v1124 : BitVec 32 := Scalar.addi c0_i32_992 v1123
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_9 v5
  let c2_i32_993 : BitVec 32 := 2#32
  let v1125 : BitVec 32 := Scalar.muli v18 c2_i32_993
  let v1126 : BitVec 32 := Scalar.addi v1124 v1125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_994 : BitVec 32 := 1#32
  let v1127 : BitVec 32 := Scalar.muli v8 c1_i32_994
  let v1128 : BitVec 32 := Scalar.addi v1126 v1127
  v1128.toNat
abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S8 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096 : Shape := ⟨1, ![4096]⟩
abbrev S16384x2048 : Shape := ⟨2, ![16384, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096, .i32⟩
  | .hbm, ⟨1, _⟩ => ⟨S16384x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | .hbm, ⟨11, _⟩ => ⟨S4096x2048, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Steps.lean ====
/- The kernel's body as a sequence of steps, each a function of the chunk it works on. -/
module

public import proofs.«01_k».proof.Proof.Gen.KernelIdeal.Skeleton

@[expose] public section

set_option maxRecDepth 16384
set_option synthInstance.maxSize 4096

noncomputable section

namespace Cert.KernelIdeal.Steps

open Idealize.ShloMosaic Idealize.SL.Sem Cert.KernelIdeal Cert.KernelIdeal.Gen

/-! ## The buffers and semaphores the body is called with -/

abbrev lidsM : Memref sig .tc .smem S1024 .i32 := Memref.whole cc0_stg0_0
abbrev ownM : Memref sig .tc .smem S1024 .i32 := Memref.whole cc0_stg1_0
abbrev cntM : Memref sig .tc .smem S8 .i32 := Memref.whole cc0_stg2_0
abbrev maskM : Memref sig .tc .vmem S1024x1 .bf16 := Memref.whole cc0_stg3_0
abbrev tabM : Memref sig .tc .hbm S8192x2048 .f32 := Memref.whole main_arg1
abbrev outM : Memref sig .tc .hbm S4096x2048 .bf16 := Memref.whole main_v34
abbrev gathM : Memref sig .tc .vmem S1024x2048 .f32 := Memref.whole cc0_scratch0
abbrev partM : Memref sig .tc .vmem S1024x2048 .bf16 := Memref.whole cc0_scratch1
abbrev recvM : Memref sig .tc .vmem S1024x2048 .bf16 := Memref.whole cc0_scratch2
abbrev redM : Memref sig .tc .vmem S1024x2048 .bf16 := Memref.whole cc0_scratch3

/-- Entry `k` of an array of eight semaphores lies in it. -/
theorem sem_inb (k : Fin 8) : ∀ a, (![k.val] : Fin 1 → Nat) a + S1.size a ≤ S8.size a := by
  revert k; decide

/-- Entry `k` of an array of eight semaphores. -/
abbrev semAt (A : DmaSems sig S8) (k : Fin 8) : DmaSem sig :=
  ((A.slice (Rect.unit (s := S8) ![k.val] S1.size (sem_inb k))).squeeze S_ squeezes_S1_S_).sem

/-- Chunk `k`'s 128 rows lie in a 1024-row buffer. -/
theorem ch_inb (k : Fin 8) : ∀ a, (![128 * k.val, 0] : Fin 2 → Nat) a + S128x2048.size a ≤ S1024x2048.size a := by
  revert k; decide

/-- Chunk `k`'s 128 entries lie in the mask column. -/
theorem chm_inb (k : Fin 8) : ∀ a, (![128 * k.val, 0] : Fin 2 → Nat) a + S128x1.size a ≤ S1024x1.size a := by
  revert k; decide

/-- Chunk `k`'s rectangle of a 1024-row buffer. -/
abbrev chR (k : Fin 8) : Rect S1024x2048 := Rect.unit (s := S1024x2048) ![128 * k.val, 0] S128x2048.size (ch_inb k)

/-- Chunk `k`'s rectangle of the mask column. -/
abbrev chmR (k : Fin 8) : Rect S1024x1 := Rect.unit (s := S1024x1) ![128 * k.val, 0] S128x1.size (chm_inb k)

theorem ch_packed (k : Fin 8) : (chR k).PackedRows (EltTy.packing .bf16) := by
  fin_cases k
  · exact packedbf16_S1024x2048_S128x2048_0_0
  · exact packedbf16_S1024x2048_S128x2048_128_0
  · exact packedbf16_S1024x2048_S128x2048_256_0
  · exact packedbf16_S1024x2048_S128x2048_384_0
  · exact packedbf16_S1024x2048_S128x2048_512_0
  · exact packedbf16_S1024x2048_S128x2048_640_0
  · exact packedbf16_S1024x2048_S128x2048_768_0
  · exact packedbf16_S1024x2048_S128x2048_896_0

theorem ch_words (k : Fin 8) : (chR k).WholeWords (EltTy.packing .bf16) := by
  fin_cases k
  · exact wordsbf16_S1024x2048_S128x2048_0_0
  · exact wordsbf16_S1024x2048_S128x2048_128_0
  · exact wordsbf16_S1024x2048_S128x2048_256_0
  · exact wordsbf16_S1024x2048_S128x2048_384_0
  · exact wordsbf16_S1024x2048_S128x2048_512_0
  · exact wordsbf16_S1024x2048_S128x2048_640_0
  · exact wordsbf16_S1024x2048_S128x2048_768_0
  · exact wordsbf16_S1024x2048_S128x2048_896_0

/-- Chunk `k` of a 1024-row buffer. -/
abbrev ch (M : Memref sig .tc .vmem S1024x2048 .bf16) (k : Fin 8) : Memref sig .tc .vmem S128x2048 .bf16 :=
  M.slice (chR k) (fun _ => rfl)

/-- The word of the row offset of chunk `k`. -/
abbrev chW (k : Fin 8) : BitVec 32 := BitVec.ofNat 32 (128 * k.val)

/-- Device `d`'s own rows of the result that chunk `k` fills. -/
abbrev outOwn (d : Dev nD) (k : Fin 8) : Memref sig .tc .hbm S128x2048 .bf16 :=
  outM.slice (Rect.unit (s := S4096x2048) (k0_off33 d (chW k)) S128x2048.size (k0_off33_inb d k)) (fun _ => rfl)

/-- The first half of the `y` neighbour's chunk `k` in the result. -/
abbrev outY (d : Dev nD) (k : Fin 8) : Memref sig .tc .hbm S64x2048 .bf16 :=
  outM.slice (Rect.unit (s := S4096x2048) (k0_off34 d (chW k)) S64x2048.size (k0_off34_inb d k)) (fun _ => rfl)

/-- The second half of the `z` neighbour's chunk `k` in the result. -/
abbrev outZ (d : Dev nD) (k : Fin 8) : Memref sig .tc .hbm S64x2048 .bf16 :=
  outM.slice (Rect.unit (s := S4096x2048) (k0_off35 d (chW k)) S64x2048.size (k0_off35_inb d k)) (fun _ => rfl)

/-- The neighbours along the three axes. -/
abbrev xp (d : Dev nD) : Dev nD := ⟨k0_dev1 d, k0_dev1_lt d⟩
abbrev yp (d : Dev nD) : Dev nD := ⟨k0_dev2 d, k0_dev2_lt d⟩
abbrev zp (d : Dev nD) : Dev nD := ⟨k0_dev3 d, k0_dev3_lt d⟩

/-- The barrier's semaphore. -/
abbrev barS : Sem sig := (SemArray.scalar (sig.barrier 0 rfl) : Sems sig S_).sem

/-! ## The gather -/

/-- The gather loop of one chunk: 128 trips. -/
abbrev gLoop : Scf.Loop 32 := k0_t1_loop

/-- The token trip `t` of chunk `k` looks at, as a word. -/
abbrev tokW (k : Fin 8) (t : Fin gLoop.trips) : BitVec 32 :=
  Scalar.addi (chW k) (Scf.iv 0#32 1#32 t)

theorem gTrips : gLoop.trips = 128 := by decide +kernel

theorem tokW_val (k : Fin 8) (t : Fin gLoop.trips) : (tokW k t).toNat = 128 * k.val + t.val := by
  have ht : t.val < 128 := gTrips ▸ t.isLt
  have hk := k.isLt
  simp only [tokW, chW, Scalar.addi, IntOp.addi, Scf.iv, BitVec.toNat_add, BitVec.toNat_ofNat, BitVec.toNat_mul]
  omega

/-- The offset of trip `t`'s entry in a 1024-entry table. -/
abbrev tok1 (k : Fin 8) (t : Fin gLoop.trips) : Fin 1 → Nat := ![(Scalar.indexCast (tokW k t)).toNat]

/-- The offset of trip `t`'s row. -/
abbrev tok2 (k : Fin 8) (t : Fin gLoop.trips) : Fin 2 → Nat := ![(tokW k t).toNat, 0]

theorem tok1_inb (k : Fin 8) (t : Fin gLoop.trips) : ∀ a, tok1 k t a + S1.size a ≤ S1024.size a := by
  have ht : t.val < 128 := gTrips ▸ t.isLt
  have h := tokW_val k t
  have hk := k.isLt
  intro a
  match a with
  | ⟨0, _⟩ =>
    show (Scalar.indexCast (tokW k t)).toNat + 1 ≤ 1024
    have h2 : (Scalar.indexCast (tokW k t)).toNat = 128 * k.val + t.val := by
      rw [← h]; rfl
    omega

theorem tok2_inb (k : Fin 8) (t : Fin gLoop.trips) : ∀ a, tok2 k t a + S1x2048.size a ≤ S1024x2048.size a := by
  have ht : t.val < 128 := gTrips ▸ t.isLt
  have h := tokW_val k t
  have hk := k.isLt
  intro a
  match a with
  | ⟨0, _⟩ =>
    show (tokW k t).toNat + 1 ≤ 1024
    omega
  | ⟨1, _⟩ => exact Nat.le_refl _

variable {F : FTy → Type} [FloatOps F]

/-- The programs of a TensorCore of this certificate. -/
abbrev PR (α : Type _) := Prog (TpuEff nD τ sig (Elt F) Λ₀ .tc) α

/-- One trip of the gather: a row whose id this device owns is fetched from the table. -/
def gTrip (k : Fin 8) (t : Fin gLoop.trips) (_ : Unit) : PR (F := F) Unit := do
  let v : Elt F .i32 ← smemLoad ownM (Rect.unit (s := S1024) (tok1 k t) S1.size (tok1_inb k t)) numel1_S1 rfl
  if h : k0_cond1 v = 1#1 then do
    let w : Elt F .i32 ← smemLoad lidsM (Rect.unit (s := S1024) (tok1 k t) S1.size (tok1_inb k t)) numel1_S1 rfl
    have hw : k0_chk1 v w := (← Prog.lift (TpuEff.assume (k0_chk1 v w) (k0_chk1.dec v w))).down
    Prog.lift (.enqueueDma (tabM.slice (Rect.unit (s := S8192x2048) (k0_off4 w) S1x2048.size (k0_off4_inb v w hw h)) (fun _ => rfl))
      (.here (gathM.slice (Rect.unit (s := S1024x2048) (tok2 k t) S1x2048.size (tok2_inb k t)) (fun _ => rfl)))
      (.dma (semAt cc0_scratch4 k)) (View.wordExact_bits rfl) (View.wordExact_bits rfl) ⟨Or.inl rfl, trivial⟩)
    pure ⟨⟩
  else do
    pure ⟨⟩
  pure ⟨⟩

/-- Chunk `k`'s gather is issued. -/
def gIssue (k : Fin 8) : PR (F := F) Unit := Scf.Loop.for gLoop k0_t1_ok ⟨⟩ (gTrip k)

/-- One trip of a drain: a wait the size of a row. -/
def gWait (k : Fin 8) {n : Nat} (_ : Fin n) (_ : Unit) : PR (F := F) Unit := do
  Prog.lift (.waitDma2 (semAt cc0_scratch4 k)
    (tabM.slice (Rect.unit (s := S8192x2048) ![0, 0] S1x2048.size inb_S8192x2048_S1x2048_0_0) (fun _ => rfl))
    (gathM.slice (Rect.unit (s := S1024x2048) ![0, 0] S1x2048.size inb_S1024x2048_S1x2048_0_0) (fun _ => rfl))
    (View.wordExact_bits rfl) (View.wordExact_bits rfl))
  pure ⟨⟩

/-- Chunk `k`'s gather is waited for: as many waits as the chunk's count says. -/
def gDrain (k : Fin 8) : PR (F := F) Unit := do
  let v : Elt F .i32 ← smemLoad cntM (Rect.unit (s := S8) ![k.val] S1.size (sem_inb k)) numel1_S1 rfl
  have hw : k0_chk4 v := (← Prog.lift (TpuEff.assume (k0_chk4 v) (k0_chk4.dec v))).down
  Scf.Loop.for (k0_t4_loop v) (k0_t4_ok v hw) ⟨⟩ (gWait k)
  Scf.Loop.for (k0_t5_loop v) (k0_t5_ok v hw) ⟨⟩ (gWait k)

/-- The gathered chunk `k` is rounded into the send buffer. -/
def cast (k : Fin 8) : PR (F := F) Unit := do
  let v : Vec F S128x2048 .f32 ← Prog.lift (.load gathM (chR k).toLoadRect (View.loadsAt_vmem h_S128x2048))
  let _ : Vec F S128x2048 .bf16 ← Prog.lift (.load partM (chR k).toLoadRect (View.loadsAt_vmem h_S128x2048))
  Prog.lift (.store partM (chR k) (k0_pay1 v) Finset.univ
    (View.stores_vmem h_S128x2048 (Memref.isWhole_whole _ |>.storeExact_slice rfl _ (ch_packed k)) (fun _ => rfl)) (.inl rfl))

theorem chw (M : Ref sig .tc) : (Memref.whole M).IsWhole := Memref.isWhole_whole _

/-- Chunk `k` of the send buffer goes to the `x` neighbour. -/
def sendA (d : Dev nD) (k : Fin 8) : PR (F := F) Unit :=
  Prog.lift (.enqueueDma (ch partM k) (.remote (Dev.tc (xp d)) (ch recvM k) (.dma (semAt cc0_scratch6 k)))
    (.dma (semAt cc0_scratch7 k)) ((chw _).wordExact_slice rfl _ (ch_words k)) ((chw _).wordExact_slice rfl _ (ch_words k))
    ⟨⟨rfl, Or.inl rfl⟩, trivial⟩)

/-- The exchange of chunk `k` with the `x` neighbour is waited for, both ways. -/
def waitA (k : Fin 8) : PR (F := F) Unit := do
  Prog.lift (.waitDma2 (semAt cc0_scratch6 k) (ch recvM k) (ch partM k)
    ((chw _).wordExact_slice rfl _ (ch_words k)) ((chw _).wordExact_slice rfl _ (ch_words k)))
  Prog.lift (.waitDma2 (semAt cc0_scratch7 k) (ch partM k) (ch recvM k)
    ((chw _).wordExact_slice rfl _ (ch_words k)) ((chw _).wordExact_slice rfl _ (ch_words k)))

/-- The rows this device owns and the rows it received are combined into chunk `k` of the reduced buffer. -/
def reduce (k : Fin 8) : PR (F := F) Unit := do
  let m : Vec F S128x1 .bf16 ← Prog.lift (.load maskM (chmR k).toLoadRect (View.loadsAt_vmem h_S128x1))
  let p : Vec F S128x2048 .bf16 ← Prog.lift (.load partM (chR k).toLoadRect (View.loadsAt_vmem h_S128x2048))
  let r : Vec F S128x2048 .bf16 ← Prog.lift (.load recvM (chR k).toLoadRect (View.loadsAt_vmem h_S128x2048))
  let _ : Vec F S128x2048 .bf16 ← Prog.lift (.load redM (chR k).toLoadRect (View.loadsAt_vmem h_S128x2048))
  Prog.lift (.store redM (chR k) (k0_pay10 m p r) Finset.univ
    (View.stores_vmem h_S128x2048 ((chw _).storeExact_slice rfl _ (ch_packed k)) (fun _ => rfl)) (.inl rfl))

/-- Chunk `k` of the reduced buffer goes into the device's own result. -/
def copyOut (d : Dev nD) (k : Fin 8) : PR (F := F) Unit :=
  Prog.lift (.enqueueDma (ch redM k) (.here (outOwn d k)) (.dma (semAt cc0_scratch5 k))
    ((chw _).wordExact_slice rfl _ (ch_words k)) ((chw _).wordExact_slice rfl _ (k0_off33_wordsbf16 d k)) ⟨Or.inl rfl, trivial⟩)

/-- Chunk `k` of the reduced buffer goes into the result of the `y` neighbour. -/
def sendB (d : Dev nD) (k : Fin 8) : PR (F := F) Unit :=
  Prog.lift (.enqueueDma (ch redM k) (.remote (Dev.tc (yp d)) (outOwn d k) (.dma (semAt cc0_scratch8 k)))
    (.dma (semAt cc0_scratch9 k)) ((chw _).wordExact_slice rfl _ (ch_words k)) ((chw _).wordExact_slice rfl _ (k0_off33_wordsbf16 d k))
    ⟨⟨rfl, Or.inl rfl⟩, trivial⟩)

/-- Chunk `k` of the reduced buffer goes into the result of the `z` neighbour. -/
def sendC (d : Dev nD) (k : Fin 8) : PR (F := F) Unit :=
  Prog.lift (.enqueueDma (ch redM k) (.remote (Dev.tc (zp d)) (outOwn d k) (.dma (semAt cc0_scratch10 k)))
    (.dma (semAt cc0_scratch11 k)) ((chw _).wordExact_slice rfl _ (ch_words k)) ((chw _).wordExact_slice rfl _ (k0_off33_wordsbf16 d k))
    ⟨⟨rfl, Or.inl rfl⟩, trivial⟩)

/-- The exchange of chunk `k` with the `y` neighbour is waited for. -/
def waitB (d : Dev nD) (k : Fin 8) : PR (F := F) Unit := do
  Prog.lift (.waitDma2 (semAt cc0_scratch8 k) (outOwn d k) (ch redM k)
    ((chw _).wordExact_slice rfl _ (k0_off33_wordsbf16 d k)) ((chw _).wordExact_slice rfl _ (ch_words k)))
  Prog.lift (.waitDma2 (semAt cc0_scratch9 k) (ch redM k) (outOwn d k)
    ((chw _).wordExact_slice rfl _ (ch_words k)) ((chw _).wordExact_slice rfl _ (k0_off33_wordsbf16 d k)))

/-- The exchange of chunk `k` with the `z` neighbour is waited for. -/
def waitC (d : Dev nD) (k : Fin 8) : PR (F := F) Unit := do
  Prog.lift (.waitDma2 (semAt cc0_scratch10 k) (outOwn d k) (ch redM k)
    ((chw _).wordExact_slice rfl _ (k0_off33_wordsbf16 d k)) ((chw _).wordExact_slice rfl _ (ch_words k)))
  Prog.lift (.waitDma2 (semAt cc0_scratch11 k) (ch redM k) (outOwn d k)
    ((chw _).wordExact_slice rfl _ (ch_words k)) ((chw _).wordExact_slice rfl _ (k0_off33_wordsbf16 d k)))

/-- The first half of what came from the `y` neighbour is passed on to the `z` neighbour. -/
def sendC2 (d : Dev nD) (k : Fin 8) : PR (F := F) Unit :=
  Prog.lift (.enqueueDma (outY d k) (.remote (Dev.tc (zp d)) (outY d k) (.dma (semAt cc0_scratch12 k)))
    (.dma (semAt cc0_scratch13 k)) ((chw _).wordExact_slice rfl _ (k0_off34_wordsbf16 d k)) ((chw _).wordExact_slice rfl _ (k0_off34_wordsbf16 d k))
    ⟨⟨rfl, Or.inl rfl⟩, trivial⟩)

/-- The second half of what came from the `z` neighbour is passed on to the `y` neighbour. -/
def sendD (d : Dev nD) (k : Fin 8) : PR (F := F) Unit :=
  Prog.lift (.enqueueDma (outZ d k) (.remote (Dev.tc (yp d)) (outZ d k) (.dma (semAt cc0_scratch14 k)))
    (.dma (semAt cc0_scratch15 k)) ((chw _).wordExact_slice rfl _ (k0_off35_wordsbf16 d k)) ((chw _).wordExact_slice rfl _ (k0_off35_wordsbf16 d k))
    ⟨⟨rfl, Or.inl rfl⟩, trivial⟩)

/-- The two exchanges of chunk `j` are waited for and each half passed on. -/
def forward (d : Dev nD) (j : Fin 8) : PR (F := F) Unit := do
  waitB d j
  sendC2 d j
  waitC d j
  sendD d j

/-- Everything of chunk `k` still in flight is waited for. -/
def finish (d : Dev nD) (k : Fin 8) : PR (F := F) Unit := do
  Prog.lift (.waitDma2 (semAt cc0_scratch12 k) (outY d k) (outY d k)
    ((chw _).wordExact_slice rfl _ (k0_off34_wordsbf16 d k)) ((chw _).wordExact_slice rfl _ (k0_off34_wordsbf16 d k)))
  Prog.lift (.waitDma2 (semAt cc0_scratch13 k) (outY d k) (outY d k)
    ((chw _).wordExact_slice rfl _ (k0_off34_wordsbf16 d k)) ((chw _).wordExact_slice rfl _ (k0_off34_wordsbf16 d k)))
  Prog.lift (.waitDma2 (semAt cc0_scratch14 k) (outZ d k) (outZ d k)
    ((chw _).wordExact_slice rfl _ (k0_off35_wordsbf16 d k)) ((chw _).wordExact_slice rfl _ (k0_off35_wordsbf16 d k)))
  Prog.lift (.waitDma2 (semAt cc0_scratch15 k) (outZ d k) (outZ d k)
    ((chw _).wordExact_slice rfl _ (k0_off35_wordsbf16 d k)) ((chw _).wordExact_slice rfl _ (k0_off35_wordsbf16 d k)))
  Prog.lift (.waitDma2 (semAt cc0_scratch5 k) (ch redM k) (outOwn d k)
    ((chw _).wordExact_slice rfl _ (ch_words k)) ((chw _).wordExact_slice rfl _ (k0_off33_wordsbf16 d k)))

/-- The first use of chunk `k`: drained, rounded, sent. -/
def first (d : Dev nD) (k : Fin 8) : PR (F := F) Unit := do
  gDrain k
  cast k
  sendA d k

/-- The second use of chunk `k`: received, combined, copied out three ways. -/
def second (d : Dev nD) (k : Fin 8) : PR (F := F) Unit := do
  waitA k
  reduce k
  copyOut d k
  sendB d k
  sendC d k

/-- The three neighbours are told this device is ready, and waited for. -/
def meet (d : Dev nD) : PR (F := F) Unit := do
  semSignalWord (xp d) barS 1#32
  semSignalWord (yp d) barS 1#32
  semSignalWord (zp d) barS 1#32
  semWaitWord barS 3#32

/-- The part of the body in which chunks are gathered and sent to the `x` neighbour. -/
def phase1 (d : Dev nD) : PR (F := F) Unit := do
  gIssue 0
  gIssue 1
  meet d
  gIssue 2; first d 0
  gIssue 3; first d 1
  gIssue 4; first d 2
  gIssue 5; first d 3
  gIssue 6; first d 4
  gIssue 7; first d 5
  first d 6
  first d 7

/-- The part of the body in which combined chunks go round the `y` and `z` neighbours. -/
def phase2 (d : Dev nD) : PR (F := F) Unit := do
  second d 0
  second d 1; forward d 0
  second d 2; forward d 1
  second d 3; forward d 2
  second d 4; forward d 3
  second d 5; forward d 4
  second d 6; forward d 5
  second d 7; forward d 6
  forward d 7

/-- The part of the body in which what is in flight is waited for. -/
def phase3 (d : Dev nD) : PR (F := F) Unit := do
  finish d 0
  finish d 1
  finish d 2
  finish d 3
  finish d 4
  finish d 5
  finish d 6
  finish d 7

/-- The body, step by step. -/
def body : PR (F := F) Unit := do
  let d : Dev nD ← Prog.lift .deviceId
  phase1 d
  phase2 d
  phase3 d

end Cert.KernelIdeal.Steps
-- ==== Proof.Pieces.lean ====
/- The resource algebra of the run, what a device is called with, and pieces of buffers held at values of which only
   a property is known. -/
module

public import proofs.«01_k».proof.Proof.Steps
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Batch
public import Idealize.ShloMosaic.Lib.Tactic

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

/-! ## The algebra: the pipeline's copy, the exchange cells' rounds, the local transfers' counters -/

abbrev UB : Type := URounds (GSem nD τ sig) (Fin 3)
abbrev UU : Type := UR sig nD τ × (UB × Counters)

variable {F : FTy → Type}

/-- The assertions of the run. -/
local notation "𝕄" => MT nD τ sig Unit (Elt F) ℕ UU ℕ

abbrev EP : Emb (UR sig nD τ) (MT nD τ sig Unit (Elt F) ℕ UU ℕ) := embL

/-- The rounds of the exchange cells: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance ER_landsIn : (ER (F := F)).LandsIn (upEmb : UEmb _ 𝕄) := by unfold ER; infer_instance

/-- The counters of the local transfers: the right half of the right factor. -/
abbrev EC : UEmb Counters (MT nD τ sig Unit (Elt F) ℕ UU ℕ) := countersEmb

abbrev 𝒱₀ : Variants := Variants.none

/-! ## What the devices are called with -/

/-- What each device's call reads: the rows of its own table to fetch, which of its tokens it owns, how many of those each
    chunk has, the mask column, the table. -/
structure In (F : FTy → Type) where
  lids : Dev nD → S1024.Idx → Elt F .i32
  own : Dev nD → S1024.Idx → Elt F .i32
  cnt : Dev nD → S8.Idx → Elt F .i32
  mask : Dev nD → S1024x1.Idx → Elt F .bf16
  tab : Dev nD → S8192x2048.Idx → Elt F .f32

section Values

variable [FloatOps F] (I : In F)

/-- The gathered entry at `i`: a row of the table where the token is owned, anything where it is not. -/
def GathV (c : Dev nD) (i : S1024x2048.Idx) (v : Elt F .f32) : Prop :=
  ∀ t : S1024.Idx, (t 0).val = (i 0).val → I.own c t = 1#32 →
    ∀ j : S8192x2048.Idx, (j 0).val = (I.lids c t : BitVec 32).toNat → (j 1).val = (i 1).val → v = I.tab c j

/-- The sent entry at `i`: a gathered entry, rounded. -/
def PartV (c : Dev nD) (i : S1024x2048.Idx) (p : Elt F .bf16) : Prop :=
  ∃ v : Elt F .f32, GathV I c i v ∧ p = FloatOps.truncf (F := F) (φ := .f32) .bf16 bitsLt_bf16_f32 v

/-- The combined entry at `i`: the device's own where the mask is not zero, the `x` neighbour's where it is. -/
def RedV (c : Dev nD) (i : S1024x2048.Idx) (v : Elt F .bf16) : Prop :=
  ∃ p r : Elt F .bf16, PartV I c i p ∧ PartV I (xp c) i r ∧
    ∀ u : S1024x1.Idx, (u 0).val = (i 0).val →
      v = (if FloatOps.cmpf (F := F) .one (I.mask c u : F .bf16) (Scalar.ofBits .bf16 0x0000#16) = 1#1 then p else r)

/-- The result's entry at `i` on every device with `c`'s `x`: the combined entry of the device whose quarter has the row. -/
def OutV (c : Dev nD) (i : S4096x2048.Idx) (v : Elt F .bf16) : Prop :=
  ∀ (d : Dev nD) (j : S1024x2048.Idx), d.val / 4 = c.val / 4 →
    (i 0).val = 1024 * (d.val % 4) + (j 0).val → (i 1).val = (j 1).val → RedV I d j v

end Values

/-! ## Pieces -/

section Pieces

/-- Elements `S` of a buffer at share `q`, at values with `P`. -/
def held (ℓ : Loc nD τ sig) (S : Finset (Idx ℓ)) (q : PosShare TreeShare) (P : Idx ℓ → Elt F ℓ.ty.elt → Prop) : sProp 𝕄 :=
  iprop(∃ f : Buf (Elt F) ℓ, ⌜∀ i ∈ S, P i (f i)⌝ ∗ (ℓ ↦[S]{q} f))

instance held_storable (ℓ : Loc nD τ sig) (S : Finset (Idx ℓ)) (q : PosShare TreeShare) (P : Idx ℓ → Elt F ℓ.ty.elt → Prop) :
    Storable (upEmb : UEmb _ 𝕄) (held ℓ S q P) := by unfold held; infer_instance

theorem held_intro {ℓ : Loc nD τ sig} {S : Finset (Idx ℓ)} {q : PosShare TreeShare} {P : Idx ℓ → Elt F ℓ.ty.elt → Prop}
    {f : Buf (Elt F) ℓ} (h : ∀ i ∈ S, P i (f i)) : (ℓ ↦[S]{q} f : sProp 𝕄) ⊢ held ℓ S q P := by
  unfold held
  iintro H; iexists f; isplitr
  · ipureintro; exact h
  · iexact H

theorem held_mono {ℓ : Loc nD τ sig} {S : Finset (Idx ℓ)} {q : PosShare TreeShare} {P P' : Idx ℓ → Elt F ℓ.ty.elt → Prop}
    (h : ∀ i ∈ S, ∀ v, P i v → P' i v) : (held ℓ S q P : sProp 𝕄) ⊢ held ℓ S q P' := by
  unfold held
  iintro ⟨%f, %hf, H⟩; iexists f; isplitr
  · ipureintro; exact fun i hi => h i hi _ (hf i hi)
  · iexact H

/-- A piece at any values. -/
abbrev anyV {α β : Type} : α → β → Prop := fun _ _ => True

/-- A piece is a subset of it and the rest. -/
theorem held_split {ℓ : Loc nD τ sig} {A S : Finset (Idx ℓ)} {q : PosShare TreeShare} {P : Idx ℓ → Elt F ℓ.ty.elt → Prop}
    (h : A ⊆ S) : (held ℓ S q P : sProp 𝕄) ⊢ iprop(held ℓ A q P ∗ held ℓ (S \ A) q P) := by
  unfold held
  iintro ⟨%f, %hf, H⟩
  ihave H' := (pointsTo_split_subset (ℓ := ℓ) (q := q) (f := f) h).1 $$ H
  icases H' with ⟨HA, HR⟩
  isplitl [HA]
  · iexists f; isplitr
    · ipureintro; exact fun i hi => hf i (h hi)
    · iexact HA
  · iexists f; isplitr
    · ipureintro; exact fun i hi => hf i (Finset.mem_sdiff.mp hi).1
    · iexact HR

/-- A subset of a piece and the rest are the piece. -/
theorem held_join {ℓ : Loc nD τ sig} {A S : Finset (Idx ℓ)} {q : PosShare TreeShare} {P : Idx ℓ → Elt F ℓ.ty.elt → Prop}
    (h : A ⊆ S) : iprop(held ℓ A q P ∗ held ℓ (S \ A) q P) ⊢ (held ℓ S q P : sProp 𝕄) := by
  unfold held
  iintro ⟨⟨%f, %hf, HA⟩, ⟨%g, %hg, HR⟩⟩
  ihave H := (pointsTo_join_subset (ℓ := ℓ) (q := q) (f := g) (g := f) h) $$ [HA HR]
  · isplitl [HA] <;> iassumption
  iexists (A.piecewise f g)
  isplitr
  · ipureintro
    intro i hi
    by_cases hA : i ∈ A
    · rw [Finset.piecewise_eq_of_mem _ _ _ hA]; exact hf i hA
    · rw [Finset.piecewise_eq_of_notMem _ _ _ hA]; exact hg i (Finset.mem_sdiff.mpr ⟨hi, hA⟩)
  · iexact H

/-- Pieces of disjoint parts of a buffer, together. -/
theorem held_biUnion {T : Type} [DecidableEq T] {ℓ : Loc nD τ sig} (s : Finset T) (K : T → Finset (Idx ℓ)) {q : PosShare TreeShare}
    {P : Idx ℓ → Elt F ℓ.ty.elt → Prop} (h : ∀ t ∈ s, ∀ t' ∈ s, t ≠ t' → Disjoint (K t) (K t')) :
    (held ℓ (s.biUnion K) q P : sProp 𝕄) ⊢ bigSep s (fun t => held ℓ (K t) q P) := by
  unfold held
  iintro ⟨%f, %hf, H⟩
  ihave H' := (Entails.of_eq (pointsTo_biUnion (ℓ := ℓ) (q := q) (f := f) s K h)) $$ H
  iapply (show (bigSep s (fun t => (ℓ ↦[K t]{q} f : sProp 𝕄))) ⊢ bigSep s (fun t => held ℓ (K t) q P) from
    bigSep_mono fun t ht => held_intro fun i hi => hf i (Finset.mem_biUnion.mpr ⟨t, ht, hi⟩)) $$ H'

/-- And back. -/
theorem held_join_biUnion {T : Type} [DecidableEq T] {ℓ : Loc nD τ sig} (s : Finset T) (K : T → Finset (Idx ℓ)) {q : PosShare TreeShare}
    {P : Idx ℓ → Elt F ℓ.ty.elt → Prop} (h : ∀ t ∈ s, ∀ t' ∈ s, t ≠ t' → Disjoint (K t) (K t')) [Nonempty (Buf (Elt F) ℓ)] :
    (bigSep s (fun t => held ℓ (K t) q P) : sProp 𝕄) ⊢ held ℓ (s.biUnion K) q P := by
  induction s using Finset.induction_on with
  | empty =>
    rw [Finset.biUnion_empty, bigSep_empty]
    unfold held
    iintro -
    iexists (Classical.arbitrary (Buf (Elt F) ℓ))
    rw [pointsTo_empty]
    isplitr
    · ipureintro; exact fun i hi => absurd hi (Finset.notMem_empty i)
    · iempintro
  | insert t s ht ih =>
    rw [Finset.biUnion_insert, bigSep_insert ht]
    have hd : Disjoint (K t) (s.biUnion K) := by
      rw [Finset.disjoint_biUnion_right]
      exact fun t' ht' => h t (Finset.mem_insert_self _ _) t' (Finset.mem_insert_of_mem ht') (fun e => ht (e ▸ ht'))
    have e : (K t ∪ s.biUnion K) \ K t = s.biUnion K := by
      rw [Finset.union_sdiff_left]; exact Finset.sdiff_eq_self_of_disjoint hd.symm
    refine (sep_mono_right (ih fun a ha b hb => h a (Finset.mem_insert_of_mem ha) b (Finset.mem_insert_of_mem hb))).trans ?_
    have hj := held_join (F := F) (q := q) (P := P) (ℓ := ℓ) (A := K t) (S := K t ∪ s.biUnion K) Finset.subset_union_left
    rw [e] at hj
    exact hj

/-- A piece is two halves of it along the share. -/
theorem held_share {ℓ : Loc nD τ sig} {S : Finset (Idx ℓ)} {q : PosShare TreeShare} {P : Idx ℓ → Elt F ℓ.ty.elt → Prop} :
    (held ℓ S q P : sProp 𝕄) ⊢ iprop(held ℓ S q.left P ∗ held ℓ S q.right P) := by
  unfold held
  iintro ⟨%f, %hf, H⟩
  ihave H' := (pointsTo_share (ℓ := ℓ) (I := S) (f := f) (PosShare.mem_left_op_right q)).1 $$ H
  icases H' with ⟨H1, H2⟩
  isplitl [H1]
  · iexists f; isplitr
    · ipureintro; exact hf
    · iexact H1
  · iexists f; isplitr
    · ipureintro; exact hf
    · iexact H2

/-- Two halves along the share are the piece. -/
theorem held_unshare {ℓ : Loc nD τ sig} {S : Finset (Idx ℓ)} {q : PosShare TreeShare} {P : Idx ℓ → Elt F ℓ.ty.elt → Prop} :
    iprop(held ℓ S q.left P ∗ held ℓ S q.right P) ⊢ (held ℓ S q P : sProp 𝕄) := by
  unfold held
  iintro ⟨⟨%f, %hf, H1⟩, ⟨%g, -, H2⟩⟩
  ihave %hfg := pointsTo_agree $$ [H1 H2]
  · isplitl [H1] <;> iassumption
  ihave H2 := (Entails.of_eq (pointsTo_congr (ℓ := ℓ) (q := q.right) (I := S) (f := g) (g := f)
    (fun i hi => ((hfg i (Finset.mem_inter.mpr ⟨hi, hi⟩)).1).symm))) $$ H2
  iexists f
  isplitr
  · ipureintro; exact hf
  iapply (pointsTo_share (ℓ := ℓ) (I := S) (f := f) (PosShare.mem_left_op_right q)).2 $$ [H1 H2]
  isplitl [H1] <;> iassumption

end Pieces

end Cert.KernelIdeal.Talk
-- ==== Proof.Sched.lean ====
/- The protocol of the exchange: the cells, what each of them is paid and hands over, what a device owes, the levels. -/
module

public import proofs.«01_k».proof.Proof.Pieces

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig Unit (Elt F) ℕ UU ℕ

/-! ## Neighbours -/

theorem xp_xp (c : Dev nD) : xp (xp c) = c := by revert c; decide +kernel
theorem yp_yp (c : Dev nD) : yp (yp c) = c := by revert c; decide +kernel
theorem zp_zp (c : Dev nD) : zp (zp c) = c := by revert c; decide +kernel
theorem yp_x (c : Dev nD) : (yp c).val / 4 = c.val / 4 := by revert c; decide +kernel
theorem zp_x (c : Dev nD) : (zp c).val / 4 = c.val / 4 := by revert c; decide +kernel

/-! ## Cells

Eleven arrays of eight semaphores: 0 the copies into the own result; 1, 2 the exchange with the `x` neighbour, its two
ends; 3, 4 and 5, 6 the exchanges with the `y` and the `z` neighbour; 7, 8 and 9, 10 what is passed on, to `z` and to `y`. -/

/-- Semaphore `k` of array `a`. -/
abbrev dsem (a : Fin 11) (k : Fin 8) : DmaSem sig := ⟨12 + 8 * a.val + k.val, by
  have := a.isLt; have := k.isLt; show 12 + 8 * a.val + k.val < 100; omega⟩

/-- Its cell on device `c`. -/
abbrev dcell (c : Dev nD) (a : Fin 11) (k : Fin 8) : GSem nD τ sig := ((c : Thread nD τ), .dma (dsem a k))

/-- The gather's semaphore of chunk `k`. -/
abbrev gsem (k : Fin 8) : DmaSem sig := ⟨4 + k.val, by have := k.isLt; show 4 + k.val < 100; omega⟩
abbrev gcell (c : Dev nD) (k : Fin 8) : GSem nD τ sig := ((c : Thread nD τ), .dma (gsem k))

/-- The meeting's cell. -/
abbrev bcell (c : Dev nD) : GSem nD τ sig := ((c : Thread nD τ), .reg barS)

theorem sem4 (k : Fin 8) : semAt cc0_scratch4 k = gsem k := by revert k; decide
theorem sem5 (k : Fin 8) : semAt cc0_scratch5 k = dsem 0 k := by revert k; decide
theorem sem6 (k : Fin 8) : semAt cc0_scratch6 k = dsem 1 k := by revert k; decide
theorem sem7 (k : Fin 8) : semAt cc0_scratch7 k = dsem 2 k := by revert k; decide
theorem sem8 (k : Fin 8) : semAt cc0_scratch8 k = dsem 3 k := by revert k; decide
theorem sem9 (k : Fin 8) : semAt cc0_scratch9 k = dsem 4 k := by revert k; decide
theorem sem10 (k : Fin 8) : semAt cc0_scratch10 k = dsem 5 k := by revert k; decide
theorem sem11 (k : Fin 8) : semAt cc0_scratch11 k = dsem 6 k := by revert k; decide
theorem sem12 (k : Fin 8) : semAt cc0_scratch12 k = dsem 7 k := by revert k; decide
theorem sem13 (k : Fin 8) : semAt cc0_scratch13 k = dsem 8 k := by revert k; decide
theorem sem14 (k : Fin 8) : semAt cc0_scratch14 k = dsem 9 k := by revert k; decide
theorem sem15 (k : Fin 8) : semAt cc0_scratch15 k = dsem 10 k := by revert k; decide

/-- The credit of a chunk, of half a chunk, of a gathered row. -/
def N128 : ℕ := (ch partM 0).view.dmaCredit
def N64 : ℕ := (outY 0 0).view.dmaCredit
def Nrow : ℕ := (gathM.slice (Rect.unit (s := S1024x2048) ![0, 0] S1x2048.size inb_S1024x2048_S1x2048_0_0) (fun _ => rfl)).view.dmaCredit

theorem N128_pos : 0 < N128 := View.dmaCredit_pos _ (by decide)
theorem N64_pos : 0 < N64 := View.dmaCredit_pos _ (by decide)
theorem Nrow_pos : 0 < Nrow := View.dmaCredit_pos _ (by decide)

/-- The amount of the cells of array `a`. -/
def amt (a : Fin 11) : ℕ := if a.val < 7 then N128 else N64
theorem amt_pos (a : Fin 11) : 0 < amt a := by unfold amt; split; exacts [N128_pos, N64_pos]

/-! ## Pieces of the buffers -/

section Payloads

variable [FloatOps F] (I : In F)

/-- Chunk `k` of device `c`'s send buffer, of its receive buffer, of its reduced buffer. -/
abbrev partP (c : Dev nD) (k : Fin 8) (P : S1024x2048.Idx → Elt F .bf16 → Prop) : sProp 𝕄 :=
  held ((ch partM k).view.loc (c : Thread nD τ)) (ch partM k).view.set fullShare P
abbrev recvP (c : Dev nD) (k : Fin 8) (P : S1024x2048.Idx → Elt F .bf16 → Prop) : sProp 𝕄 :=
  held ((ch recvM k).view.loc (c : Thread nD τ)) (ch recvM k).view.set fullShare P
abbrev redP (c : Dev nD) (k : Fin 8) (q : PosShare TreeShare) (P : S1024x2048.Idx → Elt F .bf16 → Prop) : sProp 𝕄 :=
  held ((ch redM k).view.loc (c : Thread nD τ)) (ch redM k).view.set q P

/-- On device `c`, the rows of the result that device `d` fills with chunk `k`. -/
abbrev ownP (c d : Dev nD) (k : Fin 8) (P : S4096x2048.Idx → Elt F .bf16 → Prop) : sProp 𝕄 :=
  held ((outOwn d k).view.loc (c : Thread nD τ)) (outOwn d k).view.set fullShare P
/-- On device `c`, the first half of the chunk that device `d`'s `y` neighbour fills. -/
abbrev yP (c d : Dev nD) (k : Fin 8) (P : S4096x2048.Idx → Elt F .bf16 → Prop) : sProp 𝕄 :=
  held ((outY d k).view.loc (c : Thread nD τ)) (outY d k).view.set fullShare P
/-- On device `c`, the second half of the chunk that device `d`'s `z` neighbour fills. -/
abbrev zP (c d : Dev nD) (k : Fin 8) (P : S4096x2048.Idx → Elt F .bf16 → Prop) : sProp 𝕄 :=
  held ((outZ d k).view.loc (c : Thread nD τ)) (outZ d k).view.set fullShare P

/-- The shares of the reduced chunk: for the own result, for `y`, for `z`. -/
abbrev qR : PosShare TreeShare := fullShare.left
abbrev qB : PosShare TreeShare := fullShare.right.left
abbrev qC : PosShare TreeShare := fullShare.right.right

/-- What the cell of array `a`, chunk `k`, hands device `c`. -/
def dmaPay (c : Dev nD) (a : Fin 11) (k : Fin 8) : sProp 𝕄 :=
  match a with
  | 0 => iprop(ownP c c k (OutV I c) ∗ redP c k qR (RedV I c))
  | 1 => partP c k (PartV I c)
  | 2 => recvP c k (PartV I (xp c))
  | 3 => redP c k qB (RedV I c)
  | 4 => ownP c (yp c) k (OutV I c)
  | 5 => redP c k qC (RedV I c)
  | 6 => ownP c (zp c) k (OutV I c)
  | 7 => yP c c k (OutV I c)
  | 8 => yP c (zp c) k (OutV I c)
  | 9 => zP c c k (OutV I c)
  | 10 => zP c (yp c) k (OutV I c)

instance dmaPay_storable (c : Dev nD) (a : Fin 11) (k : Fin 8) : Storable (upEmb : UEmb _ 𝕄) (dmaPay I c a k) := by
  unfold dmaPay; split <;> infer_instance

/-- What device `c` may write on its `x` neighbour for chunk `k`, what it hands `c` at the meeting. -/
def peerX (c : Dev nD) (k : Fin 8) : sProp 𝕄 :=
  iprop(recvP (xp c) k anyV ∗ reached ER (dcell (xp c) 2 k) 0)
/-- The same on its `y` neighbour, -/
def peerY (c : Dev nD) (k : Fin 8) : sProp 𝕄 :=
  iprop((ownP (yp c) c k anyV ∗ reached ER (dcell (yp c) 4 k) 0) ∗ (zP (yp c) c k anyV ∗ reached ER (dcell (yp c) 10 k) 0))
/-- and on its `z` neighbour. -/
def peerZ (c : Dev nD) (k : Fin 8) : sProp 𝕄 :=
  iprop((ownP (zp c) c k anyV ∗ reached ER (dcell (zp c) 6 k) 0) ∗ (yP (zp c) c k anyV ∗ reached ER (dcell (zp c) 8 k) 0))

/-- What the meeting's cell hands device `c`, one duty per neighbour. -/
def barPay (c : Dev nD) (d : Fin 3) : sProp 𝕄 :=
  match d with
  | 0 => bigSep Finset.univ (peerX (F := F) c)
  | 1 => bigSep Finset.univ (peerY (F := F) c)
  | 2 => bigSep Finset.univ (peerZ (F := F) c)

instance barPay_storable (c : Dev nD) (d : Fin 3) : Storable (upEmb : UEmb _ 𝕄) (barPay (F := F) c d) := by
  unfold barPay
  split
  · have : ∀ k, Storable (upEmb : UEmb _ 𝕄) (peerX (F := F) c k) := fun k => by unfold peerX; infer_instance
    infer_instance
  · have : ∀ k, Storable (upEmb : UEmb _ 𝕄) (peerY (F := F) c k) := fun k => by unfold peerY; infer_instance
    infer_instance
  · have : ∀ k, Storable (upEmb : UEmb _ 𝕄) (peerZ (F := F) c k) := fun k => by unfold peerZ; infer_instance
    infer_instance

/-! ## The schedule -/

/-- The array and the chunk of a semaphore past the gather's. -/
def arr (n : DmaSem sig) : Fin 11 := ⟨min ((n.val - 12) / 8) 10, by omega⟩
def chk (n : DmaSem sig) : Fin 8 := ⟨(n.val - 12) % 8, by omega⟩

theorem arr_dsem (a : Fin 11) (k : Fin 8) : arr (dsem a k) = a := by revert a k; decide +kernel
theorem chk_dsem (a : Fin 11) (k : Fin 8) : chk (dsem a k) = k := by revert a k; decide +kernel

/-- The duties of round 0: each neighbour's at the meeting, one on each cell of the arrays. -/
def dutiesOf (sm : SemLoc sig) : Finset (Fin 3) :=
  match sm with
  | .reg s => if s = barS then Finset.univ else ∅
  | .dma n => if 12 ≤ n.val then {0} else ∅

def amountOf (sm : SemLoc sig) : ℕ :=
  match sm with
  | .reg s => 1
  | .dma n => amt (arr n)

def payOf (c : Dev nD) (sm : SemLoc sig) (d : Fin 3) : sProp 𝕄 :=
  match sm with
  | .reg s => barPay c d
  | .dma n => dmaPay I c (arr n) (chk n)

/-- The rounds of the exchange: one. -/
def Rd : Rounds.Schedule (GSem nD τ sig) (Fin 3) 𝕄 where
  duties g r := if g.1.2 = .tc ∧ r = 0 then dutiesOf g.2 else ∅
  amount g _ _ := amountOf g.2
  payload g _ d := payOf I g.1.1 g.2 d
  unitless _ := False
  amount_pos g _ _ _ := by
    unfold amountOf; split
    · exact Nat.one_pos
    · exact amt_pos _

instance Rd_storable (g : GSem nD τ sig) (r : ℕ) (d : Fin 3) : Storable (upEmb : UEmb _ 𝕄) ((Rd I).payload g r d) := by
  show Storable _ (payOf I g.1.1 g.2 d)
  unfold payOf; split <;> infer_instance

theorem duties_d (c : Dev nD) (a : Fin 11) (k : Fin 8) : (Rd I).duties (dcell c a k) 0 = {0} := by
  show (if (Proc.tc : Proc τ) = .tc ∧ (0 : ℕ) = 0 then dutiesOf (.dma (dsem a k)) else ∅) = _
  rw [if_pos ⟨rfl, rfl⟩]
  show (if 12 ≤ 12 + 8 * a.val + k.val then ({0} : Finset (Fin 3)) else ∅) = _
  rw [if_pos (by omega)]
theorem duties_b (c : Dev nD) : (Rd I).duties (bcell c) 0 = Finset.univ := by
  show (if (Proc.tc : Proc τ) = .tc ∧ (0 : ℕ) = 0 then dutiesOf (.reg barS) else ∅) = _
  rw [if_pos ⟨rfl, rfl⟩]
  show (if barS = barS then (Finset.univ : Finset (Fin 3)) else ∅) = _
  rw [if_pos rfl]
theorem duties_later (g : GSem nD τ sig) (r : ℕ) (h : 1 ≤ r) : (Rd I).duties g r = ∅ :=
  if_neg fun e => by omega

theorem amount_d (c : Dev nD) (a : Fin 11) (k : Fin 8) (d : Fin 3) : (Rd I).amount (dcell c a k) 0 d = amt a := by
  show amt (arr (dsem a k)) = _
  rw [arr_dsem]
theorem amount_b (c : Dev nD) (d : Fin 3) : (Rd I).amount (bcell c) 0 d = 1 := rfl

theorem expect_d (c : Dev nD) (a : Fin 11) (k : Fin 8) : (Rd I).expect (dcell c a k) 0 = amt a := by
  unfold Schedule.expect Schedule.amountOf; rw [duties_d, Finset.sum_singleton, amount_d]
theorem expect_b (c : Dev nD) : (Rd I).expect (bcell c) 0 = 3 := by
  unfold Schedule.expect Schedule.amountOf; rw [duties_b]; rfl

theorem payload_d (c : Dev nD) (a : Fin 11) (k : Fin 8) (d : Fin 3) : (Rd I).payload (dcell c a k) 0 d = dmaPay I c a k := by
  show dmaPay I c (arr (dsem a k)) (chk (dsem a k)) = _
  rw [arr_dsem, chk_dsem]
theorem payload_b (c : Dev nD) (d : Fin 3) : (Rd I).payload (bcell c) 0 d = barPay (F := F) c d := rfl

theorem rest_d (c : Dev nD) (a : Fin 11) (k : Fin 8) :
    bigSep ((Rd I).duties (dcell c a k) 0 \ ∅) (fun u => (Rd I).payload (dcell c a k) 0 u) = dmaPay I c a k := by
  rw [Finset.sdiff_empty, duties_d, bigSep_singleton, payload_d]
theorem rest_b (c : Dev nD) :
    bigSep ((Rd I).duties (bcell c) 0 \ ∅) (fun u => (Rd I).payload (bcell c) 0 u) = bigSep Finset.univ (barPay (F := F) c) := by
  rw [Finset.sdiff_empty, duties_b]; rfl

end Payloads

/-! ## What a device owes, and the levels -/

/-- The device an array's cells of which `c` pays with its transfers: a neighbour for the five receiving arrays. -/
def peer (a : Fin 11) (c : Dev nD) : Dev nD :=
  match a with
  | 2 => xp c | 4 => yp c | 6 => zp c | 8 => zp c | 10 => yp c
  | 0 | 1 | 3 | 5 | 7 | 9 => c

/-- What device `c` owes for the transfers in `s`. -/
def Ow (c : Dev nD) (s : Finset (Fin 11 × Fin 8)) : CellTallies nD τ sig Unit :=
  ∑ p ∈ s, tallyAt (dcell (peer p.1 c) p.1 p.2) () (amt p.1)

theorem Ow_erase (c : Dev nD) {s : Finset (Fin 11 × Fin 8)} {a : Fin 11} {k : Fin 8} (h : (a, k) ∈ s) :
    Ow c s = Ow c (s.erase (a, k)) + tallyAt (dcell (peer a c) a k) () (amt a) :=
  (Finset.sum_erase_add s _ h).symm

/-- The receiving arrays. -/
def recvs : Finset (Fin 11 × Fin 8) := Finset.univ.filter fun p => p.1 = 2 ∨ p.1 = 4 ∨ p.1 = 6 ∨ p.1 = 8 ∨ p.1 = 10

/-- What device `c` owes at launch: every transfer to a neighbour and a unit to each at the meeting. -/
def O₀ (c : Dev nD) : CellTallies nD τ sig Unit :=
  ((Ow c recvs + tallyAt (bcell (zp c)) () 1) + tallyAt (bcell (yp c)) () 1) + tallyAt (bcell (xp c)) () 1

def L (g : GSem nD τ sig) : Finset Unit := if g.1.2 = .tc then {()} else ∅

/-- The level of array `a`'s cell of chunk `k`. -/
def lvA (a : Fin 11) (k : Fin 8) : ℕ :=
  if a = 2 then 2 else if a = 4 ∨ a = 6 then 3 + k.val else if a = 8 ∨ a = 10 then 100 else 0

def lv (g : GSem nD τ sig) (_ : Unit) : ℕ :=
  match g.2 with
  | .reg s => 1
  | .dma n => if 12 ≤ n.val then lvA (arr n) (chk n) else 0

theorem L_of_ne (g : GSem nD τ sig) (h : g.1.2 ≠ .tc) : L g = ∅ := if_neg h
theorem L_tc (c : Dev nD) (sm : SemLoc sig) : L ((c : Thread nD τ), sm) = {()} := if_pos rfl

theorem lv_d (c : Dev nD) (a : Fin 11) (k : Fin 8) (u : Unit) : lv (dcell c a k) u = lvA a k := by
  show (if 12 ≤ 12 + 8 * a.val + k.val then lvA (arr (dsem a k)) (chk (dsem a k)) else 0) = _
  rw [if_pos (by omega), arr_dsem, chk_dsem]
theorem lv_g (c : Dev nD) (k : Fin 8) (u : Unit) : lv (gcell c k) u = 0 := by
  show (if 12 ≤ 4 + k.val then _ else 0) = _
  rw [if_neg (by have := k.isLt; omega)]
theorem lv_b (c : Dev nD) (u : Unit) : lv (bcell c) u = 1 := rfl

theorem Ow_pos {c : Dev nD} {s : Finset (Fin 11 × Fin 8)} {g : GSem nD τ sig} {u : Unit} (h : 0 < Ow c s g u) :
    ∃ p ∈ s, g = dcell (peer p.1 c) p.1 p.2 := by
  by_contra hn
  push Not at hn
  have : Ow c s g u = 0 := by
    unfold Ow
    rw [Finset.sum_apply, Finsupp.finset_sum_apply]
    refine Finset.sum_eq_zero fun p hp => ?_
    rw [tallyAt_apply, if_neg (fun e => hn p hp e.1)]
  omega

/-- A device may wait on a cell of its own below everything it still owes. -/
theorem mayWait (c : Dev nD) (sm : SemLoc sig) (s : Finset (Fin 11 × Fin 8)) (h : ∀ p ∈ s, lv ((c : Thread nD τ), sm) () < lvA p.1 p.2) :
    (levAts L lv : sProp 𝕄) ⊢ MayWait (c : Thread nD τ) sm () (Ow c s) :=
  MayOwe.of_cut (L := L) (lev := lv) (lv ((c : Thread nD τ), sm) ())
    (fun p hp => by rw [Finset.mem_singleton.mp hp, L_tc]; exact Finset.mem_singleton_self _)
    (fun g u hg => by obtain ⟨p, -, e⟩ := Ow_pos hg; rw [e, L_tc]; exact Finset.mem_singleton_self _)
    (fun p hp => by rw [Finset.mem_singleton.mp hp])
    (fun g u hg => by obtain ⟨p, hp, e⟩ := Ow_pos hg; rw [e, lv_d]; exact h p hp)

end Cert.KernelIdeal.Talk
-- ==== Proof.Moves.lean ====
/- What the copies and the vector steps do to the properties of the values. -/
module

public import proofs.«01_k».proof.Proof.Sched
public import Idealize.ShloMosaic.Lib.Pipeline.ValueKit.Geometry

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig Unit (Elt F) ℕ UU ℕ

/-- An element of a view is one of its indices, placed. -/
theorem mem_view {sp : Space} {s : Shape} {e : EltTy} (v : View sig .tc sp s e) {i : v.ty.Idx} (h : i ∈ v.set) :
    ∃ x : s.Idx, v.emb x = i := by
  unfold View.set at h
  obtain ⟨x, -, hx⟩ := Finset.mem_map.mp h
  exact ⟨x, hx⟩

/-- Where entry `x` of chunk `k` lies, in the gathered buffer, the send, the receive and the reduced one. -/
theorem chG_emb (k : Fin 8) (x : S128x2048.Idx) (a : Fin 2) :
    (((gathM.access (chR k)).emb x : S1024x2048.Idx) a).val = (![128 * k.val, 0] : Fin 2 → ℕ) a + (x a).val :=
  ValueKit.view_emb_slice_whole_unit_val cc0_scratch0 ![128 * k.val, 0] S128x2048.size (ch_inb k) x a
theorem chP_emb (k : Fin 8) (x : S128x2048.Idx) (a : Fin 2) :
    (((ch partM k).view.emb x : S1024x2048.Idx) a).val = (![128 * k.val, 0] : Fin 2 → ℕ) a + (x a).val :=
  ValueKit.view_emb_slice_whole_unit_val cc0_scratch1 ![128 * k.val, 0] S128x2048.size (ch_inb k) x a
theorem chV_emb (k : Fin 8) (x : S128x2048.Idx) (a : Fin 2) :
    (((ch recvM k).view.emb x : S1024x2048.Idx) a).val = (![128 * k.val, 0] : Fin 2 → ℕ) a + (x a).val :=
  ValueKit.view_emb_slice_whole_unit_val cc0_scratch2 ![128 * k.val, 0] S128x2048.size (ch_inb k) x a
theorem chR_emb (k : Fin 8) (x : S128x2048.Idx) (a : Fin 2) :
    (((ch redM k).view.emb x : S1024x2048.Idx) a).val = (![128 * k.val, 0] : Fin 2 → ℕ) a + (x a).val :=
  ValueKit.view_emb_slice_whole_unit_val cc0_scratch3 ![128 * k.val, 0] S128x2048.size (ch_inb k) x a

theorem outOwn_emb (d : Dev nD) (k : Fin 8) (x : S128x2048.Idx) (a : Fin 2) :
    (((outOwn d k).view.emb x : S4096x2048.Idx) a).val = (![2048 * ((d.val / 2) % 2) + 1024 * (d.val % 2) + 128 * k.val, 0] : Fin 2 → ℕ) a + (x a).val := by
  rw [← k0_off33_eq d k]
  exact ValueKit.view_emb_slice_whole_unit_val main_v34 (k0_off33 d (chW k)) S128x2048.size (k0_off33_inb d k) x a

section Values

variable [FloatOps F] (I : In F)

theorem OutV_congr {c d : Dev nD} (h : c.val / 4 = d.val / 4) : OutV I c = OutV I d := by
  unfold OutV; rw [h]

/-- A chunk of the send buffer, copied into the neighbour's receive buffer. -/
theorem part_moved (c : Dev nD) (k : Fin 8) (fs : Buf (Elt F) ((ch partM k).view.loc (c : Thread nD τ)))
    (fd : Buf (Elt F) ((ch recvM k).view.loc (xp c : Thread nD τ))) (h : ∀ i ∈ (ch partM k).view.set, PartV I c i (fs i)) :
    ∀ i ∈ (ch recvM k).view.set, PartV I (xp (xp c)) i ((ch recvM k).view.write (Elt F) fd ((ch partM k).view.read (Elt F) fs) Finset.univ i) := by
  intro i hi
  obtain ⟨x, rfl⟩ := mem_view _ hi
  rw [View.write_emb_of_mem _ _ (Finset.mem_univ x), xp_xp]
  have e : ((ch recvM k).view.emb x : S1024x2048.Idx) = ((ch partM k).view.emb x : S1024x2048.Idx) :=
    funext fun a => Fin.ext ((chV_emb k x a).trans (chP_emb k x a).symm)
  rw [e]
  exact h _ (View.emb_mem_set _ x)

/-- A chunk of the reduced buffer, copied into the rows of the result it belongs to. -/
theorem red_moved (c d : Dev nD) (hd : c.val / 4 = d.val / 4) (k : Fin 8) (fs : Buf (Elt F) ((ch redM k).view.loc (c : Thread nD τ)))
    (fd : Buf (Elt F) ((outOwn c k).view.loc (d : Thread nD τ))) (h : ∀ i ∈ (ch redM k).view.set, RedV I c i (fs i)) :
    ∀ i ∈ (outOwn c k).view.set, OutV I d i ((outOwn c k).view.write (Elt F) fd ((ch redM k).view.read (Elt F) fs) Finset.univ i) := by
  intro i hi
  obtain ⟨x, rfl⟩ := mem_view _ hi
  rw [View.write_emb_of_mem _ _ (Finset.mem_univ x)]
  intro d' j hd' h0 h1
  have hx0 : (x 0).val < 128 := (x 0).isLt
  have hj0 : (j 0).val < 1024 := (j 0).isLt
  have hk := k.isLt
  have e0 := outOwn_emb c k x 0
  have e1 := outOwn_emb c k x 1
  simp only [Matrix.cons_val_zero, Matrix.cons_val_one] at e0 e1
  have f0 := chR_emb k x 0
  have f1 := chR_emb k x 1
  simp only [Matrix.cons_val_zero, Matrix.cons_val_one] at f0 f1
  rw [e0] at h0; rw [e1] at h1
  have hc := c.isLt
  have hd8 := d'.isLt
  have hdc : d' = c := by
    apply Fin.ext
    have hcn : c.val < 8 := hc
    have hdn : d'.val < 8 := hd8
    omega
  subst hdc
  have hcn : d'.val < 8 := hc
  have ej : j = ((ch redM k).view.emb x : S1024x2048.Idx) := by
    funext a
    apply Fin.ext
    match a with
    | ⟨0, _⟩ => show (j 0).val = _; refine Eq.trans ?_ f0.symm; omega
    | ⟨1, _⟩ => show (j 1).val = _; refine Eq.trans ?_ f1.symm; omega
  rw [ej]
  exact h _ (View.emb_mem_set _ x)

/-- Rows of the result copied to the same rows of a neighbour's. -/
theorem out_moved {c d : Dev nD} (hd : c.val / 4 = d.val / 4) (r : Rect S4096x2048) {hr : ∀ a, r.stride a = 1}
    (fs : Buf (Elt F) ((outM.slice r hr).view.loc (c : Thread nD τ))) (fd : Buf (Elt F) ((outM.slice r hr).view.loc (d : Thread nD τ)))
    (h : ∀ i ∈ (outM.slice r hr).view.set, OutV I c i (fs i)) :
    ∀ i ∈ (outM.slice r hr).view.set, OutV I d i ((outM.slice r hr).view.write (Elt F) fd ((outM.slice r hr).view.read (Elt F) fs) Finset.univ i) := by
  intro i hi
  obtain ⟨x, rfl⟩ := mem_view _ hi
  rw [View.write_emb_of_mem _ _ (Finset.mem_univ x), ← OutV_congr I hd]
  exact h _ (View.emb_mem_set _ x)

/-- The rounded chunk. -/
theorem cast_ok (c : Dev nD) (k : Fin 8) (fg : Buf (Elt F) ((gathM.access (chR k)).loc (c : Thread nD τ)))
    (fp : Buf (Elt F) ((partM.access (chR k)).loc (c : Thread nD τ))) (h : ∀ i ∈ (gathM.access (chR k)).set, GathV I c i (fg i)) :
    ∀ i ∈ (partM.access (chR k)).set, PartV I c i ((partM.access (chR k)).write (Elt F) fp (k0_pay1 ((gathM.access (chR k)).read (Elt F) fg)) Finset.univ i) := by
  intro i hi
  obtain ⟨x, rfl⟩ := mem_view _ hi
  rw [View.write_emb_of_mem _ _ (Finset.mem_univ x)]
  have e : ((partM.access (chR k)).emb x : S1024x2048.Idx) = ((gathM.access (chR k)).emb x : S1024x2048.Idx) :=
    funext fun a => Fin.ext ((chP_emb k x a).trans (chG_emb k x a).symm)
  rw [e]
  refine ⟨_, h _ (View.emb_mem_set _ x), ?_⟩
  unfold k0_pay1
  simp only [shapeCast_self]
  rfl

theorem chm_emb (k : Fin 8) (x : S128x1.Idx) (a : Fin 2) :
    (((maskM.access (chmR k)).emb x : S1024x1.Idx) a).val = (![128 * k.val, 0] : Fin 2 → ℕ) a + (x a).val :=
  ValueKit.view_emb_slice_whole_unit_val cc0_stg3_0 ![128 * k.val, 0] S128x1.size (chm_inb k) x a

/-- The combined chunk. -/
theorem reduce_ok (c : Dev nD) (k : Fin 8) (fm : Buf (Elt F) ((maskM.access (chmR k)).loc (c : Thread nD τ)))
    (fp : Buf (Elt F) ((partM.access (chR k)).loc (c : Thread nD τ))) (fr : Buf (Elt F) ((recvM.access (chR k)).loc (c : Thread nD τ)))
    (fo : Buf (Elt F) ((redM.access (chR k)).loc (c : Thread nD τ))) (hm : fm = I.mask c)
    (hp : ∀ i ∈ (partM.access (chR k)).set, PartV I c i (fp i)) (hr : ∀ i ∈ (recvM.access (chR k)).set, PartV I (xp c) i (fr i)) :
    ∀ i ∈ (redM.access (chR k)).set, RedV I c i ((redM.access (chR k)).write (Elt F) fo
      (k0_pay10 ((maskM.access (chmR k)).read (Elt F) fm) ((partM.access (chR k)).read (Elt F) fp) ((recvM.access (chR k)).read (Elt F) fr)) Finset.univ i) := by
  subst hm
  intro i hi
  obtain ⟨x, rfl⟩ := mem_view _ hi
  rw [View.write_emb_of_mem _ _ (Finset.mem_univ x)]
  have eP : ((redM.access (chR k)).emb x : S1024x2048.Idx) = ((partM.access (chR k)).emb x : S1024x2048.Idx) :=
    funext fun a => Fin.ext ((chR_emb k x a).trans (chP_emb k x a).symm)
  have eV : ((redM.access (chR k)).emb x : S1024x2048.Idx) = ((recvM.access (chR k)).emb x : S1024x2048.Idx) :=
    funext fun a => Fin.ext ((chR_emb k x a).trans (chV_emb k x a).symm)
  refine ⟨_, _, eP ▸ hp _ (View.emb_mem_set _ x), eV ▸ hr _ (View.emb_mem_set _ x), ?_⟩
  intro u hu
  let y : S128x1.Idx := fun a => match a with | ⟨0, _⟩ => x 0 | ⟨1, _⟩ => (0 : Fin 1)
  have hy : ((maskM.access (chmR k)).emb y : S1024x1.Idx) = u := by
    funext a
    apply Fin.ext
    refine (chm_emb k y a).trans ?_
    match a with
    | ⟨0, _⟩ => exact Eq.trans (chR_emb k x 0).symm hu.symm
    | ⟨1, _⟩ =>
      have h1 : (u 1).val < 1 := (u 1).isLt
      have h2 : (y 1).val < 1 := (y 1).isLt
      show 0 + (y 1).val = (u 1).val
      omega
  unfold k0_pay10
  simp only [shapeCast_self]
  refine (?_ : Scalar.select _ _ _ = _)
  refine (congrArg (fun b => Scalar.select b _ _) (broadcastTo_apply (s := S128x1) (t := S128x2048) _ _ x y ?_)).trans ?_
  rotate_left
  · rw [← hy]; rfl
  · intro a
    match a with
    | ⟨0, _⟩ => rfl
    | ⟨1, _⟩ => rfl

/-! ## The gathered rows -/

/-- Row `t` of chunk `k` of the gathered buffer. -/
abbrev rowM (k : Fin 8) (t : Fin gLoop.trips) : Memref sig .tc .vmem S1x2048 .f32 :=
  gathM.slice (Rect.unit (s := S1024x2048) (tok2 k t) S1x2048.size (tok2_inb k t)) (fun _ => rfl)

/-- Row `w` of the table. -/
abbrev srcM (w : BitVec 32) (h : ∀ a, k0_off4 w a + S1x2048.size a ≤ S8192x2048.size a) : Memref sig .tc .hbm S1x2048 .f32 :=
  tabM.slice (Rect.unit (s := S8192x2048) (k0_off4 w) S1x2048.size h) (fun _ => rfl)

theorem row_emb (k : Fin 8) (t : Fin gLoop.trips) (x : S1x2048.Idx) (a : Fin 2) :
    (((rowM k t).view.emb x : S1024x2048.Idx) a).val = tok2 k t a + (x a).val :=
  ValueKit.view_emb_slice_whole_unit_val cc0_scratch0 (tok2 k t) S1x2048.size (tok2_inb k t) x a
theorem src_emb (w : BitVec 32) (h) (x : S1x2048.Idx) (a : Fin 2) :
    (((srcM w h).view.emb x : S8192x2048.Idx) a).val = (![w.toNat, 0] : Fin 2 → ℕ) a + (x a).val :=
  ValueKit.view_emb_slice_whole_unit_val main_arg1 (k0_off4 w) S1x2048.size h x a

/-- Trip `t`'s token, as an index of the tables. -/
def tokI (k : Fin 8) (t : Fin gLoop.trips) : S1024.Idx := fun a => match a with
  | ⟨0, _⟩ => (⟨128 * k.val + t.val, by
    have := k.isLt; have : t.val < 128 := gTrips ▸ t.isLt; omega⟩ : Fin 1024)

/-- A row fetched from the table. -/
theorem row_moved (c : Dev nD) (k : Fin 8) (t : Fin gLoop.trips) (h)
    (fs : Buf (Elt F) ((srcM (I.lids c (tokI k t)) h).view.loc (c : Thread nD τ))) (hfs : fs = I.tab c)
    (fd : Buf (Elt F) ((rowM k t).view.loc (c : Thread nD τ))) :
    ∀ i ∈ (rowM k t).view.set, GathV I c i ((rowM k t).view.write (Elt F) fd ((srcM (I.lids c (tokI k t)) h).view.read (Elt F) fs) Finset.univ i) := by
  subst hfs
  intro i hi
  obtain ⟨x, rfl⟩ := mem_view _ hi
  rw [View.write_emb_of_mem _ _ (Finset.mem_univ x)]
  intro t' ht' _ j h0 h1
  have e0 := row_emb k t x 0
  have e1 := row_emb k t x 1
  have hx : (x 0).val < 1 := (x 0).isLt
  have et : t' = tokI k t := by
    funext a
    match a with
    | ⟨0, _⟩ =>
      apply Fin.ext
      refine ht'.trans (e0.trans ?_)
      show (tokW k t).toNat + (x 0).val = 128 * k.val + t.val
      rw [tokW_val]; omega
  subst et
  have ej : j = ((srcM (I.lids c (tokI k t)) h).view.emb x : S8192x2048.Idx) := by
    funext a
    apply Fin.ext
    refine Eq.trans ?_ (src_emb _ h x a).symm
    match a with
    | ⟨0, _⟩ => refine h0.trans ?_; show _ = BitVec.toNat _ + (x 0).val; omega
    | ⟨1, _⟩ => exact h1.trans e1
  rw [ej]; rfl

/-- A row whose token is not owned may hold anything. -/
theorem row_unowned (c : Dev nD) (k : Fin 8) (t : Fin gLoop.trips) (h : I.own c (tokI k t) ≠ 1#32) :
    ∀ i ∈ (rowM k t).view.set, ∀ v, GathV I c i v := by
  intro i hi v
  obtain ⟨x, rfl⟩ := mem_view _ hi
  intro t' ht' ho
  have hx : (x 0).val < 1 := (x 0).isLt
  have et : t' = tokI k t := by
    funext a
    match a with
    | ⟨0, _⟩ =>
      apply Fin.ext
      refine ht'.trans ((row_emb k t x 0).trans ?_)
      show (tokW k t).toNat + (x 0).val = 128 * k.val + t.val
      rw [tokW_val]; omega
  exact absurd (et ▸ ho) h

end Values

/-! ## Parts of one another -/

/-- What is passed on to `z` is part of what came from `y`, and the other way. -/
theorem outY_sub (c : Dev nD) (k : Fin 8) : (outY c k).view.set ⊆ (outOwn (yp c) k).view.set := by
  intro i hi
  rw [View.set_slice_whole] at hi ⊢
  have a34 := k0_off34_eq c k
  have a33 := k0_off33_eq (yp c) k
  rw [Rect.mem_set_unit] at hi ⊢
  have hy : (yp c).val = (2 * 0 + (k0_dev2 c)) := by simp
  intro a
  have := hi a
  rw [k0_off34_eq] at this
  rw [k0_off33_eq]
  have hyv : (k0_dev2 c) / 2 % 2 = 1 - c.val / 2 % 2 ∧ k0_dev2 c % 2 = c.val % 2 := by clear * -; revert c; decide +kernel
  match a with
  | ⟨0, _⟩ =>
    simp only [Matrix.cons_val_zero, Fin.zero_eta] at this ⊢
    have e1 : S64x2048.size 0 = 64 := rfl
    have e2 : S128x2048.size 0 = 128 := rfl
    have hk := k.isLt
    have : (yp c).val = k0_dev2 c := rfl
    omega
  | ⟨1, _⟩ => simpa using this

theorem outZ_sub (c : Dev nD) (k : Fin 8) : (outZ c k).view.set ⊆ (outOwn (zp c) k).view.set := by
  intro i hi
  rw [View.set_slice_whole] at hi ⊢
  rw [Rect.mem_set_unit] at hi ⊢
  intro a
  have := hi a
  rw [k0_off35_eq] at this
  rw [k0_off33_eq]
  have hyv : (k0_dev3 c) / 2 % 2 = c.val / 2 % 2 ∧ k0_dev3 c % 2 = 1 - c.val % 2 := by clear * -; revert c; decide +kernel
  match a with
  | ⟨0, _⟩ =>
    simp only [Matrix.cons_val_zero, Fin.zero_eta] at this ⊢
    have e1 : S64x2048.size 0 = 64 := rfl
    have e2 : S128x2048.size 0 = 128 := rfl
    have hk := k.isLt
    have : (zp c).val = k0_dev3 c := rfl
    omega
  | ⟨1, _⟩ => simpa using this

end Cert.KernelIdeal.Talk
-- ==== Proof.Ops.lean ====
/- One operation of the exchange at a time: a copy to a neighbour, a copy into the own result, a wait. -/
module

public import proofs.«01_k».proof.Proof.Moves

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F) (K : GSem nD τ sig → ℕ)

local notation "𝕄" => MT nD τ sig Unit (Elt F) ℕ UU ℕ

/-- The weakest precondition of a program of device `c`'s TensorCore. -/
abbrev wpc (c : Dev nD) {α : Type} (p : PR (F := F) α) (Ψ : α → sProp 𝕄) : sProp 𝕄 :=
  wp frame (wpE (defs₀ (F := F)) 𝒱₀ (c : Thread nD τ) none) Set.univ p Ψ

/-- The meeting's cells, open from launch. -/
def openCells : Finset (GSem nD τ sig) := Finset.univ.image bcell
/-- The exchange's, opened by the call. -/
def dormCells : Finset (GSem nD τ sig) := Finset.univ.image fun p : Dev nD × Fin 11 × Fin 8 => dcell p.1 p.2.1 p.2.2

/-- What every step may use: each cell's invariant, that the first round is reached on the meeting's cells and on the own
    cells of the exchange, the levels. -/
def Cx (c : Dev nD) : sProp 𝕄 :=
  iprop(bigSep (openCells ∪ dormCells) (fun g => cellInv ER (Rd I) (K g) g)
    ∗ bigSep Finset.univ (fun d : Dev nD => reached ER (bcell d) 0)
    ∗ bigSep Finset.univ (fun p : Fin 11 × Fin 8 => reached ER (dcell c p.1 p.2) 0)
    ∗ levAts L lv)

instance Cx_persistent (c : Dev nD) : BI.Persistent (Cx I K c) := by unfold Cx; infer_instance

theorem Cx_d (c d : Dev nD) (a : Fin 11) (k : Fin 8) : Cx I K c ⊢ cellInv ER (Rd I) (K (dcell d a k)) (dcell d a k) := by
  unfold Cx
  iintro ⟨H, -⟩
  iapply (show bigSep (openCells ∪ dormCells) (fun g => cellInv ER (Rd I) (K g) g) ⊢ cellInv ER (Rd I) (K (dcell d a k)) (dcell d a k) from
    bigSep_elim (i := dcell d a k) (Finset.mem_union_right _ (Finset.mem_image.mpr ⟨(d, a, k), Finset.mem_univ _, rfl⟩))) $$ H
theorem Cx_b (c d : Dev nD) : Cx I K c ⊢ cellInv ER (Rd I) (K (bcell d)) (bcell d) := by
  unfold Cx
  iintro ⟨H, -⟩
  iapply (show bigSep (openCells ∪ dormCells) (fun g => cellInv ER (Rd I) (K g) g) ⊢ cellInv ER (Rd I) (K (bcell d)) (bcell d) from
    bigSep_elim (i := bcell d) (Finset.mem_union_left _ (Finset.mem_image.mpr ⟨d, Finset.mem_univ _, rfl⟩))) $$ H
theorem Cx_rb (c d : Dev nD) : Cx I K c ⊢ reached ER (bcell d) 0 := by
  unfold Cx
  iintro ⟨-, H, -⟩
  iapply (show bigSep Finset.univ (fun d : Dev nD => reached ER (bcell d) 0) ⊢ (reached ER (bcell d) 0 : sProp 𝕄) from
    bigSep_elim (Finset.mem_univ d)) $$ H
theorem Cx_r (c : Dev nD) (a : Fin 11) (k : Fin 8) : Cx I K c ⊢ reached ER (dcell c a k) 0 := by
  unfold Cx
  iintro ⟨-, -, H, -⟩
  iapply (show bigSep Finset.univ (fun p : Fin 11 × Fin 8 => reached ER (dcell c p.1 p.2) 0) ⊢ (reached ER (dcell c a k) 0 : sProp 𝕄) from
    bigSep_elim (Finset.mem_univ (a, k))) $$ H
theorem Cx_lev (c : Dev nD) : Cx I K c ⊢ (levAts L lv : sProp 𝕄) := by
  unfold Cx
  iintro ⟨-, -, -, H⟩
  iexact H

/-- What device `c` still owes, at whatever it has waited for. -/
def owed (c : Dev nD) (s : Finset (Fin 11 × Fin 8)) : sProp 𝕄 := iprop(∃ W, owes (c : Thread nD τ) (Ow c s) W)

/-- The token to pay array `a`'s cell of chunk `k` that device `c` pays; its own cell's position, before and after; its credit. -/
abbrev tok (c : Dev nD) (a : Fin 11) (k : Fin 8) : sProp 𝕄 := dutyTok ER (dcell (peer a c) a k) 0 (0 : Fin 3)
abbrev at0 (c : Dev nD) (a : Fin 11) (k : Fin 8) : sProp 𝕄 := atPos ER (dcell c a k) 0 (∅ : Finset (Fin 3)) 0
abbrev at1 (c : Dev nD) (a : Fin 11) (k : Fin 8) : sProp 𝕄 := atPos ER (dcell c a k) 1 (∅ : Finset (Fin 3)) 0
abbrev cr (c : Dev nD) (a : Fin 11) (k : Fin 8) : sProp 𝕄 := cred (tallyAt (dcell c a k) () (amt a))

variable {I K}

/-- A copy to a neighbour: `b` is the array of the sending side's cell, `ar` of the receiving side's. -/
theorem talk_send {sp sp' : Space} {s : Shape} {e : EltTy} (c d : Dev nD) (b ar : Fin 11) (k : Fin 8) (hs : peer b c = c) (hd : peer ar c = d)
    {src : Memref sig .tc sp s e} {dst : Memref sig .tc sp' s e} {hsc : dst.view.ref.isScScratch = false} {sS sR : DmaSem sig}
    (eS : sS = dsem b k) (eR : sR = dsem ar k)
    {hsrc : src.view.WordExact} {hdst : dst.view.WordExact} {hsem : DmaTarget.Typed sp (.dma sR) (.remote (d : Thread nD τ) dst (.dma sS) hsc)}
    {q : PosShare TreeShare} {P : Idx (src.view.loc (c : Thread nD τ)) → Elt F (src.view.loc (c : Thread nD τ)).ty.elt → Prop}
    (hN : dst.view.dmaCredit = amt ar) (hA : amt b = amt ar) {S : Finset (Fin 11 × Fin 8)} (hS : (ar, k) ∈ S)
    (hpay₁ : held (src.view.loc (c : Thread nD τ)) src.view.set q P ⊢ dmaPay I c b k)
    (hpay₂ : ∀ fs fd, (∀ i ∈ src.view.set, P i (fs i)) →
      (dst.view.loc (d : Thread nD τ) ↦[dst.view.set]{fullShare} (dst.view.write (Elt F) fd (src.view.read (Elt F) fs) Finset.univ)) ⊢ dmaPay I d ar k)
    {Ψ : PUnit → sProp 𝕄} :
    iprop(Cx I K c ∗ held (src.view.loc (c : Thread nD τ)) src.view.set q P ∗ held (dst.view.loc (d : Thread nD τ)) dst.view.set fullShare anyV
        ∗ reached ER (dcell d ar k) 0 ∗ tok c b k ∗ tok c ar k ∗ owed c S)
      ⊢ iprop(((cr c b k ∗ owed c (S.erase (ar, k))) -∗ Ψ ⟨⟩)
          -∗ wpc c (Prog.lift (.enqueueDma src (.remote (d : Thread nD τ) dst (.dma sS) hsc) (.dma sR) hsrc hdst hsem)) Ψ) := by
  subst eS eR hd
  show _ ⊢ iprop(_ -∗ wp frame (wpE (defs₀ (F := F)) 𝒱₀ (c : Thread nD τ) none) Set.univ (.op _ .ret) Ψ)
  unfold held owed tok
  rw [hs]
  iintro ⟨#HC, ⟨%fs, %hfs, Hs⟩, ⟨%fd, -, Hd⟩, Hrd, Hts, Htd, ⟨%W, HO⟩⟩ Hk
  ihave #HI1 := (Cx_d I K c c b k) $$ HC
  ihave #HI2 := (Cx_d I K c (peer ar c) ar k) $$ HC
  ihave #Hr := (Cx_r I K c b k) $$ HC
  iapply (Rounds.wp_send_pointsTo 𝒱₀ ER (Rd I) (c : Thread nD τ) none (c' := ((peer ar c : Dev nD) : Thread nD τ)) (src := src) (dst := dst)
      (sS := .dma (dsem b k)) (sem := .dma (dsem ar k)) (q := q) (fs := fs) (κ₁ := K (dcell c b k)) (κ₂ := K (dcell (peer ar c) ar k))
      (r₁ := 0) (r₂ := 0) (d₁ := 0) (d₂ := 0) (fd := fd)
      (by rw [duties_d]; exact Finset.mem_singleton_self _) (by rw [duties_d]; exact Finset.mem_singleton_self _)
      () () (amt ar) hN ((amount_d I c b k 0).trans hA) (amount_d I (peer ar c) ar k 0) (Ow c (S.erase (ar, k))) (Ow_erase c hS) (W := W)
      (by rw [payload_d]; exact (held_intro hfs).trans hpay₁)
      (by rw [payload_d]; exact hpay₂ fs fd hfs)) $$ [Hs Hd Hrd Hts Htd HO]
  · isplitr; · iexact HI1
    isplitr; · iexact HI2
    isplitl [Hs]; · iexact Hs
    isplitl [Hd]; · iexact Hd
    isplitl [HO]; · iexact HO
    isplitl [Hts]; · iexact Hts
    isplitr; · iexact Hr
    isplitl [Htd]; · iexact Htd
    iexact Hrd
  iintro ⟨Hc, HO⟩
  rw [wp_ret]
  imodintro
  iapply Hk
  isplitl [Hc]
  · unfold cr; rw [hA]; iexact Hc
  · iexists W; iexact HO

/-- A copy of a chunk into the own result. -/
theorem talk_copy {sp sp' : Space} {s : Shape} {e : EltTy} (c : Dev nD) (a : Fin 11) (k : Fin 8) (hs : peer a c = c)
    {src : Memref sig .tc sp s e} {dst : Memref sig .tc sp' s e} {sR : DmaSem sig} (eR : sR = dsem a k)
    {hsrc : src.view.WordExact} {hdst : dst.view.WordExact} {hsem : DmaTarget.Typed (nD := nD) (τ := τ) (p := .tc) sp (.dma sR) (.here dst)}
    {q : PosShare TreeShare} {P : Idx (src.view.loc (c : Thread nD τ)) → Elt F (src.view.loc (c : Thread nD τ)).ty.elt → Prop}
    (hN : dst.view.dmaCredit = amt a)
    (hpay : ∀ fs fd, (∀ i ∈ src.view.set, P i (fs i)) →
      iprop((dst.view.loc (c : Thread nD τ) ↦[dst.view.set]{fullShare} (dst.view.write (Elt F) fd (src.view.read (Elt F) fs) Finset.univ))
        ∗ (src.view.loc (c : Thread nD τ) ↦[src.view.set]{q} fs)) ⊢ dmaPay I c a k)
    {Ψ : PUnit → sProp 𝕄} :
    iprop(Cx I K c ∗ held (src.view.loc (c : Thread nD τ)) src.view.set q P ∗ held (dst.view.loc (c : Thread nD τ)) dst.view.set fullShare anyV ∗ tok c a k)
      ⊢ iprop((cr c a k -∗ Ψ ⟨⟩) -∗ wpc c (Prog.lift (.enqueueDma src (.here dst) (.dma sR) hsrc hdst hsem)) Ψ) := by
  subst eR
  show _ ⊢ iprop(_ -∗ wp frame (wpE (defs₀ (F := F)) 𝒱₀ (c : Thread nD τ) none) Set.univ (.op _ .ret) Ψ)
  unfold held tok
  rw [hs]
  iintro ⟨#HC, ⟨%fs, %hfs, Hs⟩, ⟨%fd, -, Hd⟩, Ht⟩ Hk
  ihave #HI := (Cx_d I K c c a k) $$ HC
  ihave #Hr := (Cx_r I K c a k) $$ HC
  iapply (Rounds.wp_copy_pointsTo 𝒱₀ ER (Rd I) (c : Thread nD τ) none (src := src) (dst := dst) (sem := .dma (dsem a k)) (q := q) (fs := fs) (fd := fd)
      (κ := K (dcell c a k)) (r := 0) (d := 0) (by rw [duties_d]; exact Finset.mem_singleton_self _) () (amt a) hN (amount_d I c a k 0)
      (by rw [payload_d]; exact hpay fs fd hfs)) $$ [Hs Hd Ht]
  · isplitr; · iexact HI
    isplitl [Hs]; · iexact Hs
    isplitl [Hd]; · iexact Hd
    isplitl [Ht]; · iexact Ht
    iexact Hr
  iintro Hc
  rw [wp_ret]
  imodintro
  iapply Hk
  iexact Hc

/-- A wait on one of the exchange's cells hands over what the cell was paid with. -/
theorem talk_wait {sp sp' : Space} {s s' : Shape} {e e' : EltTy} (c : Dev nD) (a : Fin 11) (k : Fin 8)
    {src : Memref sig .tc sp s e} {dst : Memref sig .tc sp' s' e'} {sR : DmaSem sig} (eR : sR = dsem a k)
    {hsrc : src.view.WordExact} {hdst : dst.view.WordExact} (hN : dst.view.dmaCredit = amt a)
    {S : Finset (Fin 11 × Fin 8)} (hS : ∀ p ∈ S, lvA a k < lvA p.1 p.2) {Ψ : PUnit → sProp 𝕄} :
    iprop(Cx I K c ∗ cr c a k ∗ at0 c a k ∗ owed c S)
      ⊢ iprop(((dmaPay I c a k ∗ at1 c a k ∗ owed c S) -∗ Ψ ⟨⟩)
          -∗ wpc c (Prog.lift (.waitDma2 sR src dst hsrc hdst)) Ψ) := by
  subst eR
  show _ ⊢ iprop(_ -∗ wp frame (wpE (defs₀ (F := F)) 𝒱₀ (c : Thread nD τ) none) Set.univ (.op _ .ret) Ψ)
  unfold owed
  iintro ⟨#HC, Hc, Hat, ⟨%W, HO⟩⟩ Hk
  ihave #HI := (Cx_d I K c c a k) $$ HC
  ihave #Hl := (Cx_lev I K c) $$ HC
  iapply (Rounds.wp_wait_rest_token 𝒱₀ ER (Rd I) (c : Thread nD τ) none (κ := K (dcell c a k))
      (wpE_waitDma2_eq 𝒱₀ (c : Thread nD τ) none Set.univ) (Set.mem_univ _) () (O := Ow c S) (W := W) (R := 0) (m := 0) (T := ∅)
      (by rw [expect_d, Nat.zero_add]; exact hN)) $$ [Hc HO Hat]
  · isplitr; · iexact HI
    isplitl [Hc]; · rw [hN]; iexact Hc
    isplitl [HO]; · iexact HO
    isplitr
    · iapply (mayWait c (.dma (dsem a k)) S (by rw [lv_d]; exact hS)); iexact Hl
    iexact Hat
  iintro ⟨HO, Hat, -, Hp⟩
  rw [wp_ret]
  imodintro
  iapply Hk
  isplitl [Hp]; · iapply (Entails.of_eq (rest_d I c a k)); iexact Hp
  isplitl [Hat]; · iexact Hat
  iexists _; iexact HO

end Cert.KernelIdeal.Talk
-- ==== Proof.Exchange.lean ====
/- The exchange of one chunk: to and from the `x` neighbour, combined, round the `y` and `z` neighbours. -/
module

public import proofs.«01_k».proof.Proof.Ops

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {I : In F} {K : GSem nD τ sig → ℕ}

local notation "𝕄" => MT nD τ sig Unit (Elt F) ℕ UU ℕ

/-! ## Amounts -/

theorem cred_ch (M : Memref sig .tc .vmem S1024x2048 .bf16) (k : Fin 8) : (ch M k).view.dmaCredit = N128 := rfl
theorem cred_own (d : Dev nD) (k : Fin 8) : (outOwn d k).view.dmaCredit = N128 := rfl
theorem cred_y (d : Dev nD) (k : Fin 8) : (outY d k).view.dmaCredit = N64 := rfl
theorem cred_z (d : Dev nD) (k : Fin 8) : (outZ d k).view.dmaCredit = N64 := rfl
theorem amt_big (a : Fin 11) (h : a.val < 7) : amt a = N128 := if_pos h
theorem amt_small (a : Fin 11) (h : ¬ a.val < 7) : amt a = N64 := if_neg h

theorem own_moved_y (c : Dev nD) (k : Fin 8) : ownP (yp c) (yp (yp c)) k (OutV I (yp c)) = (ownP (yp c) c k (OutV I (yp c)) : sProp 𝕄) := by
  rw [yp_yp]
theorem own_moved_z (c : Dev nD) (k : Fin 8) : ownP (zp c) (zp (zp c)) k (OutV I (zp c)) = (ownP (zp c) c k (OutV I (zp c)) : sProp 𝕄) := by
  rw [zp_zp]

variable {S : Finset (Fin 11 × Fin 8)}

theorem sendA_step (c : Dev nD) (k : Fin 8) (hS : ((2 : Fin 11), k) ∈ S) {Ψ : PUnit → sProp 𝕄} :
    iprop(Cx I K c ∗ partP c k (PartV I c) ∗ peerX c k ∗ tok c 1 k ∗ tok c 2 k ∗ owed c S)
      ⊢ iprop(((cr c 1 k ∗ owed c (S.erase (2, k))) -∗ Ψ ⟨⟩) -∗ wpc c (sendA c k) Ψ) := by
  unfold sendA peerX
  iintro ⟨#HC, Hp, ⟨Hd, Hr⟩, H1, H2, HO⟩
  iapply (talk_send (I := I) (K := K) c (xp c) 1 2 k rfl rfl (src := ch partM k) (dst := ch recvM k) (sem6 k) (sem7 k) (P := PartV I c) (q := fullShare)
    ((cred_ch _ k).trans (amt_big 2 (by decide)).symm) rfl hS (Entails.of_eq rfl)
    (fun fs fd h => held_intro (part_moved I c k fs fd h)))
  isplitr; · iexact HC
  isplitl [Hp]; · iexact Hp
  isplitl [Hd]; · iexact Hd
  isplitl [Hr]; · iexact Hr
  isplitl [H1]; · iexact H1
  isplitl [H2] <;> iassumption

theorem sendB_step (c : Dev nD) (k : Fin 8) (hS : ((4 : Fin 11), k) ∈ S) {Ψ : PUnit → sProp 𝕄} :
    iprop(Cx I K c ∗ redP c k qB (RedV I c) ∗ (ownP (yp c) c k anyV ∗ reached ER (dcell (yp c) 4 k) 0) ∗ tok c 3 k ∗ tok c 4 k ∗ owed c S)
      ⊢ iprop(((cr c 3 k ∗ owed c (S.erase (4, k))) -∗ Ψ ⟨⟩) -∗ wpc c (sendB c k) Ψ) := by
  unfold sendB
  iintro ⟨#HC, Hp, ⟨Hd, Hr⟩, H1, H2, HO⟩
  iapply (talk_send (I := I) (K := K) c (yp c) 3 4 k rfl rfl (src := ch redM k) (dst := outOwn c k) (sem8 k) (sem9 k) (P := RedV I c) (q := qB)
    ((cred_own c k).trans (amt_big 4 (by decide)).symm) rfl hS (Entails.of_eq rfl)
    (fun fs fd h => (held_intro (red_moved I c (yp c) (yp_x c).symm k fs fd h)).trans (Entails.of_eq (own_moved_y c k).symm)))
  isplitr; · iexact HC
  isplitl [Hp]; · iexact Hp
  isplitl [Hd]; · iexact Hd
  isplitl [Hr]; · iexact Hr
  isplitl [H1]; · iexact H1
  isplitl [H2] <;> iassumption

theorem sendC_step (c : Dev nD) (k : Fin 8) (hS : ((6 : Fin 11), k) ∈ S) {Ψ : PUnit → sProp 𝕄} :
    iprop(Cx I K c ∗ redP c k qC (RedV I c) ∗ (ownP (zp c) c k anyV ∗ reached ER (dcell (zp c) 6 k) 0) ∗ tok c 5 k ∗ tok c 6 k ∗ owed c S)
      ⊢ iprop(((cr c 5 k ∗ owed c (S.erase (6, k))) -∗ Ψ ⟨⟩) -∗ wpc c (sendC c k) Ψ) := by
  unfold sendC
  iintro ⟨#HC, Hp, ⟨Hd, Hr⟩, H1, H2, HO⟩
  iapply (talk_send (I := I) (K := K) c (zp c) 5 6 k rfl rfl (src := ch redM k) (dst := outOwn c k) (sem10 k) (sem11 k) (P := RedV I c) (q := qC)
    ((cred_own c k).trans (amt_big 6 (by decide)).symm) rfl hS (Entails.of_eq rfl)
    (fun fs fd h => (held_intro (red_moved I c (zp c) (zp_x c).symm k fs fd h)).trans (Entails.of_eq (own_moved_z c k).symm)))
  isplitr; · iexact HC
  isplitl [Hp]; · iexact Hp
  isplitl [Hd]; · iexact Hd
  isplitl [Hr]; · iexact Hr
  isplitl [H1]; · iexact H1
  isplitl [H2] <;> iassumption

theorem y_moved (c : Dev nD) (k : Fin 8) : (yP (zp c) c k (OutV I (zp c)) : sProp 𝕄) ⊢ dmaPay I (zp c) 8 k := by
  show _ ⊢ yP (zp c) (zp (zp c)) k (OutV I (zp c))
  rw [zp_zp]
theorem z_moved (c : Dev nD) (k : Fin 8) : (zP (yp c) c k (OutV I (yp c)) : sProp 𝕄) ⊢ dmaPay I (yp c) 10 k := by
  show _ ⊢ zP (yp c) (yp (yp c)) k (OutV I (yp c))
  rw [yp_yp]

theorem outY_moved (c : Dev nD) (k : Fin 8) (fs : Buf (Elt F) ((outY c k).view.loc (c : Thread nD τ)))
    (fd : Buf (Elt F) ((outY c k).view.loc (zp c : Thread nD τ))) (h : ∀ i ∈ (outY c k).view.set, OutV I c i (fs i)) :
    ∀ i ∈ (outY c k).view.set, OutV I (zp c) i ((outY c k).view.write (Elt F) fd ((outY c k).view.read (Elt F) fs) Finset.univ i) :=
  out_moved I (zp_x c).symm (Rect.unit (s := S4096x2048) (k0_off34 c (chW k)) S64x2048.size (k0_off34_inb c k)) (hr := fun _ => rfl) fs fd h
theorem outZ_moved (c : Dev nD) (k : Fin 8) (fs : Buf (Elt F) ((outZ c k).view.loc (c : Thread nD τ)))
    (fd : Buf (Elt F) ((outZ c k).view.loc (yp c : Thread nD τ))) (h : ∀ i ∈ (outZ c k).view.set, OutV I c i (fs i)) :
    ∀ i ∈ (outZ c k).view.set, OutV I (yp c) i ((outZ c k).view.write (Elt F) fd ((outZ c k).view.read (Elt F) fs) Finset.univ i) :=
  out_moved I (yp_x c).symm (Rect.unit (s := S4096x2048) (k0_off35 c (chW k)) S64x2048.size (k0_off35_inb c k)) (hr := fun _ => rfl) fs fd h

theorem sendC2_step (c : Dev nD) (k : Fin 8) (hS : ((8 : Fin 11), k) ∈ S) {Ψ : PUnit → sProp 𝕄} :
    iprop(Cx I K c ∗ yP c c k (OutV I c) ∗ (yP (zp c) c k anyV ∗ reached ER (dcell (zp c) 8 k) 0) ∗ tok c 7 k ∗ tok c 8 k ∗ owed c S)
      ⊢ iprop(((cr c 7 k ∗ owed c (S.erase (8, k))) -∗ Ψ ⟨⟩) -∗ wpc c (sendC2 c k) Ψ) := by
  unfold sendC2
  iintro ⟨#HC, Hp, ⟨Hd, Hr⟩, H1, H2, HO⟩
  iapply (talk_send (I := I) (K := K) c (zp c) 7 8 k rfl rfl (src := outY c k) (dst := outY c k) (sem12 k) (sem13 k) (P := OutV I c) (q := fullShare)
    ((cred_y c k).trans (amt_small 8 (by decide)).symm) rfl hS (Entails.of_eq rfl)
    (fun fs fd h => (held_intro (outY_moved c k fs fd h)).trans (y_moved c k)))
  isplitr; · iexact HC
  isplitl [Hp]; · iexact Hp
  isplitl [Hd]; · iexact Hd
  isplitl [Hr]; · iexact Hr
  isplitl [H1]; · iexact H1
  isplitl [H2] <;> iassumption

theorem sendD_step (c : Dev nD) (k : Fin 8) (hS : ((10 : Fin 11), k) ∈ S) {Ψ : PUnit → sProp 𝕄} :
    iprop(Cx I K c ∗ zP c c k (OutV I c) ∗ (zP (yp c) c k anyV ∗ reached ER (dcell (yp c) 10 k) 0) ∗ tok c 9 k ∗ tok c 10 k ∗ owed c S)
      ⊢ iprop(((cr c 9 k ∗ owed c (S.erase (10, k))) -∗ Ψ ⟨⟩) -∗ wpc c (sendD c k) Ψ) := by
  unfold sendD
  iintro ⟨#HC, Hp, ⟨Hd, Hr⟩, H1, H2, HO⟩
  iapply (talk_send (I := I) (K := K) c (yp c) 9 10 k rfl rfl (src := outZ c k) (dst := outZ c k) (sem14 k) (sem15 k) (P := OutV I c) (q := fullShare)
    ((cred_z c k).trans (amt_small 10 (by decide)).symm) rfl hS (Entails.of_eq rfl)
    (fun fs fd h => (held_intro (outZ_moved c k fs fd h)).trans (z_moved c k)))
  isplitr; · iexact HC
  isplitl [Hp]; · iexact Hp
  isplitl [Hd]; · iexact Hd
  isplitl [Hr]; · iexact Hr
  isplitl [H1]; · iexact H1
  isplitl [H2] <;> iassumption

/-- The reduced chunk goes into the own result: the cell hands both back. -/
theorem copyOut_step (c : Dev nD) (k : Fin 8) {Ψ : PUnit → sProp 𝕄} :
    iprop(Cx I K c ∗ redP c k qR (RedV I c) ∗ ownP c c k anyV ∗ tok c 0 k)
      ⊢ iprop((cr c 0 k -∗ Ψ ⟨⟩) -∗ wpc c (copyOut c k) Ψ) := by
  unfold copyOut
  iintro ⟨#HC, Hp, Hd, H1⟩
  iapply (talk_copy (I := I) (K := K) c 0 k rfl (src := ch redM k) (dst := outOwn c k) (sem5 k) (P := RedV I c) (q := qR)
    ((cred_own c k).trans (amt_big 0 (by decide)).symm)
    (fun fs fd h => BIClass.sep_mono (held_intro (red_moved I c c rfl k fs fd h)) (held_intro h)))
  isplitr; · iexact HC
  isplitl [Hp]; · iexact Hp
  isplitl [Hd] <;> iassumption

/-- Two waits in a row, of the sending and of the receiving side of an exchange. -/
theorem two_waits (c : Dev nD) (a b : Fin 11) (k : Fin 8) {p q : PR (F := F) PUnit}
    (hp : ∀ Ψ : PUnit → sProp 𝕄, iprop(Cx I K c ∗ cr c a k ∗ at0 c a k ∗ owed c S) ⊢ iprop(((dmaPay I c a k ∗ at1 c a k ∗ owed c S) -∗ Ψ ⟨⟩) -∗ wpc c p Ψ))
    (hq : ∀ Ψ : PUnit → sProp 𝕄, iprop(Cx I K c ∗ cr c b k ∗ at0 c b k ∗ owed c S) ⊢ iprop(((dmaPay I c b k ∗ at1 c b k ∗ owed c S) -∗ Ψ ⟨⟩) -∗ wpc c q Ψ)) {Ψ : PUnit → sProp 𝕄} :
    iprop(Cx I K c ∗ (at0 c a k ∗ at0 c b k ∗ cr c a k ∗ cr c b k) ∗ owed c S)
      ⊢ iprop(((dmaPay I c a k ∗ dmaPay I c b k ∗ (at1 c a k ∗ at1 c b k) ∗ owed c S) -∗ Ψ ⟨⟩) -∗ wpc c (p >>= fun _ => q) Ψ) := by
  iintro ⟨#HC, ⟨Ha, Hb, Hca, Hcb⟩, HO⟩ Hk
  unfold wpc
  rw [wp_bind]
  iapply (hp _) $$ [Ha Hca HO]
  · isplitr; · iexact HC
    isplitl [Hca]; · iexact Hca
    isplitl [Ha] <;> iassumption
  iintro ⟨Hp, Ha, HO⟩
  iapply (hq _) $$ [Hb Hcb HO]
  · isplitr; · iexact HC
    isplitl [Hcb]; · iexact Hcb
    isplitl [Hb] <;> iassumption
  iintro ⟨Hq, Hb, HO⟩
  iapply Hk
  isplitl [Hp]; · iexact Hp
  isplitl [Hq]; · iexact Hq
  isplitl [Ha Hb]
  · isplitl [Ha] <;> iassumption
  iexact HO

theorem waitA_step (c : Dev nD) (k : Fin 8) (h1 : ∀ p ∈ S, lvA 1 k < lvA p.1 p.2) (h2 : ∀ p ∈ S, lvA 2 k < lvA p.1 p.2) {Ψ : PUnit → sProp 𝕄} :
    iprop(Cx I K c ∗ (at0 c 1 k ∗ at0 c 2 k ∗ cr c 1 k ∗ cr c 2 k) ∗ owed c S)
      ⊢ iprop(((partP c k (PartV I c) ∗ recvP c k (PartV I (xp c)) ∗ (at1 c 1 k ∗ at1 c 2 k) ∗ owed c S) -∗ Ψ ⟨⟩) -∗ wpc c (waitA k) Ψ) :=
  two_waits c 1 2 k
    (fun Ψ => talk_wait c 1 k (sem6 k) ((cred_ch _ k).trans (amt_big 1 (by decide)).symm) h1)
    (fun Ψ => talk_wait c 2 k (sem7 k) ((cred_ch _ k).trans (amt_big 2 (by decide)).symm) h2)

theorem waitB_step (c : Dev nD) (k : Fin 8) (h1 : ∀ p ∈ S, lvA 3 k < lvA p.1 p.2) (h2 : ∀ p ∈ S, lvA 4 k < lvA p.1 p.2) {Ψ : PUnit → sProp 𝕄} :
    iprop(Cx I K c ∗ (at0 c 3 k ∗ at0 c 4 k ∗ cr c 3 k ∗ cr c 4 k) ∗ owed c S)
      ⊢ iprop(((redP c k qB (RedV I c) ∗ ownP c (yp c) k (OutV I c) ∗ (at1 c 3 k ∗ at1 c 4 k) ∗ owed c S) -∗ Ψ ⟨⟩) -∗ wpc c (waitB c k) Ψ) :=
  two_waits c 3 4 k
    (fun Ψ => talk_wait c 3 k (sem8 k) ((cred_ch _ k).trans (amt_big 3 (by decide)).symm) h1)
    (fun Ψ => talk_wait c 4 k (sem9 k) ((cred_own c k).trans (amt_big 4 (by decide)).symm) h2)

theorem waitC_step (c : Dev nD) (k : Fin 8) (h1 : ∀ p ∈ S, lvA 5 k < lvA p.1 p.2) (h2 : ∀ p ∈ S, lvA 6 k < lvA p.1 p.2) {Ψ : PUnit → sProp 𝕄} :
    iprop(Cx I K c ∗ (at0 c 5 k ∗ at0 c 6 k ∗ cr c 5 k ∗ cr c 6 k) ∗ owed c S)
      ⊢ iprop(((redP c k qC (RedV I c) ∗ ownP c (zp c) k (OutV I c) ∗ (at1 c 5 k ∗ at1 c 6 k) ∗ owed c S) -∗ Ψ ⟨⟩) -∗ wpc c (waitC c k) Ψ) :=
  two_waits c 5 6 k
    (fun Ψ => talk_wait c 5 k (sem10 k) ((cred_ch _ k).trans (amt_big 5 (by decide)).symm) h1)
    (fun Ψ => talk_wait c 6 k (sem11 k) ((cred_own c k).trans (amt_big 6 (by decide)).symm) h2)

end Cert.KernelIdeal.Talk
-- ==== Proof.Chunk.lean ====
/- The state of one chunk's exchange, and the steps from one state to the next. -/
module

public import proofs.«01_k».proof.Proof.Exchange

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F) {K : GSem nD τ sig → ℕ}

local notation "𝕄" => MT nD τ sig Unit (Elt F) ℕ UU ℕ

/-! ## The states -/

/-- An exchange not begun, with what pays for it; begun; done. -/
abbrev pr (c : Dev nD) (a b : Fin 11) (k : Fin 8) : sProp 𝕄 :=
  iprop(tok c a k ∗ tok c b k ∗ at0 c a k ∗ at0 c b k ∗ cr c b k)
abbrev sent (c : Dev nD) (a b : Fin 11) (k : Fin 8) : sProp 𝕄 :=
  iprop(at0 c a k ∗ at0 c b k ∗ cr c a k ∗ cr c b k)
abbrev fin (c : Dev nD) (a b : Fin 11) (k : Fin 8) : sProp 𝕄 := iprop(at1 c a k ∗ at1 c b k)

/-- What of the `y` neighbour's chunk is not passed on; of the `z` neighbour's. -/
abbrev restY (c : Dev nD) (k : Fin 8) : sProp 𝕄 :=
  held ((outOwn (yp c) k).view.loc (c : Thread nD τ)) ((outOwn (yp c) k).view.set \ (outY c k).view.set) fullShare (OutV I c)
abbrev restZ (c : Dev nD) (k : Fin 8) : sProp 𝕄 :=
  held ((outOwn (zp c) k).view.loc (c : Thread nD τ)) ((outOwn (zp c) k).view.set \ (outZ c k).view.set) fullShare (OutV I c)

/-- Chunk `k` before its first use. -/
def T1 (c : Dev nD) (k : Fin 8) : sProp 𝕄 :=
  iprop(partP c k anyV ∗ redP c k fullShare anyV ∗ ownP c c k anyV ∗ peerX c k ∗ peerY c k ∗ peerZ c k
    ∗ (tok c 0 k ∗ at0 c 0 k) ∗ pr c 1 2 k ∗ pr c 3 4 k ∗ pr c 5 6 k ∗ pr c 7 8 k ∗ pr c 9 10 k)
/-- Sent to the `x` neighbour. -/
def T2 (c : Dev nD) (k : Fin 8) : sProp 𝕄 :=
  iprop(redP c k fullShare anyV ∗ ownP c c k anyV ∗ peerY c k ∗ peerZ c k
    ∗ (tok c 0 k ∗ at0 c 0 k) ∗ sent c 1 2 k ∗ pr c 3 4 k ∗ pr c 5 6 k ∗ pr c 7 8 k ∗ pr c 9 10 k)
/-- Combined and sent round. -/
def T3 (c : Dev nD) (k : Fin 8) : sProp 𝕄 :=
  iprop(partP c k anyV ∗ recvP c k anyV
    ∗ (yP (zp c) c k anyV ∗ reached ER (dcell (zp c) 8 k) 0) ∗ (zP (yp c) c k anyV ∗ reached ER (dcell (yp c) 10 k) 0)
    ∗ (at0 c 0 k ∗ cr c 0 k) ∗ fin c 1 2 k ∗ sent c 3 4 k ∗ sent c 5 6 k ∗ pr c 7 8 k ∗ pr c 9 10 k)
/-- Passed on. -/
def T4 (c : Dev nD) (k : Fin 8) : sProp 𝕄 :=
  iprop(partP c k anyV ∗ recvP c k anyV ∗ (redP c k qB (RedV I c) ∗ redP c k qC (RedV I c)) ∗ (restY I c k ∗ restZ I c k)
    ∗ (at0 c 0 k ∗ cr c 0 k) ∗ fin c 1 2 k ∗ fin c 3 4 k ∗ fin c 5 6 k ∗ sent c 7 8 k ∗ sent c 9 10 k)
/-- Everything has landed. -/
def T5 (c : Dev nD) (k : Fin 8) : sProp 𝕄 :=
  iprop(partP c k anyV ∗ recvP c k anyV ∗ redP c k fullShare anyV
    ∗ (ownP c c k (OutV I c) ∗ ownP c (yp c) k (OutV I c) ∗ ownP c (zp c) k (OutV I c)
      ∗ yP c (zp c) k (OutV I c) ∗ zP c (yp c) k (OutV I c))
    ∗ at1 c 0 k ∗ fin c 1 2 k ∗ fin c 3 4 k ∗ fin c 5 6 k ∗ fin c 7 8 k ∗ fin c 9 10 k)

/-- The mask column, as called with. -/
abbrev maskP (c : Dev nD) : sProp 𝕄 := (maskM.view.loc (c : Thread nD τ) ↦[Finset.univ]{fullShare} (I.mask c))

/-- Chunk `k` of the gathered buffer. -/
abbrev gathP (c : Dev nD) (k : Fin 8) (P : S1024x2048.Idx → Elt F .f32 → Prop) : sProp 𝕄 :=
  held ((gathM.access (chR k)).loc (c : Thread nD τ)) (gathM.access (chR k)).set fullShare P

variable {I}

/-! ## The vector steps -/

theorem cast_step (c : Dev nD) (k : Fin 8) {Ψ : PUnit → sProp 𝕄} :
    iprop(gathP c k (GathV I c) ∗ partP c k anyV)
      ⊢ iprop(((gathP c k anyV ∗ partP c k (PartV I c)) -∗ Ψ ⟨⟩) -∗ wpc c (Steps.cast k) Ψ) := by
  unfold Steps.cast wpc gathP partP
  iintro ⟨Hg, Hp⟩ Hk
  unfold held
  icases Hg with ⟨%fg, %hg, Hg⟩
  icases Hp with ⟨%fp, -, Hp⟩
  rw [wp_bind]
  iapply (wp_load_rect 𝒱₀ (c : Thread nD τ) none Set.univ (m := gathM) (r := chR k) (S := (gathM.access (chR k)).set) (f := fg) (Finset.Subset.refl _)) $$ Hg
  iintro Hg
  rw [wp_ret]; imodintro
  rw [wp_bind]
  iapply (wp_load_rect 𝒱₀ (c : Thread nD τ) none Set.univ (m := partM) (r := chR k) (S := (partM.access (chR k)).set) (f := fp) (Finset.Subset.refl _)) $$ Hp
  iintro Hp
  rw [wp_ret]; imodintro
  iapply (wp_store 𝒱₀ (c : Thread nD τ) none Set.univ (m := partM) (r := chR k) (S := (partM.access (chR k)).set) (f := fp) (Finset.Subset.refl _)) $$ Hp
  iintro Hp
  rw [wp_ret]; imodintro
  iapply Hk
  isplitl [Hg]
  · iexists fg; isplitr
    · ipureintro; exact fun _ _ => trivial
    · iexact Hg
  · iexists _; isplitr
    rotate_left
    · iexact Hp
    · ipureintro; exact cast_ok I c k fg fp hg

theorem reduce_step (c : Dev nD) (k : Fin 8) {Ψ : PUnit → sProp 𝕄} :
    iprop(maskP I c ∗ partP c k (PartV I c) ∗ recvP c k (PartV I (xp c)) ∗ redP c k fullShare anyV)
      ⊢ iprop(((maskP I c ∗ partP c k anyV ∗ recvP c k anyV ∗ redP c k fullShare (RedV I c)) -∗ Ψ ⟨⟩) -∗ wpc c (reduce k) Ψ) := by
  unfold reduce wpc maskP recvP partP redP
  iintro ⟨Hm, Hp, Hr, Ho⟩ Hk
  unfold held
  icases Hp with ⟨%fp, %hp, Hp⟩
  icases Hr with ⟨%fr, %hr, Hr⟩
  icases Ho with ⟨%fo, -, Ho⟩
  rw [wp_bind]
  iapply (wp_load_rect 𝒱₀ (c : Thread nD τ) none Set.univ (m := maskM) (r := chmR k) (S := Finset.univ) (f := I.mask c) (Finset.subset_univ _)) $$ Hm
  iintro Hm
  rw [wp_ret]; imodintro
  rw [wp_bind]
  iapply (wp_load_rect 𝒱₀ (c : Thread nD τ) none Set.univ (m := partM) (r := chR k) (S := (partM.access (chR k)).set) (f := fp) (Finset.Subset.refl _)) $$ Hp
  iintro Hp
  rw [wp_ret]; imodintro
  rw [wp_bind]
  iapply (wp_load_rect 𝒱₀ (c : Thread nD τ) none Set.univ (m := recvM) (r := chR k) (S := (recvM.access (chR k)).set) (f := fr) (Finset.Subset.refl _)) $$ Hr
  iintro Hr
  rw [wp_ret]; imodintro
  rw [wp_bind]
  iapply (wp_load_rect 𝒱₀ (c : Thread nD τ) none Set.univ (m := redM) (r := chR k) (S := (redM.access (chR k)).set) (f := fo) (Finset.Subset.refl _)) $$ Ho
  iintro Ho
  rw [wp_ret]; imodintro
  iapply (wp_store 𝒱₀ (c : Thread nD τ) none Set.univ (m := redM) (r := chR k) (S := (redM.access (chR k)).set) (f := fo) (Finset.Subset.refl _)) $$ Ho
  iintro Ho
  rw [wp_ret]; imodintro
  iapply Hk
  isplitl [Hm]; · iexact Hm
  isplitl [Hp]
  · iexists fp; isplitr
    · ipureintro; exact fun _ _ => trivial
    · iexact Hp
  isplitl [Hr]
  · iexists fr; isplitr
    · ipureintro; exact fun _ _ => trivial
    · iexact Hr
  · iexists _; isplitr
    rotate_left
    · iexact Ho
    · ipureintro; exact reduce_ok I c k (I.mask c) fp fr fo rfl hp hr

/-! ## From state to state -/

variable {S : Finset (Fin 11 × Fin 8)}

/-- The rounded chunk is sent. -/
theorem send_step (c : Dev nD) (k : Fin 8) (hS : ((2 : Fin 11), k) ∈ S) {Ψ : PUnit → sProp 𝕄} :
    iprop(Cx I K c ∗ gathP c k (GathV I c) ∗ T1 c k ∗ owed c S)
      ⊢ iprop(((gathP c k anyV ∗ T2 c k ∗ owed c (S.erase (2, k))) -∗ Ψ ⟨⟩) -∗ wpc c (do Steps.cast k; sendA c k) Ψ) := by
  unfold wpc T1 T2
  iintro ⟨#HC, Hg, ⟨Hp, Hr, Ho, HX, HY, HZ, H0, ⟨Ht1, Ht2, Ha1, Ha2, Hc2⟩, Hrest⟩, HO⟩ Hk
  rw [wp_bind]
  iapply (cast_step c k) $$ [Hg Hp]
  · isplitl [Hg] <;> iassumption
  iintro ⟨Hg, Hp⟩
  iapply (sendA_step (K := K) c k hS) $$ [Hp HX Ht1 Ht2 HO]
  · isplitr; · iexact HC
    isplitl [Hp]; · iexact Hp
    isplitl [HX]; · iexact HX
    isplitl [Ht1]; · iexact Ht1
    isplitl [Ht2] <;> iassumption
  iintro ⟨Hc1, HO⟩
  iapply Hk
  isplitl [Hg]; · iexact Hg
  isplitr [HO]
  rotate_left
  · iexact HO
  isplitl [Hr]; · iexact Hr
  isplitl [Ho]; · iexact Ho
  isplitl [HY]; · iexact HY
  isplitl [HZ]; · iexact HZ
  isplitl [H0]; · iexact H0
  isplitr [Hrest]
  · isplitl [Ha1]; · iexact Ha1
    isplitl [Ha2]; · iexact Ha2
    isplitl [Hc1] <;> iassumption
  iexact Hrest

/-- The exchange with `x` is done, the chunk is combined and goes three ways. -/
theorem second_step (c : Dev nD) (k : Fin 8) (hB : ((4 : Fin 11), k) ∈ S) (hC : ((6 : Fin 11), k) ∈ S)
    (h1 : ∀ p ∈ S, lvA 1 k < lvA p.1 p.2) (h2 : ∀ p ∈ S, lvA 2 k < lvA p.1 p.2) {Ψ : PUnit → sProp 𝕄} :
    iprop(Cx I K c ∗ maskP I c ∗ T2 c k ∗ owed c S)
      ⊢ iprop(((maskP I c ∗ T3 c k ∗ owed c ((S.erase (4, k)).erase (6, k))) -∗ Ψ ⟨⟩) -∗ wpc c (second c k) Ψ) := by
  unfold wpc second T2 T3 peerY peerZ
  iintro ⟨#HC, Hm, ⟨Hr, Ho, ⟨HYB, HYD⟩, ⟨HZC, HZC2⟩, ⟨Ht0, Ha0⟩, Hs12, ⟨Ht3, Ht4, Ha3, Ha4, Hc4⟩, ⟨Ht5, Ht6, Ha5, Ha6, Hc6⟩, Hrest⟩, HO⟩ Hk
  rw [wp_bind]
  iapply (waitA_step (K := K) c k h1 h2) $$ [Hs12 HO]
  · isplitr; · iexact HC
    isplitl [Hs12] <;> iassumption
  iintro ⟨Hp, Hv, Hf12, HO⟩
  rw [wp_bind]
  iapply (reduce_step c k) $$ [Hm Hp Hv Hr]
  · isplitl [Hm]; · iexact Hm
    isplitl [Hp]; · iexact Hp
    isplitl [Hv] <;> iassumption
  iintro ⟨Hm, Hp, Hv, Hr⟩
  ihave Hr := held_share $$ Hr
  icases Hr with ⟨Hr, Hr'⟩
  ihave Hr' := held_share $$ Hr'
  icases Hr' with ⟨HrB, HrC⟩
  rw [wp_bind]
  iapply (copyOut_step (K := K) c k) $$ [Hr Ho Ht0]
  · isplitr; · iexact HC
    isplitl [Hr]; · iexact Hr
    isplitl [Ho] <;> iassumption
  iintro Hc0
  rw [wp_bind]
  iapply (sendB_step (K := K) c k hB) $$ [HrB HYB Ht3 Ht4 HO]
  · isplitr; · iexact HC
    isplitl [HrB]; · iexact HrB
    isplitl [HYB]; · iexact HYB
    isplitl [Ht3]; · iexact Ht3
    isplitl [Ht4] <;> iassumption
  iintro ⟨Hc3, HO⟩
  iapply (sendC_step (K := K) (S := S.erase (4, k)) c k (Finset.mem_erase.mpr ⟨fun e => absurd (show (6 : Fin 11) = 4 from congrArg Prod.fst e) (by decide), hC⟩)) $$ [HrC HZC Ht5 Ht6 HO]
  · isplitr; · iexact HC
    isplitl [HrC]; · iexact HrC
    isplitl [HZC]; · iexact HZC
    isplitl [Ht5]; · iexact Ht5
    isplitl [Ht6] <;> iassumption
  iintro ⟨Hc5, HO⟩
  iapply Hk
  isplitl [Hm]; · iexact Hm
  isplitr [HO]
  rotate_left
  · iexact HO
  isplitl [Hp]; · iexact Hp
  isplitl [Hv]; · iexact Hv
  isplitl [HZC2]; · iexact HZC2
  isplitl [HYD]; · iexact HYD
  isplitl [Ha0 Hc0]
  · isplitl [Ha0] <;> iassumption
  isplitl [Hf12]; · iexact Hf12
  isplitl [Ha3 Ha4 Hc3 Hc4]
  · isplitl [Ha3]; · iexact Ha3
    isplitl [Ha4]; · iexact Ha4
    isplitl [Hc3] <;> iassumption
  isplitl [Ha5 Ha6 Hc5 Hc6]
  · isplitl [Ha5]; · iexact Ha5
    isplitl [Ha6]; · iexact Ha6
    isplitl [Hc5] <;> iassumption
  iexact Hrest

/-- The exchanges with `y` and `z` are done, half of each is passed on. -/
theorem forward_step (c : Dev nD) (k : Fin 8) (hC2 : ((8 : Fin 11), k) ∈ S) (hD : ((10 : Fin 11), k) ∈ S)
    (h : ∀ p ∈ S, ∀ a : Fin 11, 3 ≤ a.val → a.val ≤ 6 → lvA a k < lvA p.1 p.2) {Ψ : PUnit → sProp 𝕄} :
    iprop(Cx I K c ∗ T3 c k ∗ owed c S)
      ⊢ iprop(((T4 I c k ∗ owed c ((S.erase (8, k)).erase (10, k))) -∗ Ψ ⟨⟩) -∗ wpc c (forward c k) Ψ) := by
  unfold wpc forward T3 T4
  iintro ⟨#HC, ⟨Hp, Hv, HZ, HY, H0, Hf12, Hs34, Hs56, ⟨Ht7, Ht8, Ha7, Ha8, Hc8⟩, ⟨Ht9, Ht10, Ha9, Ha10, Hc10⟩⟩, HO⟩ Hk
  rw [wp_bind]
  iapply (waitB_step (K := K) c k (fun p hp => h p hp 3 (by decide) (by decide)) (fun p hp => h p hp 4 (by decide) (by decide))) $$ [Hs34 HO]
  · isplitr; · iexact HC
    isplitl [Hs34] <;> iassumption
  iintro ⟨HrB, HoY, Hf34, HO⟩
  ihave HoY := (held_split (outY_sub c k)) $$ HoY
  icases HoY with ⟨HoY, HrY⟩
  rw [wp_bind]
  iapply (sendC2_step (K := K) c k hC2) $$ [HoY HZ Ht7 Ht8 HO]
  · isplitr; · iexact HC
    isplitl [HoY]; · iexact HoY
    isplitl [HZ]; · iexact HZ
    isplitl [Ht7]; · iexact Ht7
    isplitl [Ht8] <;> iassumption
  iintro ⟨Hc7, HO⟩
  rw [wp_bind]
  iapply (waitC_step (K := K) c k (fun p hp => h p (Finset.mem_of_mem_erase hp) 5 (by decide) (by decide)) (fun p hp => h p (Finset.mem_of_mem_erase hp) 6 (by decide) (by decide))) $$ [Hs56 HO]
  · isplitr; · iexact HC
    isplitl [Hs56] <;> iassumption
  iintro ⟨HrC, HoZ, Hf56, HO⟩
  ihave HoZ := (held_split (outZ_sub c k)) $$ HoZ
  icases HoZ with ⟨HoZ, HrZ⟩
  iapply (sendD_step (K := K) (S := S.erase (8, k)) c k (Finset.mem_erase.mpr ⟨fun e => absurd (show (10 : Fin 11) = 8 from congrArg Prod.fst e) (by decide), hD⟩)) $$ [HoZ HY Ht9 Ht10 HO]
  · isplitr; · iexact HC
    isplitl [HoZ]; · iexact HoZ
    isplitl [HY]; · iexact HY
    isplitl [Ht9]; · iexact Ht9
    isplitl [Ht10] <;> iassumption
  iintro ⟨Hc9, HO⟩
  iapply Hk
  isplitr [HO]
  rotate_left
  · iexact HO
  isplitl [Hp]; · iexact Hp
  isplitl [Hv]; · iexact Hv
  isplitl [HrB HrC]
  · isplitl [HrB] <;> iassumption
  isplitl [HrY HrZ]
  · isplitl [HrY] <;> iassumption
  isplitl [H0]; · iexact H0
  isplitl [Hf12]; · iexact Hf12
  isplitl [Hf34]; · iexact Hf34
  isplitl [Hf56]; · iexact Hf56
  isplitl [Ha7 Ha8 Hc7 Hc8]
  · isplitl [Ha7]; · iexact Ha7
    isplitl [Ha8]; · iexact Ha8
    isplitl [Hc7] <;> iassumption
  isplitl [Ha9]; · iexact Ha9
  isplitl [Ha10]; · iexact Ha10
  isplitl [Hc9] <;> iassumption

/-- What is in flight of the chunk is waited for. -/
theorem finish_step (c : Dev nD) (k : Fin 8) (h : ∀ p ∈ S, ∀ a : Fin 11, lvA a k < lvA p.1 p.2) {Ψ : PUnit → sProp 𝕄} :
    iprop(Cx I K c ∗ T4 I c k ∗ owed c S)
      ⊢ iprop(((T5 I c k ∗ owed c S) -∗ Ψ ⟨⟩) -∗ wpc c (finish c k) Ψ) := by
  unfold wpc finish T4 T5
  iintro ⟨#HC, ⟨Hp, Hv, ⟨HrB, HrC⟩, ⟨HrY, HrZ⟩, ⟨Ha0, Hc0⟩, Hf12, Hf34, Hf56, ⟨Ha7, Ha8, Hc7, Hc8⟩, ⟨Ha9, Ha10, Hc9, Hc10⟩⟩, HO⟩ Hk
  rw [wp_bind]
  iapply (talk_wait (I := I) (K := K) (S := S) c 7 k (sem12 k) ((cred_y c k).trans (amt_small 7 (by decide)).symm) (fun p hp => h p hp 7)) $$ [Ha7 Hc7 HO]
  · isplitr; · iexact HC
    isplitl [Hc7]; · iexact Hc7
    isplitl [Ha7] <;> iassumption
  iintro ⟨HoY, Ha7, HO⟩
  rw [wp_bind]
  iapply (talk_wait (I := I) (K := K) (S := S) c 8 k (sem13 k) ((cred_y c k).trans (amt_small 8 (by decide)).symm) (fun p hp => h p hp 8)) $$ [Ha8 Hc8 HO]
  · isplitr; · iexact HC
    isplitl [Hc8]; · iexact Hc8
    isplitl [Ha8] <;> iassumption
  iintro ⟨HY8, Ha8, HO⟩
  rw [wp_bind]
  iapply (talk_wait (I := I) (K := K) (S := S) c 9 k (sem14 k) ((cred_z c k).trans (amt_small 9 (by decide)).symm) (fun p hp => h p hp 9)) $$ [Ha9 Hc9 HO]
  · isplitr; · iexact HC
    isplitl [Hc9]; · iexact Hc9
    isplitl [Ha9] <;> iassumption
  iintro ⟨HoZ, Ha9, HO⟩
  rw [wp_bind]
  iapply (talk_wait (I := I) (K := K) (S := S) c 10 k (sem15 k) ((cred_z c k).trans (amt_small 10 (by decide)).symm) (fun p hp => h p hp 10)) $$ [Ha10 Hc10 HO]
  · isplitr; · iexact HC
    isplitl [Hc10]; · iexact Hc10
    isplitl [Ha10] <;> iassumption
  iintro ⟨HZ10, Ha10, HO⟩
  iapply (talk_wait (I := I) (K := K) (S := S) c 0 k (sem5 k) ((cred_own c k).trans (amt_big 0 (by decide)).symm) (fun p hp => h p hp 0)) $$ [Ha0 Hc0 HO]
  · isplitr; · iexact HC
    isplitl [Hc0]; · iexact Hc0
    isplitl [Ha0] <;> iassumption
  iintro ⟨Hp0, Ha0, HO⟩
  ihave Hp0 := (Entails.of_eq (show dmaPay I c 0 k = iprop(ownP c c k (OutV I c) ∗ redP c k qR (RedV I c)) from rfl)) $$ Hp0
  icases Hp0 with ⟨Hown, HrR⟩
  ihave HoY := (Entails.of_eq (show dmaPay I c 7 k = yP c c k (OutV I c) from rfl)) $$ HoY
  ihave HY8 := (Entails.of_eq (show dmaPay I c 8 k = yP c (zp c) k (OutV I c) from rfl)) $$ HY8
  ihave HoZ := (Entails.of_eq (show dmaPay I c 9 k = zP c c k (OutV I c) from rfl)) $$ HoZ
  ihave HZ10 := (Entails.of_eq (show dmaPay I c 10 k = zP c (yp c) k (OutV I c) from rfl)) $$ HZ10
  ihave Hr' := held_unshare $$ [HrB HrC]
  · isplitl [HrB] <;> iassumption
  ihave Hr := held_unshare $$ [HrR Hr']
  · isplitl [HrR] <;> iassumption
  ihave HoY := (held_join (ℓ := (outOwn (yp c) k).view.loc (c : Thread nD τ)) (q := fullShare) (P := OutV I c) (outY_sub c k)) $$ [HoY HrY]
  · isplitl [HoY]; · iexact HoY
    iexact HrY
  ihave HoZ := (held_join (ℓ := (outOwn (zp c) k).view.loc (c : Thread nD τ)) (q := fullShare) (P := OutV I c) (outZ_sub c k)) $$ [HoZ HrZ]
  · isplitl [HoZ]; · iexact HoZ
    iexact HrZ
  iapply Hk
  isplitr [HO]
  rotate_left
  · iexact HO
  isplitl [Hp]; · iexact Hp
  isplitl [Hv]; · iexact Hv
  isplitl [Hr]
  · iapply (held_mono (fun _ _ _ _ => trivial)) $$ Hr
  isplitl [Hown HoY HoZ HY8 HZ10]
  · isplitl [Hown]; · iexact Hown
    isplitl [HoY]; · iexact HoY
    isplitl [HoZ]; · iexact HoZ
    isplitl [HY8]; · iexact HY8
    iexact HZ10
  isplitl [Ha0]; · iexact Ha0
  isplitl [Hf12]; · iexact Hf12
  isplitl [Hf34]; · iexact Hf34
  isplitl [Hf56]; · iexact Hf56
  isplitl [Ha7 Ha8]
  · isplitl [Ha7] <;> iassumption
  isplitl [Ha9] <;> iassumption

end Cert.KernelIdeal.Talk
-- ==== Proof.Gather.lean ====
/- The gather of one chunk: a row fetched for each owned token, all on one semaphore, drained by as many waits. -/
module

public import proofs.«01_k».proof.Proof.Chunk

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F) {K : GSem nD τ sig → ℕ}

local notation "𝕄" => MT nD τ sig Unit (Elt F) ℕ UU ℕ

abbrev Trip : Type := Fin gLoop.trips

/-- One summand out of a sum over everything. -/
theorem split_at {J : Type} [Fintype J] [DecidableEq J] (j : J) (Φ : J → sProp 𝕄) :
    bigSep Finset.univ Φ = iprop(Φ j ∗ bigSep (Finset.univ.erase j) Φ) := bigSep_univ_split j

/-! ## Counting the owned tokens -/

/-- The trips of chunk `k` whose token device `c` owns. -/
def ownS (c : Dev nD) (k : Fin 8) : Finset Trip := Finset.univ.filter fun t => (I.own c (tokI k t) : BitVec 32) = 1#32

theorem mem_ownS {c : Dev nD} {k : Fin 8} {t : Trip} : t ∈ ownS I c k ↔ I.own c (tokI k t) = 1#32 := by
  unfold ownS; simp only [Finset.mem_filter, Finset.mem_univ, true_and]

/-- How many of them come before `t`. -/
def before (c : Dev nD) (k : Fin 8) (t : ℕ) : ℕ := ((ownS I c k).filter fun s => s.val < t).card

theorem before_zero (c : Dev nD) (k : Fin 8) : before I c k 0 = 0 := by
  unfold before; rw [Finset.card_eq_zero, Finset.filter_eq_empty_iff]; intro s _; omega
theorem before_all (c : Dev nD) (k : Fin 8) : before I c k gLoop.trips = (ownS I c k).card := by
  unfold before; rw [Finset.filter_true_of_mem]; exact fun s _ => s.isLt
theorem before_mono (c : Dev nD) (k : Fin 8) {s t : ℕ} (h : s ≤ t) : before I c k s ≤ before I c k t :=
  Finset.card_le_card fun x hx => by
    simp only [Finset.mem_filter] at hx ⊢; exact ⟨hx.1, by omega⟩
theorem before_own (c : Dev nD) (k : Fin 8) (t : Trip) (h : t ∈ ownS I c k) : before I c k (t.val + 1) = before I c k t.val + 1 := by
  unfold before
  rw [← Finset.card_insert_of_notMem (s := (ownS I c k).filter fun s => s.val < t.val) (a := t) (by simp)]
  congr 1
  ext s
  simp only [Finset.mem_filter, Finset.mem_insert]
  constructor
  · rintro ⟨h1, h2⟩
    by_cases e : s = t
    · exact .inl e
    · exact .inr ⟨h1, by have : s.val ≠ t.val := fun h => e (Fin.ext h); omega⟩
  · rintro (rfl | ⟨h1, h2⟩)
    · exact ⟨h, by omega⟩
    · exact ⟨h1, by omega⟩
theorem before_not (c : Dev nD) (k : Fin 8) (t : Trip) (h : t ∉ ownS I c k) : before I c k (t.val + 1) = before I c k t.val := by
  unfold before
  congr 1
  ext s
  simp only [Finset.mem_filter]
  constructor
  · rintro ⟨h1, h2⟩
    exact ⟨h1, by have : s.val ≠ t.val := fun e => h (Fin.ext e ▸ h1); omega⟩
  · rintro ⟨h1, h2⟩; exact ⟨h1, by omega⟩
theorem before_lt (c : Dev nD) (k : Fin 8) (t : Trip) (h : t ∈ ownS I c k) : before I c k t.val < (ownS I c k).card := by
  have h1 := before_own I c k t h
  have h2 := before_mono I c k (s := t.val + 1) (t := gLoop.trips) t.isLt
  rw [before_all] at h2
  omega
/-- The `j`-th owned trip is one. -/
theorem before_inj (c : Dev nD) (k : Fin 8) (t : Trip) (h : t ∈ ownS I c k) :
    (ownS I c k).filter (fun s => before I c k s.val = before I c k t.val) = {t} := by
  ext s
  simp only [Finset.mem_filter, Finset.mem_singleton]
  constructor
  · rintro ⟨hs, e⟩
    rcases lt_trichotomy s.val t.val with hl | hl | hl
    · have h1 := before_own I c k s hs
      have h2 := before_mono I c k (s := s.val + 1) (t := t.val) hl
      omega
    · exact Fin.ext hl
    · have h1 := before_own I c k t h
      have h2 := before_mono I c k (s := t.val + 1) (t := s.val) hl
      omega
  · rintro rfl; exact ⟨h, rfl⟩

/-- Chunk `k`'s entry of the counts. -/
def cntI (k : Fin 8) : S8.Idx := fun a => match a with | ⟨0, _⟩ => k

/-- What the host code makes sure of: an owned token's row lies in the table, and the counts count the owned tokens. -/
structure In.Good : Prop where
  row : ∀ (c : Dev nD) (t : S1024.Idx), I.own c t = 1#32 → (I.lids c t : BitVec 32).toNat < 8192
  count : ∀ (c : Dev nD) (k : Fin 8), (I.cnt c (cntI k) : BitVec 32).toNat = (ownS I c k).card

/-! ## The pieces -/

/-- The elements of row `w` of the table. -/
def srcSet (w : BitVec 32) : Finset S8192x2048.Idx := Finset.univ.filter fun i => (i 0).val = w.toNat

theorem srcM_set (w : BitVec 32) (h) : (srcM w h).view.set = srcSet w := by
  refine Eq.trans (View.set_slice_whole main_arg1 (Rect.unit (k0_off4 w) S1x2048.size h)) ?_
  ext i
  rw [Rect.mem_set_unit]
  unfold srcSet
  simp only [Finset.mem_filter, Finset.mem_univ, true_and]
  have h1 : (i 1).val < 2048 := (i 1).isLt
  constructor
  · intro hh
    have := hh 0
    exact Nat.le_antisymm (by have h3 : (i 0).val < w.toNat + 1 := this.2; omega) this.1
  · intro hh a
    match a with
    | ⟨0, _⟩ => exact ⟨le_of_eq hh.symm, by show (i 0).val < w.toNat + 1; omega⟩
    | ⟨1, _⟩ => exact ⟨Nat.zero_le _, by show (i 1).val < 0 + 2048; omega⟩

/-- The share of the table with which row `t` of chunk `k` is fetched. -/
def tq (k : Fin 8) (t : Trip) : PosShare TreeShare := dealOf (dealOf fullShare Finset.univ k) Finset.univ t

/-- The table of device `c`. -/
abbrev tabL (c : Dev nD) : Loc nD τ sig := tabM.view.loc (c : Thread nD τ)

/-- The table at trip `t`'s share; its row that the trip fetches; what is left. -/
abbrev tabT (c : Dev nD) (k : Fin 8) (t : Trip) : sProp 𝕄 := (tabL c ↦[Finset.univ]{tq k t} (I.tab c))
abbrev tabRow (c : Dev nD) (k : Fin 8) (t : Trip) : sProp 𝕄 := (tabL c ↦[srcSet (I.lids c (tokI k t))]{tq k t} (I.tab c))
abbrev tabRest (c : Dev nD) (k : Fin 8) (t : Trip) : sProp 𝕄 :=
  (tabL c ↦[(Finset.univ : Finset S8192x2048.Idx) \ srcSet (I.lids c (tokI k t))]{tq k t} (I.tab c))

theorem tab_split (c : Dev nD) (k : Fin 8) (t : Trip) : (tabT I c k t : sProp 𝕄) ⊣⊢ iprop(tabRow I c k t ∗ tabRest I c k t) :=
  pointsTo_split_subset (ℓ := tabL c) (Finset.subset_univ _)

abbrev rowP (c : Dev nD) (k : Fin 8) (t : Trip) (P : S1024x2048.Idx → Elt F .f32 → Prop) : sProp 𝕄 :=
  held ((rowM k t).view.loc (c : Thread nD τ)) (rowM k t).view.set fullShare P

/-- What trip `t`'s copy hands back. -/
def deliver (c : Dev nD) (k : Fin 8) (t : Trip) : sProp 𝕄 := iprop(rowP c k t (GathV I c) ∗ tabRow I c k t)
instance deliver_storable (c : Dev nD) (k : Fin 8) (t : Trip) : Storable (upEmb : UEmb _ 𝕄) (deliver I c k t) := by
  unfold deliver; infer_instance

/-- The same by the number of the copy. -/
def deliv (c : Dev nD) (k : Fin 8) (j : Fin (ownS I c k).card) : sProp 𝕄 :=
  bigSep ((ownS I c k).filter fun s => before I c k s.val = j.val) (deliver I c k)
instance deliv_storable (c : Dev nD) (k : Fin 8) (j : Fin (ownS I c k).card) : Storable (upEmb : UEmb _ 𝕄) (deliv I c k j) := by
  unfold deliv; infer_instance

theorem deliv_all (c : Dev nD) (k : Fin 8) : bigSep Finset.univ (deliv I c k) ⊢ bigSep (ownS I c k) (deliver I c k) := by
  unfold deliv
  refine BI.Entails.trans (bigSep_biUnion _ _) (BI.BIBase.Entails.of_eq (congrArg (fun S => bigSep S (deliver I c k)) ?_))
  ext s
  simp only [Finset.mem_biUnion, Finset.mem_filter, Finset.mem_univ, true_and]
  constructor
  · rintro ⟨j, h, -⟩; exact h
  · intro h; exact ⟨⟨_, before_lt I c k s h⟩, h, rfl⟩

/-- Row `s` after `t` trips. -/
def rowAt (c : Dev nD) (k : Fin 8) (t : ℕ) (s : Trip) : sProp 𝕄 :=
  if s.val < t ∧ s ∈ ownS I c k then tabRest I c k s else iprop(rowP c k s anyV ∗ tabT I c k s)

/-- The batch of chunk `k`'s copies. -/
abbrev batch (c : Dev nD) (k : Fin 8) (j u : ℕ) : sProp 𝕄 :=
  Batch (Val := Elt F) EC (c : Thread nD τ) (.dma (gsem k)) () Nrow (deliv I c k) j u

/-- The scalar tables, as called with. -/
abbrev ownT (c : Dev nD) : sProp 𝕄 := (ownM.view.loc (c : Thread nD τ) ↦[Finset.univ]{fullShare} (I.own c))
abbrev lidsT (c : Dev nD) : sProp 𝕄 := (lidsM.view.loc (c : Thread nD τ) ↦[Finset.univ]{fullShare} (I.lids c))
abbrev cntT (c : Dev nD) : sProp 𝕄 := (cntM.view.loc (c : Thread nD τ) ↦[Finset.univ]{fullShare} (I.cnt c))

/-! ## Issuing -/

theorem cond1_iff (v : BitVec 32) : k0_cond1 v = 1#1 ↔ v = 1#32 := by
  have e : k0_cond1 v = Scalar.cmpi .ne (Scalar.extui (Scalar.cmpi .eq v 1#32)) 0#32 := rfl
  rw [e]
  by_cases h : v = 1#32
  · subst h; exact ⟨fun _ => rfl, fun _ => by decide⟩
  · refine ⟨fun h' => absurd h' ?_, fun h' => absurd h' h⟩
    have e2 : Scalar.cmpi .eq v 1#32 = 0#1 := by
      show BitVec.ofBool (v == 1#32) = 0#1
      rw [beq_false_of_ne h]; rfl
    rw [e2]; decide

theorem own_read (c : Dev nD) (k : Fin 8) (t : Trip) (x) :
    (ownM.access (Rect.unit (s := S1024) (tok1 k t) S1.size (tok1_inb k t))).read (Elt F) (I.own c) x = I.own c (tokI k t) := by
  show I.own c ((ownM.access (Rect.unit (s := S1024) (tok1 k t) S1.size (tok1_inb k t))).emb x) = _
  congr 1
  funext a
  apply Fin.ext
  refine (ValueKit.view_emb_slice_whole_unit_val cc0_stg1_0 (tok1 k t) S1.size (tok1_inb k t) x a).trans ?_
  match a with
  | ⟨0, _⟩ =>
    have hx : (x 0).val < 1 := (x 0).isLt
    have : (Scalar.indexCast (tokW k t)).toNat = 128 * k.val + t.val := (tokW_val k t)
    show (Scalar.indexCast (tokW k t)).toNat + (x 0).val = 128 * k.val + t.val
    omega
theorem lids_read (c : Dev nD) (k : Fin 8) (t : Trip) (x) :
    (lidsM.access (Rect.unit (s := S1024) (tok1 k t) S1.size (tok1_inb k t))).read (Elt F) (I.lids c) x = I.lids c (tokI k t) := by
  show I.lids c ((lidsM.access (Rect.unit (s := S1024) (tok1 k t) S1.size (tok1_inb k t))).emb x) = _
  congr 1
  funext a
  apply Fin.ext
  refine (ValueKit.view_emb_slice_whole_unit_val cc0_stg0_0 (tok1 k t) S1.size (tok1_inb k t) x a).trans ?_
  match a with
  | ⟨0, _⟩ =>
    have hx : (x 0).val < 1 := (x 0).isLt
    have : (Scalar.indexCast (tokW k t)).toNat = 128 * k.val + t.val := (tokW_val k t)
    show (Scalar.indexCast (tokW k t)).toNat + (x 0).val = 128 * k.val + t.val
    omega

/-- A word of a scalar table is read. -/
theorem word_step {Ψ : Elt F .i32 → sProp 𝕄} (c : Dev nD) {s : Shape} (m : Memref sig .tc .smem s .i32) (r : Rect s) (h1 : r.shape.numel = 1)
    (f : Buf (Elt F) ((m.access r).loc (c : Thread nD τ))) (y : Elt F .i32) (hy : ∀ x, (m.access r).read (Elt F) f x = y) :
    ((m.access r).loc (c : Thread nD τ) ↦[Finset.univ]{fullShare} f : sProp 𝕄)
      ⊢ iprop((((m.access r).loc (c : Thread nD τ) ↦[Finset.univ]{fullShare} f) -∗ Ψ y) -∗ wpc c (smemLoad m r h1 rfl) Ψ) := by
  unfold wpc smemLoad
  iintro Ho Hk
  iapply (wp_smemLoadElt 𝒱₀ (c : Thread nD τ) none Set.univ (m := m) (r := r) (S := Finset.univ) (f := f) (Finset.subset_univ _)) $$ Ho
  iintro Ho
  rw [wp_ret, hy]
  imodintro
  iapply Hk $$ Ho

/-- What the copy of an owned row hands back is its delivery. -/
theorem copy_back (c : Dev nD) (k : Fin 8) (t : Trip) (h : t ∈ ownS I c k) (hi) (fd) :
    iprop(((rowM k t).view.loc (c : Thread nD τ) ↦[(rowM k t).view.set]{fullShare}
        ((rowM k t).view.write (Elt F) fd (ReadAs.same.apply ((srcM (I.lids c (tokI k t)) hi).view.read (Elt F) (I.tab c))) Finset.univ))
      ∗ ((srcM (I.lids c (tokI k t)) hi).view.loc (c : Thread nD τ) ↦[(srcM (I.lids c (tokI k t)) hi).view.set]{tq k t} (I.tab c)))
      ⊢ (deliv I c k ⟨_, before_lt I c k t h⟩ : sProp 𝕄) := by
  unfold deliv
  rw [before_inj I c k t h, bigSep_singleton]
  unfold deliver
  refine BIClass.sep_mono (held_intro (row_moved I c k t hi (I.tab c) rfl fd)) (Entails.of_eq ?_)
  rw [srcM_set]

/-- An owned row's copy is enqueued. -/
theorem copy_row {Ψ : PUnit → sProp 𝕄} (c : Dev nD) (k : Fin 8) (t : Trip) (h : t ∈ ownS I c k) (hi) :
    iprop(rowP c k t anyV ∗ tabT I c k t ∗ batch I c k (before I c k t.val) 0)
      ⊢ iprop((tabRest I c k t ∗ batch I c k (before I c k t.val + 1) 0 -∗ Ψ ⟨⟩)
        -∗ wpc c (Prog.lift (.enqueueDma (srcM (I.lids c (tokI k t)) hi) (.here (rowM k t))
          (.dma (semAt cc0_scratch4 k)) (View.wordExact_bits rfl) (View.wordExact_bits rfl) ⟨Or.inl rfl, trivial⟩)) Ψ) := by
  unfold wpc
  rw [sem4]
  iintro ⟨Hrow, Htab, HB⟩ Hk
  unfold rowP held
  icases Hrow with ⟨%fd, -, Hrow⟩
  ihave Htab := (tab_split I c k t).1 $$ Htab
  icases Htab with ⟨Hsrc, Hrest⟩
  ihave Hsrc := (Entails.of_eq (show tabRow I c k t = (tabL c ↦[(srcM (I.lids c (tokI k t)) hi).view.set]{tq k t} (I.tab c) : sProp 𝕄) by rw [srcM_set])) $$ Hsrc
  iapply (wp_dmaBatch EC 𝒱₀ (c : Thread nD τ) none (src := srcM (I.lids c (tokI k t)) hi) (dst := rowM k t) (sm := .dma (gsem k))
    (q := tq k t) (fs := I.tab c) (fd := fd) (Sd := (rowM k t).view.set) (D := deliv I c k) (j := before I c k t.val) (u := 0) () Nrow rfl
    (Finset.Subset.refl _) (before_lt I c k t h) (Nat.zero_le _) (copy_back I c k t h hi fd)) $$ [Hsrc Hrow HB]
  · isplitl [Hsrc]; · iexact Hsrc
    isplitl [Hrow]; · iexact Hrow
    iexact HB
  iintro HB
  rw [wp_ret]; imodintro
  iapply Hk
  isplitl [Hrest]; · iexact Hrest
  iexact HB

/-- Chunk `k` after `t` trips. -/
def issuing (c : Dev nD) (k : Fin 8) (t : ℕ) : sProp 𝕄 :=
  iprop(ownT I c ∗ lidsT I c ∗ bigSep Finset.univ (rowAt I c k t) ∗ batch I c k (before I c k t) 0)

theorem rowAt_other (c : Dev nD) (k : Fin 8) (t : Trip) :
    bigSep (Finset.univ.erase t) (rowAt I c k (t.val + 1)) = bigSep (Finset.univ.erase t) (rowAt I c k t.val) := by
  refine bigSep_congr fun s hs => ?_
  have hne : s.val ≠ t.val := fun e => (Finset.mem_erase.mp hs).1 (Fin.ext e)
  unfold rowAt
  have : (s.val < t.val + 1 ∧ s ∈ ownS I c k) ↔ (s.val < t.val ∧ s ∈ ownS I c k) :=
    ⟨fun h => ⟨by omega, h.2⟩, fun h => ⟨by omega, h.2⟩⟩
  simp only [this]

theorem trip_step (hI : I.Good) (c : Dev nD) (k : Fin 8) (t : Trip) (u : Unit) :
    issuing I c k t.val ⊢ wpc c (gTrip (F := F) k t u) (fun _ => issuing I c k (t.val + 1)) := by
  unfold issuing gTrip wpc
  iintro ⟨Ho, Hl, HR, HB⟩
  ihave HR := (Entails.of_eq (split_at t (rowAt I c k t.val))) $$ HR
  icases HR with ⟨Ht, HR⟩
  rw [wp_bind]
  iapply (word_step c ownM (Rect.unit (s := S1024) (tok1 k t) S1.size (tok1_inb k t)) numel1_S1 (I.own c) _ (own_read I c k t)) $$ Ho
  iintro Ho
  ihave Ht := (Entails.of_eq (show rowAt I c k t.val t = iprop(rowP c k t anyV ∗ tabT I c k t) from if_neg (fun h => absurd h.1 (by omega)))) $$ Ht
  by_cases h : t ∈ ownS I c k
  · have hv : I.own c (tokI k t) = 1#32 := (mem_ownS I).mp h
    have hc : k0_cond1 (I.own c (tokI k t)) = 1#1 := (cond1_iff _).mpr hv
    have hr : (I.lids c (tokI k t) : BitVec 32).toNat < 8192 := hI.row c _ hv
    have hw : k0_chk1 (I.own c (tokI k t)) (I.lids c (tokI k t)) := by
      intro _ a
      match a with
      | ⟨0, _⟩ => show BitVec.toNat _ + 1 ≤ 8192; omega
      | ⟨1, _⟩ => exact Nat.le_refl _
    rw [dif_pos hc]
    simp only [bind_assoc]
    rw [wp_bind]
    iapply (word_step c lidsM (Rect.unit (s := S1024) (tok1 k t) S1.size (tok1_inb k t)) numel1_S1 (I.lids c) _ (lids_read I c k t)) $$ Hl
    iintro Hl
    rw [wp_bind]
    iapply (show _ ⊢ wp (M := 𝕄) frame (wpE (defs₀ (F := F)) 𝒱₀ (c : Thread nD τ) none) Set.univ (.op (.assume _ _) .ret) _ from
      wp_assume 𝒱₀ (c : Thread nD τ) none Set.univ hw)
    rw [wp_ret]; imodintro
    rw [wp_bind]
    icases Ht with ⟨Hrow, Htab⟩
    iapply (copy_row I c k t h (k0_off4_inb _ _ hw hc)) $$ [Hrow Htab HB]
    · isplitl [Hrow]; · iexact Hrow
      isplitl [Htab]; · iexact Htab
      iexact HB
    iintro ⟨Hrest, HB⟩
    rw [wp_pure]
    imodintro
    isplitl [Ho]; · iexact Ho
    isplitl [Hl]; · iexact Hl
    rw [before_own I c k t h]
    isplitr [HB]
    rotate_left
    · iexact HB
    rw [split_at t (rowAt I c k (t.val + 1)), rowAt_other]
    isplitl [Hrest]
    · rw [show rowAt I c k (t.val + 1) t = tabRest I c k t from if_pos ⟨by omega, h⟩]; iexact Hrest
    · iexact HR
  · have hc : ¬ k0_cond1 (I.own c (tokI k t)) = 1#1 := fun e => h ((mem_ownS I).mpr ((cond1_iff _).mp e))
    rw [dif_neg hc]
    rw [wp_pure]
    imodintro
    isplitl [Ho]; · iexact Ho
    isplitl [Hl]; · iexact Hl
    rw [before_not I c k t h]
    isplitr [HB]
    rotate_left
    · iexact HB
    rw [split_at t (rowAt I c k (t.val + 1)), rowAt_other]
    isplitl [Ht]
    · rw [show rowAt I c k (t.val + 1) t = iprop(rowP c k t anyV ∗ tabT I c k t) from if_neg (fun e => h e.2)]; iexact Ht
    · iexact HR

end Cert.KernelIdeal.Talk
-- ==== Proof.Fetch.lean ====
/- The gather of all chunks: which rows a chunk's copies fill, and a chunk's rows put together. -/
module

public import proofs.«01_k».proof.Proof.Gather

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F) {K : GSem nD τ sig → ℕ}

local notation "𝕄" => MT nD τ sig Unit (Elt F) ℕ UU ℕ

/-! ## A chunk is its rows -/

theorem mem_row (k : Fin 8) (t : Trip) (i : S1024x2048.Idx) : i ∈ (rowM k t).view.set ↔ (i 0).val = 128 * k.val + t.val := by
  have e : (rowM k t).view.set = (Rect.unit (s := S1024x2048) (tok2 k t) S1x2048.size (tok2_inb k t)).set :=
    View.set_slice_whole cc0_scratch0 _
  rw [e, Rect.mem_set_unit]
  have hw : tok2 k t 0 = 128 * k.val + t.val := tokW_val k t
  have h1 : (i 1).val < 2048 := (i 1).isLt
  constructor
  · intro hh
    have h0 := hh 0
    rw [hw] at h0
    have h2 : (i 0).val < 128 * k.val + t.val + 1 := h0.2
    omega
  · intro hh a
    match a with
    | ⟨0, _⟩ => exact ⟨by rw [show tok2 k t ⟨0, _⟩ = _ from hw]; exact le_of_eq hh.symm, by
        rw [show tok2 k t ⟨0, _⟩ = _ from hw]; show (i 0).val < 128 * k.val + t.val + 1; omega⟩
    | ⟨1, _⟩ => exact ⟨Nat.zero_le _, by show (i 1).val < 0 + 2048; omega⟩

theorem mem_chG (k : Fin 8) (i : S1024x2048.Idx) :
    i ∈ (gathM.access (chR k)).set ↔ 128 * k.val ≤ (i 0).val ∧ (i 0).val < 128 * k.val + 128 := by
  have e : (gathM.access (chR k)).set = (chR k).set := View.set_slice_whole cc0_scratch0 _
  rw [e]
  unfold chR
  rw [Rect.mem_set_unit]
  have h1 : (i 1).val < 2048 := (i 1).isLt
  constructor
  · intro hh; exact hh 0
  · intro hh a
    match a with
    | ⟨0, _⟩ => exact hh
    | ⟨1, _⟩ => exact ⟨Nat.zero_le _, by show (i 1).val < 0 + 2048; omega⟩

/-- The elements of a row and of a chunk. -/
def rowSet (k : Fin 8) (t : Trip) : Finset S1024x2048.Idx := (rowM k t).view.set
def chSet (k : Fin 8) : Finset S1024x2048.Idx := (gathM.access (chR k)).set
abbrev gathL (c : Dev nD) : Loc nD τ sig := gathM.view.loc (c : Thread nD τ)

theorem chunk_rows (k : Fin 8) : chSet k = Finset.univ.biUnion (rowSet k) := by
  ext i
  rw [Finset.mem_biUnion]
  constructor
  · intro h
    have h := (mem_chG k i).mp h
    have hlt : (i 0).val - 128 * k.val < gLoop.trips := by rw [gTrips]; omega
    refine ⟨⟨(i 0).val - 128 * k.val, hlt⟩, Finset.mem_univ _, (mem_row k _ i).mpr ?_⟩
    show (i 0).val = 128 * k.val + ((i 0).val - 128 * k.val)
    omega
  · rintro ⟨t, -, ht⟩
    have h := (mem_row k t i).mp ht
    have : t.val < 128 := gTrips ▸ t.isLt
    exact (mem_chG k i).mpr (by omega)

theorem rows_disjoint (k : Fin 8) : ∀ t ∈ (Finset.univ : Finset Trip), ∀ t' ∈ (Finset.univ : Finset Trip), t ≠ t' →
    Disjoint (rowSet k t) (rowSet k t') := by
  intro t _ t' _ hne
  rw [Finset.disjoint_left]
  intro i h h'
  have h1 := (mem_row k t i).mp h
  have h2 := (mem_row k t' i).mp h'
  exact hne (Fin.ext (by omega))

theorem chunk_split (c : Dev nD) (k : Fin 8) (P : S1024x2048.Idx → Elt F .f32 → Prop) :
    (gathP c k P : sProp 𝕄) ⊢ bigSep Finset.univ (fun t : Trip => rowP c k t P) := by
  show held (gathL c) (chSet k) fullShare P ⊢ bigSep Finset.univ (fun t : Trip => held (gathL c) (rowSet k t) fullShare P)
  rw [chunk_rows]
  exact held_biUnion (ℓ := gathL c) Finset.univ (rowSet k) (rows_disjoint k)

theorem chunk_join (c : Dev nD) (k : Fin 8) (P : S1024x2048.Idx → Elt F .f32 → Prop) :
    bigSep Finset.univ (fun t : Trip => rowP c k t P) ⊢ (gathP c k P : sProp 𝕄) := by
  show bigSep Finset.univ (fun t : Trip => held (gathL c) (rowSet k t) fullShare P) ⊢ held (gathL c) (chSet k) fullShare P
  rw [chunk_rows]
  haveI : Nonempty (Buf (Elt F) (gathL c)) := ⟨fun _ => (FloatOps.ofBits .f32 0 : F .f32)⟩
  exact held_join_biUnion (ℓ := gathL c) Finset.univ (rowSet k) (rows_disjoint k)

/-! ## A chunk before, during and after -/

/-- Chunk `k` of the gathered buffer with no copy outstanding. -/
def idle (c : Dev nD) (k : Fin 8) (P : S1024x2048.Idx → Elt F .f32 → Prop) : sProp 𝕄 :=
  iprop(gathP c k P ∗ semVal (gcell c k) 0 ∗ bigSep Finset.univ (tabT I c k))
/-- With all its copies outstanding. -/
def fetching (c : Dev nD) (k : Fin 8) : sProp 𝕄 :=
  iprop(bigSep Finset.univ (rowAt I c k gLoop.trips) ∗ batch I c k (ownS I c k).card 0)

theorem rowAt_zero (c : Dev nD) (k : Fin 8) (t : Trip) : rowAt I c k 0 t = iprop(rowP c k t anyV ∗ tabT I c k t) :=
  if_neg fun h => absurd h.1 (by omega)

theorem gIssue_step (hI : I.Good) (c : Dev nD) (k : Fin 8) {Ψ : PUnit → sProp 𝕄} :
    iprop(ownT I c ∗ lidsT I c ∗ idle I c k anyV)
      ⊢ iprop(((ownT I c ∗ lidsT I c ∗ fetching I c k) -∗ Ψ ⟨⟩) -∗ wpc c (gIssue k) Ψ) := by
  unfold idle wpc gIssue
  iintro ⟨Ho, Hl, Hg, Hv, Ht⟩ Hk
  imod (batch_alloc' EC (c : Thread nD τ) (sm := .dma (gsem k)) () Nrow (deliv I c k) (E := Set.univ)) $$ Hv with HB
  ihave Hg := (chunk_split c k anyV) $$ Hg
  iapply (Scf.wp_for _ _ _ gLoop.lb gLoop.ub gLoop.st k0_t1_ok ⟨⟩ (gTrip k) (fun t _ => issuing I c k t) (fun t u => trip_step I hI c k t u))
  unfold issuing
  isplitr [Hk]
  · isplitl [Ho]; · iexact Ho
    isplitl [Hl]; · iexact Hl
    rw [before_zero]
    isplitr [HB]
    · rw [bigSep_congr (fun t _ => rowAt_zero I c k t), bigSep_sep']
      isplitl [Hg] <;> iassumption
    iexact HB
  iintro %acc ⟨Ho, Hl, HR, HB⟩
  iapply Hk
  isplitl [Ho]; · iexact Ho
  isplitl [Hl]; · iexact Hl
  unfold fetching
  isplitl [HR]; · iexact HR
  rw [← before_all]
  iexact HB

/-! ## Draining -/

theorem drain_loops : ∀ n : Fin 129, k0_chk4 (BitVec.ofNat 32 n.val) ∧ (k0_t4_loop (BitVec.ofNat 32 n.val)).trips = n.val
    ∧ (k0_t5_loop (BitVec.ofNat 32 n.val)).trips = 0 := by decide +kernel

theorem drain_facts (v : BitVec 32) (h : v.toNat ≤ 128) : k0_chk4 v ∧ (k0_t4_loop v).trips = v.toNat ∧ (k0_t5_loop v).trips = 0 := by
  have := drain_loops ⟨v.toNat, by omega⟩
  rwa [BitVec.ofNat_toNat, BitVec.setWidth_eq] at this

theorem cnt_read (c : Dev nD) (k : Fin 8) (x) :
    (cntM.access (Rect.unit (s := S8) ![k.val] S1.size (sem_inb k))).read (Elt F) (I.cnt c) x = I.cnt c (cntI k) := by
  show I.cnt c ((cntM.access (Rect.unit (s := S8) ![k.val] S1.size (sem_inb k))).emb x) = _
  congr 1
  funext a
  apply Fin.ext
  refine (ValueKit.view_emb_slice_whole_unit_val cc0_stg2_0 ![k.val] S1.size (sem_inb k) x a).trans ?_
  match a with
  | ⟨0, _⟩ =>
    have hx : (x 0).val < 1 := (x 0).isLt
    show k.val + (x 0).val = k.val
    omega

theorem lvA_pos {p : Fin 11 × Fin 8} (h : p.1 = 2 ∨ p.1 = 4 ∨ p.1 = 6 ∨ p.1 = 8 ∨ p.1 = 10) : 0 < lvA p.1 p.2 := by
  unfold lvA
  rcases h with h | h | h | h | h <;> rw [h] <;> simp

/-- Chunk `k` after `u` waits. -/
def draining (c : Dev nD) (k : Fin 8) (S : Finset (Fin 11 × Fin 8)) (u : ℕ) : sProp 𝕄 :=
  iprop(batch I c k (ownS I c k).card (Nrow * u) ∗ owed c S)

theorem wait_step (c : Dev nD) (k : Fin 8) {S : Finset (Fin 11 × Fin 8)} (hS : ∀ p ∈ S, 0 < lvA p.1 p.2) {n : ℕ} (t : Fin n) (u : Unit)
    (ht : t.val < (ownS I c k).card) :
    iprop(levAts L lv ∗ draining I c k S t.val) ⊢ wpc c (gWait k t u) (fun _ => iprop(levAts L lv ∗ draining I c k S (t.val + 1))) := by
  unfold draining gWait wpc owed
  rw [sem4]
  iintro ⟨#Hl, HB, ⟨%W, HO⟩⟩
  rw [wp_bind]
  iapply (wp_waitBatchMulO EC 𝒱₀ (c : Thread nD τ) none () 1 (N := Nrow) (by rw [Nat.one_mul]; rfl) (D := deliv I c k) (j := (ownS I c k).card) (u := Nrow * t.val)
    (by rw [Nat.one_mul, ← Nat.mul_succ]; exact Nat.mul_le_mul_left _ ht) (O := Ow c S) (W := W)) $$ [HB HO]
  · isplitl [HB]; · iexact HB
    isplitl [HO]; · iexact HO
    iapply (mayWait c (.dma (gsem k)) S (by intro p hp; rw [lv_g]; exact hS p hp)); iexact Hl
  iintro ⟨HB, HO⟩
  rw [wp_ret]; imodintro
  rw [wp_pure]; imodintro
  isplitr; · iexact Hl
  isplitl [HB]
  · rw [Nat.one_mul, ← Nat.mul_succ]; iexact HB
  iexists _; iexact HO

/-- The rows of a drained chunk. -/
theorem fetched (c : Dev nD) (k : Fin 8) :
    iprop(bigSep Finset.univ (rowAt I c k gLoop.trips) ∗ bigSep Finset.univ (deliv I c k))
      ⊢ iprop(gathP c k (GathV I c) ∗ bigSep Finset.univ (tabT I c k)) := by
  have h1 : bigSep Finset.univ (deliv I c k) ⊢ bigSep Finset.univ (fun t => if t ∈ ownS I c k then deliver I c k t else (BI.emp : sProp 𝕄)) := by
    rw [← bigSep_filter, Finset.filter_mem_eq_inter, Finset.univ_inter]
    exact deliv_all I c k
  have h2 : ∀ t : Trip, iprop(rowAt I c k gLoop.trips t ∗ (if t ∈ ownS I c k then deliver I c k t else (BI.emp : sProp 𝕄)))
      ⊢ iprop(rowP c k t (GathV I c) ∗ tabT I c k t) := by
    intro t
    unfold rowAt
    by_cases h : t ∈ ownS I c k
    · rw [if_pos ⟨t.isLt, h⟩, if_pos h]
      unfold deliver
      iintro ⟨Hr, Hg, Hs⟩
      isplitl [Hg]; · iexact Hg
      iapply (tab_split I c k t).2
      isplitl [Hs] <;> iassumption
    · rw [if_neg (fun e => h e.2), if_neg h]
      iintro ⟨⟨Hg, Ht⟩, -⟩
      isplitl [Hg]
      · iapply (held_mono (fun i hi v _ => row_unowned I c k t (fun e => h ((mem_ownS I).mpr e)) i hi v)) $$ Hg
      iexact Ht
  iintro ⟨HR, HD⟩
  ihave HD := h1 $$ HD
  ihave H := (show iprop(bigSep Finset.univ (rowAt I c k gLoop.trips) ∗ bigSep Finset.univ (fun t => if t ∈ ownS I c k then deliver I c k t else (BI.emp : sProp 𝕄)))
      ⊢ iprop(bigSep Finset.univ (fun t : Trip => rowP c k t (GathV I c)) ∗ bigSep Finset.univ (tabT I c k)) from by
    rw [← bigSep_sep', ← bigSep_sep']
    exact bigSep_mono fun t _ => h2 t) $$ [HR HD]
  · isplitl [HR] <;> iassumption
  icases H with ⟨Hg, Ht⟩
  isplitl [Hg]
  · iapply (chunk_join c k (GathV I c)) $$ Hg
  iexact Ht

theorem gDrain_step (hI : I.Good) (c : Dev nD) (k : Fin 8) {S : Finset (Fin 11 × Fin 8)} (hS : ∀ p ∈ S, 0 < lvA p.1 p.2) {Ψ : PUnit → sProp 𝕄} :
    iprop(Cx I K c ∗ cntT I c ∗ fetching I c k ∗ owed c S)
      ⊢ iprop(((cntT I c ∗ idle I c k (GathV I c) ∗ owed c S) -∗ Ψ ⟨⟩) -∗ wpc c (gDrain k) Ψ) := by
  have hc := hI.count c k
  have hle : (I.cnt c (cntI k) : BitVec 32).toNat ≤ 128 := by
    rw [hc]
    refine (Finset.card_le_univ _).trans ?_
    rw [Fintype.card_fin, gTrips]
  obtain ⟨hw, h4, h5⟩ := drain_facts _ hle
  unfold wpc gDrain fetching
  iintro ⟨#HC, Hn, ⟨HR, HB⟩, HO⟩ Hk
  ihave #Hl := (Cx_lev I K c) $$ HC
  rw [wp_bind]
  iapply (word_step c cntM (Rect.unit (s := S8) ![k.val] S1.size (sem_inb k)) numel1_S1 (I.cnt c) _ (cnt_read I c k)) $$ Hn
  iintro Hn
  rw [wp_bind]
  iapply (show _ ⊢ wp (M := 𝕄) frame (wpE (defs₀ (F := F)) 𝒱₀ (c : Thread nD τ) none) Set.univ (.op (.assume _ _) .ret) _ from
    wp_assume 𝒱₀ (c : Thread nD τ) none Set.univ hw)
  rw [wp_ret]; imodintro
  rw [wp_bind]
  iapply (Scf.wp_for _ _ _ (k0_t4_loop (I.cnt c (cntI k))).lb (k0_t4_loop (I.cnt c (cntI k))).ub (k0_t4_loop (I.cnt c (cntI k))).st (k0_t4_ok _ hw) ⟨⟩ (gWait k)
    (fun u _ => iprop(levAts L lv ∗ draining I c k S u))
    (fun t u => wait_step I c k hS t u (by rw [← hc, ← h4]; exact t.isLt)))
  unfold draining
  isplitl [HB HO]
  · isplitr; · iexact Hl
    isplitl [HB]; · iexact HB
    iexact HO
  iintro %acc ⟨-, HB, HO⟩
  rw [show Scf.trips _ _ _ = _ from h4, hc]
  imod (batch_collect' EC (c : Thread nD τ) (sm := .dma (gsem k)) (ι := ()) (n := (ownS I c k).card) Nrow_pos (D := deliv I c k)) $$ HB with ⟨HD, Hv⟩
  iapply (Scf.wp_for _ _ _ (k0_t5_loop (I.cnt c (cntI k))).lb (k0_t5_loop (I.cnt c (cntI k))).ub (k0_t5_loop (I.cnt c (cntI k))).st (k0_t5_ok _ hw) ⟨⟩ (gWait k)
    (fun u _ => owed c S)
    (fun t u => absurd t.isLt (fun e => absurd (h5 ▸ e : t.val < 0) (by omega))))
  isplitl [HO]; · iexact HO
  iintro %acc HO
  ihave H := (fetched I c k) $$ [HR HD]
  · isplitl [HR] <;> iassumption
  icases H with ⟨Hg, Ht⟩
  iapply Hk
  isplitl [Hn]; · iexact Hn
  unfold idle
  isplitr [HO]
  · isplitl [Hg]; · iexact Hg
    isplitl [Hv]; · iexact Hv
    iexact Ht
  iexact HO

end Cert.KernelIdeal.Talk
-- ==== Proof.Meet.lean ====
/- The meeting on the barrier: what a device gives each neighbour to fill, and what it gets from them. -/
module

public import proofs.«01_k».proof.Proof.Fetch

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F) {K : GSem nD τ sig → ℕ}

local notation "𝕄" => MT nD τ sig Unit (Elt F) ℕ UU ℕ

/-- What device `c` lets its neighbours fill of chunk `k`. -/
def giveX (c : Dev nD) (k : Fin 8) : sProp 𝕄 := recvP c k anyV
def giveY (c : Dev nD) (k : Fin 8) : sProp 𝕄 := iprop(ownP c (yp c) k anyV ∗ zP c (yp c) k anyV)
def giveZ (c : Dev nD) (k : Fin 8) : sProp 𝕄 := iprop(ownP c (zp c) k anyV ∗ yP c (zp c) k anyV)
/-- What it keeps. -/
def keep (c : Dev nD) (k : Fin 8) : sProp 𝕄 :=
  iprop(partP c k anyV ∗ redP c k fullShare anyV ∗ ownP c c k anyV
    ∗ (tok c 0 k ∗ at0 c 0 k) ∗ pr c 1 2 k ∗ pr c 3 4 k ∗ pr c 5 6 k ∗ pr c 7 8 k ∗ pr c 9 10 k)
/-- Chunk `k` before the meeting. -/
def T0 (c : Dev nD) (k : Fin 8) : sProp 𝕄 := iprop(giveX c k ∗ giveY c k ∗ giveZ c k ∗ keep c k)

/-- The meeting's tokens, position and credit, and everything owed. -/
def bar0 (c : Dev nD) : sProp 𝕄 :=
  iprop(dutyTok ER (bcell (xp c)) 0 (0 : Fin 3) ∗ dutyTok ER (bcell (yp c)) 0 (1 : Fin 3) ∗ dutyTok ER (bcell (zp c)) 0 (2 : Fin 3)
    ∗ atPos ER (bcell c) 0 (∅ : Finset (Fin 3)) 0 ∗ cred (tallyAt (bcell c) () 3) ∗ (∃ W, owes (c : Thread nD τ) (O₀ c) W))

/-- A fact that stays is used in every summand. -/
theorem each_with (R : sProp 𝕄) [BI.Persistent R] {Φ : Fin 8 → sProp 𝕄} (Ψ : Fin 8 → sProp 𝕄) (h : ∀ k, iprop(R ∗ Φ k) ⊢ Ψ k) :
    iprop(R ∗ bigSep Finset.univ Φ) ⊢ bigSep Finset.univ Ψ := by
  iintro ⟨HR, H⟩
  ihave HR := (bigSep_of_persistent (Finset.univ : Finset (Fin 8)) R) $$ HR
  iapply (show iprop(bigSep Finset.univ (fun _ : Fin 8 => R) ∗ bigSep Finset.univ Φ) ⊢ bigSep Finset.univ Ψ from by
    rw [← bigSep_sep']; exact bigSep_mono fun k _ => h k)
  isplitl [HR] <;> iassumption

theorem payX (c : Dev nD) : iprop(Cx I K c ∗ bigSep Finset.univ (giveX (F := F) c)) ⊢ (barPay (xp c) 0 : sProp 𝕄) := by
  refine each_with (Cx I K c) (peerX (F := F) (xp c)) fun k => ?_
  unfold giveX peerX
  rw [xp_xp]
  iintro ⟨#HC, H⟩
  isplitl [H]; · iexact H
  iapply (Cx_r I K c 2 k); iexact HC
theorem payY (c : Dev nD) : iprop(Cx I K c ∗ bigSep Finset.univ (giveY (F := F) c)) ⊢ (barPay (yp c) 1 : sProp 𝕄) := by
  refine each_with (Cx I K c) (peerY (F := F) (yp c)) fun k => ?_
  unfold giveY peerY
  rw [yp_yp]
  iintro ⟨#HC, H1, H2⟩
  isplitl [H1]
  · isplitl [H1]; · iexact H1
    iapply (Cx_r I K c 4 k); iexact HC
  isplitl [H2]; · iexact H2
  iapply (Cx_r I K c 10 k); iexact HC
theorem payZ (c : Dev nD) : iprop(Cx I K c ∗ bigSep Finset.univ (giveZ (F := F) c)) ⊢ (barPay (zp c) 2 : sProp 𝕄) := by
  refine each_with (Cx I K c) (peerZ (F := F) (zp c)) fun k => ?_
  unfold giveZ peerZ
  rw [zp_zp]
  iintro ⟨#HC, H1, H2⟩
  isplitl [H1]
  · isplitl [H1]; · iexact H1
    iapply (Cx_r I K c 6 k); iexact HC
  isplitl [H2]; · iexact H2
  iapply (Cx_r I K c 8 k); iexact HC

variable {I}

/-- A neighbour is told. -/
theorem tell (c d : Dev nD) (n : Fin 3) (O : CellTallies nD τ sig Unit) {Ψ : PUnit → sProp 𝕄} :
    iprop(Cx I K c ∗ (∃ W, owes (c : Thread nD τ) (O + tallyAt (bcell d) () 1) W) ∗ dutyTok ER (bcell d) 0 n ∗ barPay (F := F) d n)
      ⊢ iprop(((∃ W, owes (c : Thread nD τ) O W) -∗ Ψ ⟨⟩) -∗ wpc c (semSignalWord d barS 1#32) Ψ) := by
  iintro ⟨#HC, ⟨%W, HO⟩, Ht, Hp⟩ Hk
  ihave #HI := (Cx_b I K c d) $$ HC
  ihave #Hr := (Cx_rb I K c d) $$ HC
  unfold wpc semSignalWord
  rw [show (1#32 : BitVec 32).toInt = ((1 : ℕ) : Int) from rfl]
  iapply (Rounds.wp_signal 𝒱₀ ER (Rd I) (c : Thread nD τ) none (dst := (d : Thread nD τ)) (sem := barS) (r := 0) (d := n) (κ := K (bcell d))
      (by rw [duties_b]; exact Finset.mem_univ _) (amount_b I d n) () O rfl) $$ [HO Ht Hp]
  · isplitr; · iexact HI
    isplitl [HO]; · iexact HO
    isplitl [Ht]; · iexact Ht
    isplitl [Hp]
    · rw [payload_b]; iexact Hp
    iexact Hr
  iintro HO
  rw [wp_ret]; imodintro
  iapply Hk
  iexists W; iexact HO

theorem recvs_level : ∀ p ∈ recvs, 1 < lvA p.1 p.2 := by decide +kernel

theorem met (c : Dev nD) (k : Fin 8) : (iprop(peerX c k ∗ peerY c k ∗ peerZ c k ∗ keep c k) : sProp 𝕄) ⊢ T1 (F := F) c k := by
  unfold keep T1
  iintro ⟨HX, HY, HZ, Hp, Hr, Ho, Hrest⟩
  isplitl [Hp]; · iexact Hp
  isplitl [Hr]; · iexact Hr
  isplitl [Ho]; · iexact Ho
  isplitl [HX]; · iexact HX
  isplitl [HY]; · iexact HY
  isplitl [HZ]; · iexact HZ
  iexact Hrest

theorem meet_step (c : Dev nD) {Ψ : PUnit → sProp 𝕄} :
    iprop(Cx I K c ∗ bar0 c ∗ bigSep Finset.univ (T0 (F := F) c))
      ⊢ iprop(((owed c recvs ∗ semVal (bcell c) 0 ∗ bigSep Finset.univ (T1 (F := F) c)) -∗ Ψ ⟨⟩) -∗ wpc c (meet c) Ψ) := by
  have hT : bigSep Finset.univ (T0 (F := F) c) ⊢ (iprop(bigSep Finset.univ (giveX (F := F) c) ∗ bigSep Finset.univ (giveY (F := F) c)
      ∗ bigSep Finset.univ (giveZ (F := F) c) ∗ bigSep Finset.univ (keep (F := F) c)) : sProp 𝕄) := by
    unfold T0
    rw [bigSep_sep', bigSep_sep', bigSep_sep']
  unfold bar0 wpc meet
  iintro ⟨#HC, ⟨Htx, Hty, Htz, Hat, Hcr, HO⟩, HT⟩ Hk
  ihave HT := hT $$ HT
  icases HT with ⟨HX, HY, HZ, HT⟩
  ihave HX := (payX I (K := K) c) $$ [HX]
  · isplitr; · iexact HC
    iexact HX
  ihave HY := (payY I (K := K) c) $$ [HY]
  · isplitr; · iexact HC
    iexact HY
  ihave HZ := (payZ I (K := K) c) $$ [HZ]
  · isplitr; · iexact HC
    iexact HZ
  rw [wp_bind]
  iapply (tell (I := I) (K := K) c (xp c) 0 ((Ow c recvs + tallyAt (bcell (zp c)) () 1) + tallyAt (bcell (yp c)) () 1)) $$ [HO Htx HX]
  · isplitr; · iexact HC
    isplitl [HO]; · iexact HO
    isplitl [Htx] <;> iassumption
  iintro HO
  rw [wp_bind]
  iapply (tell (I := I) (K := K) c (yp c) 1 (Ow c recvs + tallyAt (bcell (zp c)) () 1)) $$ [HO Hty HY]
  · isplitr; · iexact HC
    isplitl [HO]; · iexact HO
    isplitl [Hty] <;> iassumption
  iintro HO
  rw [wp_bind]
  iapply (tell (I := I) (K := K) c (zp c) 2 (Ow c recvs)) $$ [HO Htz HZ]
  · isplitr; · iexact HC
    isplitl [HO]; · iexact HO
    isplitl [Htz] <;> iassumption
  iintro ⟨%W, HO⟩
  ihave #HI := (Cx_b I K c c) $$ HC
  ihave #Hl := (Cx_lev I K c) $$ HC
  unfold semWaitWord
  rw [show (3#32 : BitVec 32).toInt = ((3 : ℕ) : Int) from rfl]
  iapply (Rounds.wp_wait_rest_token 𝒱₀ ER (Rd I) (c : Thread nD τ) none (κ := K (bcell c))
      (wpE_semWait_eq 𝒱₀ (c : Thread nD τ) none Set.univ) (Set.mem_univ _) () (O := Ow c recvs) (W := W) (R := 0) (m := 0) (T := ∅)
      (by rw [expect_b])) $$ [Hcr HO Hat]
  · isplitr; · iexact HI
    isplitl [Hcr]; · iexact Hcr
    isplitl [HO]; · iexact HO
    isplitr
    · iapply (mayWait c (.reg barS) recvs (by rw [lv_b]; exact recvs_level)); iexact Hl
    iexact Hat
  iintro ⟨HO, Hat, -, Hp⟩
  rw [wp_ret]
  imod (Rounds.cell_close ER (Rd I) (g := bcell c) (Set.mem_univ (K (bcell c))) id (duties_later I (bcell c))) $$ [Hat] with Hv
  · isplitr; · iexact HI
    iexact Hat
  imodintro
  iapply Hk
  isplitl [HO]
  · unfold owed; iexists _; iexact HO
  isplitl [Hv]; · iexact Hv
  ihave Hp := (Entails.of_eq (rest_b I c)) $$ Hp
  ihave Hp := (show bigSep Finset.univ (barPay (F := F) c) ⊢ (iprop(bigSep Finset.univ (peerX (F := F) c) ∗ bigSep Finset.univ (peerY (F := F) c)
      ∗ bigSep Finset.univ (peerZ (F := F) c)) : sProp 𝕄) from by
    rw [show (Finset.univ : Finset (Fin 3)) = {0, 1, 2} from rfl, bigSep_insert (by decide), bigSep_insert (by decide), bigSep_singleton]
    exact .rfl) $$ Hp
  icases Hp with ⟨HX, HY, HZ⟩
  iapply (show iprop(bigSep Finset.univ (peerX (F := F) c) ∗ bigSep Finset.univ (peerY (F := F) c) ∗ bigSep Finset.univ (peerZ (F := F) c)
      ∗ bigSep Finset.univ (keep (F := F) c)) ⊢ (bigSep Finset.univ (T1 (F := F) c) : sProp 𝕄) from by
    rw [← bigSep_sep', ← bigSep_sep', ← bigSep_sep']
    exact bigSep_mono fun k _ => met c k)
  isplitl [HX]; · iexact HX
  isplitl [HY]; · iexact HY
  isplitl [HZ]; · iexact HZ
  iexact HT

end Cert.KernelIdeal.Talk
-- ==== Proof.State.lean ====
/- What a device owes and holds between two chunks. -/
module

public import proofs.«01_k».proof.Proof.Meet

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F) {K : GSem nD τ sig → ℕ}

local notation "𝕄" => MT nD τ sig Unit (Elt F) ℕ UU ℕ

/-! ## What is owed -/

/-- What a device still owes when chunk `k` is at stage `f k`: 0 nothing done; 1 its gather issued; 2 sent; 3 combined; 4 passed on; 5 landed. -/
def owS (f : Fin 8 → ℕ) : Finset (Fin 11 × Fin 8) := Finset.univ.filter fun p =>
  (p.1 = 2 ∧ f p.2 < 2) ∨ ((p.1 = 4 ∨ p.1 = 6) ∧ f p.2 < 3) ∨ ((p.1 = 8 ∨ p.1 = 10) ∧ f p.2 < 4)

theorem mem_owS {f : Fin 8 → ℕ} {p : Fin 11 × Fin 8} : p ∈ owS f ↔
    ((p.1 = 2 ∧ f p.2 < 2) ∨ ((p.1 = 4 ∨ p.1 = 6) ∧ f p.2 < 3) ∨ ((p.1 = 8 ∨ p.1 = 10) ∧ f p.2 < 4)) := by
  unfold owS; simp only [Finset.mem_filter, Finset.mem_univ, true_and]

theorem owS_pos {f : Fin 8 → ℕ} : ∀ p ∈ owS f, 0 < lvA p.1 p.2 := by
  intro p hp
  refine lvA_pos ?_
  rcases mem_owS.mp hp with h | h | h
  · exact .inl h.1
  · rcases h.1 with h | h <;> simp [h]
  · rcases h.1 with h | h <;> simp [h]

theorem owS_issue {f : Fin 8 → ℕ} {j : Fin 8} (h : f j = 0) : owS (Function.update f j 1) = owS f := by
  ext ⟨a, k⟩
  rw [mem_owS, mem_owS]
  by_cases e : k = j
  · subst e; simp [h]
  · simp [e]
theorem owS_send {f : Fin 8 → ℕ} {j : Fin 8} (h : f j = 1) : owS (Function.update f j 2) = (owS f).erase (2, j) := by
  ext ⟨a, k⟩
  rw [Finset.mem_erase, mem_owS, mem_owS]
  by_cases e : k = j
  · subst e; revert a; simp [h]; decide
  · simp [e]
theorem owS_combine {f : Fin 8 → ℕ} {j : Fin 8} (h : f j = 2) : owS (Function.update f j 3) = ((owS f).erase (4, j)).erase (6, j) := by
  ext ⟨a, k⟩
  rw [Finset.mem_erase, Finset.mem_erase, mem_owS, mem_owS]
  by_cases e : k = j
  · subst e; revert a; simp [h]; decide
  · simp [e]
theorem owS_pass {f : Fin 8 → ℕ} {j : Fin 8} (h : f j = 3) : owS (Function.update f j 4) = ((owS f).erase (8, j)).erase (10, j) := by
  ext ⟨a, k⟩
  rw [Finset.mem_erase, Finset.mem_erase, mem_owS, mem_owS]
  by_cases e : k = j
  · subst e; revert a; simp [h]; decide
  · simp [e]
theorem owS_none {f : Fin 8 → ℕ} (h : ∀ k, 4 ≤ f k) : owS f = ∅ := by
  ext ⟨a, k⟩
  rw [mem_owS]
  have := h k
  simp only [Finset.notMem_empty, iff_false]
  omega

/-! ## The states of all chunks -/

/-- Chunk `k` at a stage, after the meeting. -/
def St (c : Dev nD) (n : ℕ) (k : Fin 8) : sProp 𝕄 :=
  match n with
  | 0 => iprop(idle I c k anyV ∗ T1 c k)
  | 1 => iprop(fetching I c k ∗ T1 c k)
  | 2 => iprop(idle I c k anyV ∗ T2 c k)
  | 3 => iprop(idle I c k anyV ∗ T3 c k)
  | 4 => iprop(idle I c k anyV ∗ T4 I c k)
  | _ => iprop(idle I c k anyV ∗ T5 I c k)
/-- Before it. -/
def St0 (c : Dev nD) (n : ℕ) (k : Fin 8) : sProp 𝕄 :=
  match n with
  | 0 => iprop(idle I c k anyV ∗ T0 c k)
  | _ => iprop(fetching I c k ∗ T0 c k)

theorem st_0 (c : Dev nD) (k : Fin 8) : St I c 0 k = iprop(idle I c k anyV ∗ T1 c k) := rfl
theorem st_1 (c : Dev nD) (k : Fin 8) : St I c 1 k = iprop(fetching I c k ∗ T1 c k) := rfl
theorem st_2 (c : Dev nD) (k : Fin 8) : St I c 2 k = iprop(idle I c k anyV ∗ T2 c k) := rfl
theorem st_3 (c : Dev nD) (k : Fin 8) : St I c 3 k = iprop(idle I c k anyV ∗ T3 c k) := rfl
theorem st_4 (c : Dev nD) (k : Fin 8) : St I c 4 k = iprop(idle I c k anyV ∗ T4 I c k) := rfl
theorem st_5 (c : Dev nD) (k : Fin 8) : St I c 5 k = iprop(idle I c k anyV ∗ T5 I c k) := rfl
theorem st0_0 (c : Dev nD) (k : Fin 8) : St0 I c 0 k = iprop(idle I c k anyV ∗ T0 c k) := rfl
theorem st0_1 (c : Dev nD) (k : Fin 8) : St0 I c 1 k = iprop(fetching I c k ∗ T0 c k) := rfl

/-- What the steps share, with what stays aside. -/
def Base (c : Dev nD) (X : sProp 𝕄) : sProp 𝕄 := iprop(ownT I c ∗ lidsT I c ∗ cntT I c ∗ maskP I c ∗ X)

def At (K : GSem nD τ sig → ℕ) (c : Dev nD) (f : Fin 8 → ℕ) : sProp 𝕄 :=
  iprop((Cx I K c ∗ Base I c (semVal (bcell c) 0) ∗ owed c (owS f)) ∗ bigSep Finset.univ (fun k => St I c (f k) k))
def At0 (K : GSem nD τ sig → ℕ) (c : Dev nD) (f : Fin 8 → ℕ) : sProp 𝕄 :=
  iprop((Cx I K c ∗ Base I c BI.emp ∗ bar0 c) ∗ bigSep Finset.univ (fun k => St0 I c (f k) k))

/-- A step of one chunk is a step of all. -/
theorem step_at (c : Dev nD) (Φ : ℕ → Fin 8 → sProp 𝕄) {f : Fin 8 → ℕ} {j : Fin 8} {n n' : ℕ} (hn : f j = n) {A B : sProp 𝕄} {p : PR (F := F) Unit}
    (h : ∀ Ψ : PUnit → sProp 𝕄, iprop(A ∗ Φ n j) ⊢ iprop(((B ∗ Φ n' j) -∗ Ψ ⟨⟩) -∗ wpc c p Ψ)) :
    iprop(A ∗ bigSep Finset.univ (fun k => Φ (f k) k))
      ⊢ wpc c p (fun _ => iprop(B ∗ bigSep Finset.univ (fun k => Φ (Function.update f j n' k) k))) := by
  subst hn
  rw [split_at j (fun k => Φ (f k) k), split_at j (fun k => Φ (Function.update f j n' k) k)]
  rw [bigSep_congr (s := Finset.univ.erase j) (Ψ := fun k => Φ (f k) k) (Φ := fun k => Φ (Function.update f j n' k) k) (fun k hk => by
    rw [Function.update_of_ne (Finset.mem_erase.mp hk).1]), Function.update_self]
  iintro ⟨HA, Hj, Hrest⟩
  iapply (h _) $$ [HA Hj]
  · isplitl [HA] <;> iassumption
  iintro ⟨HB, Hj⟩
  isplitl [HB]; · iexact HB
  isplitl [Hj] <;> iassumption

/-- One after the other. -/
theorem andThen (c : Dev nD) {A B : sProp 𝕄} {C : Unit → sProp 𝕄} {p q : PR (F := F) Unit} (h1 : A ⊢ wpc c p (fun _ => B)) (h2 : B ⊢ wpc c q C) :
    A ⊢ wpc c (do p; q) C := by
  unfold wpc
  rw [wp_bind]
  exact BI.Entails.trans h1 (wp_mono _ _ _ fun _ => h2)

/-- A chunk's gather is issued, before the meeting and after. -/
theorem issue0 (hI : I.Good) (c : Dev nD) (j : Fin 8) {f : Fin 8 → ℕ} (h : f j = 0) :
    At0 I K c f ⊢ wpc c (gIssue j) (fun _ => At0 I K c (Function.update f j 1)) := by
  unfold At0
  refine step_at c (St0 I c) h fun Ψ => ?_
  rw [st0_0, st0_1]
  unfold Base
  iintro ⟨⟨HC, ⟨Ho, Hl, Hrest⟩, HO⟩, Hi, HT⟩ Hk
  iapply (gIssue_step I hI c j) $$ [Ho Hl Hi]
  · isplitl [Ho]; · iexact Ho
    isplitl [Hl] <;> iassumption
  iintro ⟨Ho, Hl, Hi⟩
  iapply Hk
  isplitr [Hi HT]
  · isplitl [HC]; · iexact HC
    isplitr [HO]
    · isplitl [Ho]; · iexact Ho
      isplitl [Hl] <;> iassumption
    iexact HO
  isplitl [Hi] <;> iassumption

theorem issue (hI : I.Good) (c : Dev nD) (j : Fin 8) {f : Fin 8 → ℕ} (h : f j = 0) :
    At I K c f ⊢ wpc c (gIssue j) (fun _ => At I K c (Function.update f j 1)) := by
  unfold At
  rw [owS_issue h]
  refine step_at c (St I c) h fun Ψ => ?_
  rw [st_0, st_1]
  unfold Base
  iintro ⟨⟨HC, ⟨Ho, Hl, Hrest⟩, HO⟩, Hi, HT⟩ Hk
  iapply (gIssue_step I hI c j) $$ [Ho Hl Hi]
  · isplitl [Ho]; · iexact Ho
    isplitl [Hl] <;> iassumption
  iintro ⟨Ho, Hl, Hi⟩
  iapply Hk
  isplitr [Hi HT]
  · isplitl [HC]; · iexact HC
    isplitr [HO]
    · isplitl [Ho]; · iexact Ho
      isplitl [Hl] <;> iassumption
    iexact HO
  isplitl [Hi] <;> iassumption

/-- A chunk is drained, rounded and sent. -/
theorem send (hI : I.Good) (c : Dev nD) (j : Fin 8) {f : Fin 8 → ℕ} (h : f j = 1) :
    At I K c f ⊢ wpc c (first c j) (fun _ => At I K c (Function.update f j 2)) := by
  unfold At
  rw [owS_send h]
  refine step_at c (St I c) h fun Ψ => ?_
  rw [st_1, st_2]
  unfold Base first
  iintro ⟨⟨#HC, ⟨Ho, Hl, Hn, Hm⟩, HO⟩, Hi, HT⟩ Hk
  unfold wpc
  rw [wp_bind]
  iapply (gDrain_step I (K := K) hI c j owS_pos) $$ [Hn Hi HO]
  · isplitr; · iexact HC
    isplitl [Hn]; · iexact Hn
    isplitl [Hi] <;> iassumption
  iintro ⟨Hn, Hi, HO⟩
  unfold idle
  icases Hi with ⟨Hg, Hi⟩
  iapply (send_step (I := I) (K := K) c j (S := owS f) (mem_owS.mpr (.inl ⟨rfl, by rw [h]; decide⟩))) $$ [Hg HT HO]
  · isplitr; · iexact HC
    isplitl [Hg]; · iexact Hg
    isplitl [HT] <;> iassumption
  iintro ⟨Hg, HT, HO⟩
  iapply Hk
  isplitr [Hg Hi HT]
  · isplitr; · iexact HC
    isplitr [HO]
    · isplitl [Ho]; · iexact Ho
      isplitl [Hl]; · iexact Hl
      isplitl [Hn] <;> iassumption
    iexact HO
  isplitl [Hg Hi]
  · isplitl [Hg] <;> iassumption
  iexact HT

/-- A chunk is combined and sent round. -/
theorem combine (c : Dev nD) (j : Fin 8) {f : Fin 8 → ℕ} (h : f j = 2) (ha : ∀ k, 2 ≤ f k) :
    At I K c f ⊢ wpc c (second c j) (fun _ => At I K c (Function.update f j 3)) := by
  unfold At
  rw [owS_combine h]
  refine step_at c (St I c) h fun Ψ => ?_
  rw [st_2, st_3]
  unfold Base
  iintro ⟨⟨#HC, ⟨Ho, Hl, Hn, Hm, HX⟩, HO⟩, Hi, HT⟩ Hk
  iapply (second_step (I := I) (K := K) c j (S := owS f) (mem_owS.mpr (.inr (.inl ⟨.inl rfl, by rw [h]; decide⟩)))
    (mem_owS.mpr (.inr (.inl ⟨.inr rfl, by rw [h]; decide⟩))) owS_pos (by
      intro p hp
      have := ha p.2
      show 2 < lvA p.1 p.2
      unfold lvA
      rcases mem_owS.mp hp with e | e | e
      · omega
      · rcases e.1 with e | e <;> rw [e] <;> simp <;> omega
      · rcases e.1 with e | e <;> rw [e] <;> simp)) $$ [Hm HT HO]
  · isplitr; · iexact HC
    isplitl [Hm]; · iexact Hm
    isplitl [HT] <;> iassumption
  iintro ⟨Hm, HT, HO⟩
  iapply Hk
  isplitr [Hi HT]
  · isplitr; · iexact HC
    isplitr [HO]
    · isplitl [Ho]; · iexact Ho
      isplitl [Hl]; · iexact Hl
      isplitl [Hn]; · iexact Hn
      isplitl [Hm] <;> iassumption
    iexact HO
  isplitl [Hi] <;> iassumption

/-- What came is passed on. -/
theorem pass (c : Dev nD) (j : Fin 8) {f : Fin 8 → ℕ} (h : f j = 3) (ha : ∀ k, 2 ≤ f k ∧ (f k < 3 → j < k)) :
    At I K c f ⊢ wpc c (forward c j) (fun _ => At I K c (Function.update f j 4)) := by
  unfold At
  rw [owS_pass h]
  refine step_at c (St I c) h fun Ψ => ?_
  rw [st_3, st_4]
  iintro ⟨⟨#HC, HB, HO⟩, Hi, HT⟩ Hk
  iapply (forward_step (I := I) (K := K) c j (S := owS f) (mem_owS.mpr (.inr (.inr ⟨.inl rfl, by rw [h]; decide⟩)))
    (mem_owS.mpr (.inr (.inr ⟨.inr rfl, by rw [h]; decide⟩))) (by
      intro p hp a h3 h6
      have h2 := ha p.2
      have hl : lvA a j ≤ 3 + j.val := by unfold lvA; split_ifs <;> omega
      have hj := j.isLt
      refine lt_of_le_of_lt hl ?_
      unfold lvA
      rcases mem_owS.mp hp with e | e | e
      · omega
      · have : j.val < p.2.val := h2.2 e.2
        rcases e.1 with e | e <;> rw [e] <;> simp <;> omega
      · rcases e.1 with e | e <;> rw [e] <;> simp <;> omega)) $$ [HT HO]
  · isplitr; · iexact HC
    isplitl [HT] <;> iassumption
  iintro ⟨HT, HO⟩
  iapply Hk
  isplitr [Hi HT]
  · isplitr; · iexact HC
    isplitl [HB] <;> iassumption
  isplitl [Hi] <;> iassumption

/-- Everything has landed. -/
theorem land (c : Dev nD) (j : Fin 8) {f : Fin 8 → ℕ} (h : f j = 4) (ha : ∀ k, 4 ≤ f k) :
    At I K c f ⊢ wpc c (finish c j) (fun _ => At I K c (Function.update f j 5)) := by
  unfold At
  rw [owS_none ha, owS_none (f := Function.update f j 5) (by
    intro k
    by_cases e : k = j
    · subst e; rw [Function.update_self]; decide
    · rw [Function.update_of_ne e]; exact ha k)]
  refine step_at c (St I c) h fun Ψ => ?_
  rw [st_4, st_5]
  iintro ⟨⟨#HC, HB, HO⟩, Hi, HT⟩ Hk
  iapply (finish_step (I := I) (K := K) c j (S := ∅) (fun p hp => absurd hp (Finset.notMem_empty _))) $$ [HT HO]
  · isplitr; · iexact HC
    isplitl [HT] <;> iassumption
  iintro ⟨HT, HO⟩
  iapply Hk
  isplitr [Hi HT]
  · isplitr; · iexact HC
    isplitl [HB] <;> iassumption
  isplitl [Hi] <;> iassumption

/-- The meeting. -/
theorem met_all (c : Dev nD) {f : Fin 8 → ℕ} (h : ∀ k, f k < 2) : At0 I K c f ⊢ wpc c (meet c) (fun _ => At I K c f) := by
  have hs0 : ∀ k, St0 I c (f k) k ⊢ iprop(St0 I c (f k) k) := fun _ => .rfl
  have hA : ∀ k, (St0 I c (f k) k : sProp 𝕄) = iprop((if f k = 0 then idle I c k anyV else fetching I c k) ∗ T0 c k) := by
    intro k
    have := h k
    unfold St0
    rcases Nat.lt_or_ge (f k) 1 with e | e
    · rw [show f k = 0 by omega]; rfl
    · rw [show f k = 1 by omega]; rfl
  have hB : ∀ k, (St I c (f k) k : sProp 𝕄) = iprop((if f k = 0 then idle I c k anyV else fetching I c k) ∗ T1 c k) := by
    intro k
    have := h k
    unfold St
    rcases Nat.lt_or_ge (f k) 1 with e | e
    · rw [show f k = 0 by omega]; rfl
    · rw [show f k = 1 by omega]; rfl
  have hS : owS f = recvs := by
    ext ⟨a, k⟩
    have := h k
    rw [mem_owS]
    unfold recvs
    simp only [Finset.mem_filter, Finset.mem_univ, true_and]
    omega
  unfold At0 At
  rw [bigSep_congr (fun k _ => hA k), bigSep_congr (fun k _ => hB k), bigSep_sep', bigSep_sep', hS]
  iintro ⟨⟨#HC, HB, H0⟩, Hi, HT⟩
  iapply (meet_step (I := I) (K := K) c) $$ [H0 HT]
  · isplitr; · iexact HC
    isplitl [H0] <;> iassumption
  iintro ⟨HO, Hv, HT⟩
  unfold Base
  icases HB with ⟨Ho, Hl, Hn, Hm, -⟩
  isplitl [Ho Hl Hn Hm Hv HO]
  · isplitr; · iexact HC
    isplitr [HO]
    · isplitl [Ho]; · iexact Ho
      isplitl [Hl]; · iexact Hl
      isplitl [Hn]; · iexact Hn
      isplitl [Hm] <;> iassumption
    iexact HO
  isplitl [Hi] <;> iassumption

/-! ## The body -/

/-- Every chunk at stage `n`. -/
abbrev every (n : ℕ) : Fin 8 → ℕ := fun _ => n

theorem phase1_run (hI : I.Good) (c : Dev nD) : At0 I K c (every 0) ⊢ wpc c (phase1 c) (fun _ => At I K c (every 2)) := by
  unfold phase1
  refine andThen c (issue0 I hI c 0 (by decide)) ?_
  refine andThen c (issue0 I hI c 1 (by decide)) ?_
  refine andThen c (met_all I c (by decide)) ?_
  refine andThen c (issue I hI c 2 (by decide)) ?_
  refine andThen c (send I hI c 0 (by decide)) ?_
  refine andThen c (issue I hI c 3 (by decide)) ?_
  refine andThen c (send I hI c 1 (by decide)) ?_
  refine andThen c (issue I hI c 4 (by decide)) ?_
  refine andThen c (send I hI c 2 (by decide)) ?_
  refine andThen c (issue I hI c 5 (by decide)) ?_
  refine andThen c (send I hI c 3 (by decide)) ?_
  refine andThen c (issue I hI c 6 (by decide)) ?_
  refine andThen c (send I hI c 4 (by decide)) ?_
  refine andThen c (issue I hI c 7 (by decide)) ?_
  refine andThen c (send I hI c 5 (by decide)) ?_
  refine andThen c (send I hI c 6 (by decide)) ?_
  refine BI.Entails.trans (send I hI c 7 (by decide)) (wp_mono _ _ _ fun _ => Entails.of_eq (congrArg _ ?_))
  decide

theorem phase2_run (c : Dev nD) : At I K c (every 2) ⊢ wpc c (phase2 c) (fun _ => At I K c (every 4)) := by
  unfold phase2
  refine andThen c (combine I c 0 (by decide) (by decide)) ?_
  refine andThen c (combine I c 1 (by decide) (by decide)) ?_
  refine andThen c (pass I c 0 (by decide) (by decide)) ?_
  refine andThen c (combine I c 2 (by decide) (by decide)) ?_
  refine andThen c (pass I c 1 (by decide) (by decide)) ?_
  refine andThen c (combine I c 3 (by decide) (by decide)) ?_
  refine andThen c (pass I c 2 (by decide) (by decide)) ?_
  refine andThen c (combine I c 4 (by decide) (by decide)) ?_
  refine andThen c (pass I c 3 (by decide) (by decide)) ?_
  refine andThen c (combine I c 5 (by decide) (by decide)) ?_
  refine andThen c (pass I c 4 (by decide) (by decide)) ?_
  refine andThen c (combine I c 6 (by decide) (by decide)) ?_
  refine andThen c (pass I c 5 (by decide) (by decide)) ?_
  refine andThen c (combine I c 7 (by decide) (by decide)) ?_
  refine andThen c (pass I c 6 (by decide) (by decide)) ?_
  refine BI.Entails.trans (pass I c 7 (by decide) (by decide)) (wp_mono _ _ _ fun _ => Entails.of_eq (congrArg _ ?_))
  decide

theorem phase3_run (c : Dev nD) : At I K c (every 4) ⊢ wpc c (phase3 c) (fun _ => At I K c (every 5)) := by
  unfold phase3
  refine andThen c (land I c 0 (by decide) (by decide)) ?_
  refine andThen c (land I c 1 (by decide) (by decide)) ?_
  refine andThen c (land I c 2 (by decide) (by decide)) ?_
  refine andThen c (land I c 3 (by decide) (by decide)) ?_
  refine andThen c (land I c 4 (by decide) (by decide)) ?_
  refine andThen c (land I c 5 (by decide) (by decide)) ?_
  refine andThen c (land I c 6 (by decide) (by decide)) ?_
  refine BI.Entails.trans (land I c 7 (by decide) (by decide)) (wp_mono _ _ _ fun _ => Entails.of_eq (congrArg _ ?_))
  decide

theorem body_run (hI : I.Good) (c : Dev nD) : At0 I K c (every 0) ⊢ wpc c (Steps.body (F := F)) (fun _ => At I K c (every 5)) := by
  unfold Steps.body wpc
  rw [wp_bind]
  rw [show (Prog.lift .deviceId : PR (F := F) (Dev nD)) = .op .deviceId .ret from rfl, wp_deviceId, wp_ret]
  iintro H
  imodintro
  iapply (andThen c (phase1_run I hI c) (andThen c (phase2_run I c) (phase3_run I c))) $$ H

end Cert.KernelIdeal.Talk
-- ==== Proof.Buffers.lean ====
/- The buffers as a call finds and leaves them: whole, and dealt out in the pieces of the chunks. -/
module

public import proofs.«01_k».proof.Proof.State

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F) {K : GSem nD τ sig → ℕ}

local notation "𝕄" => MT nD τ sig Unit (Elt F) ℕ UU ℕ

/-! ## A buffer in pieces -/

theorem in_pieces {T : Type} [Fintype T] [DecidableEq T] {ℓ : Loc nD τ sig} (Kf : T → Finset (Idx ℓ)) (hc : ∀ i, ∃ t, i ∈ Kf t)
    (hd : ∀ t t' : T, t ≠ t' → Disjoint (Kf t) (Kf t')) (P : Idx ℓ → Elt F ℓ.ty.elt → Prop) :
    (held ℓ Finset.univ fullShare P : sProp 𝕄) ⊢ bigSep Finset.univ (fun t => held ℓ (Kf t) fullShare P) := by
  have e : (Finset.univ : Finset (Idx ℓ)) = Finset.univ.biUnion Kf :=
    (Finset.eq_univ_iff_forall.mpr fun i => Finset.mem_biUnion.mpr ((hc i).imp fun t h => ⟨Finset.mem_univ t, h⟩)).symm
  rw [e]
  exact held_biUnion Finset.univ Kf fun t _ t' _ => hd t t'

theorem whole_again {T : Type} [Fintype T] [DecidableEq T] {ℓ : Loc nD τ sig} (Kf : T → Finset (Idx ℓ)) (hc : ∀ i, ∃ t, i ∈ Kf t)
    (hd : ∀ t t' : T, t ≠ t' → Disjoint (Kf t) (Kf t')) (P : Idx ℓ → Elt F ℓ.ty.elt → Prop) [Nonempty (Buf (Elt F) ℓ)] :
    (bigSep Finset.univ (fun t => held ℓ (Kf t) fullShare P) : sProp 𝕄) ⊢ held ℓ Finset.univ fullShare P := by
  have e : (Finset.univ : Finset (Idx ℓ)) = Finset.univ.biUnion Kf :=
    (Finset.eq_univ_iff_forall.mpr fun i => Finset.mem_biUnion.mpr ((hc i).imp fun t h => ⟨Finset.mem_univ t, h⟩)).symm
  rw [e]
  exact held_join_biUnion Finset.univ Kf fun t _ t' _ => hd t t'

instance junk (ℓ : Loc nD τ sig) : Nonempty (Buf (Elt F) ℓ) := ⟨fun _ => Classical.arbitrary _⟩

/-! ## The 1024-row buffers are their chunks -/

theorem mem_chR (k : Fin 8) (i : S1024x2048.Idx) : i ∈ (chR k).set ↔ 128 * k.val ≤ (i 0).val ∧ (i 0).val < 128 * k.val + 128 := by
  rw [← mem_chG k i]
  exact Iff.of_eq (congrArg (i ∈ ·) (View.set_slice_whole cc0_scratch0 (chR k)).symm)

theorem ch_cover (i : S1024x2048.Idx) : ∃ k : Fin 8, i ∈ (chR k).set := by
  have h : (i 0).val < 1024 := (i 0).isLt
  exact ⟨⟨(i 0).val / 128, by omega⟩, (mem_chR _ i).mpr (by show 128 * ((i 0).val / 128) ≤ (i 0).val ∧ (i 0).val < 128 * ((i 0).val / 128) + 128; omega)⟩

theorem ch_apart (k k' : Fin 8) (h : k ≠ k') : Disjoint (chR k).set (chR k').set := by
  rw [Finset.disjoint_left]
  intro i hi hi'
  have h1 := (mem_chR k i).mp hi
  have h2 := (mem_chR k' i).mp hi'
  exact h (Fin.ext (by omega))

/-- A whole buffer of device `c` at values with `P`. -/
abbrev wholeP (c : Dev nD) (r : Ref sig .tc) (P : Idx ((c : Thread nD τ).loc r) → Elt F ((c : Thread nD τ).loc r).ty.elt → Prop) : sProp 𝕄 :=
  held ((c : Thread nD τ).loc r) Finset.univ fullShare P

theorem gath_set (k : Fin 8) : (gathM.access (chR k)).set = (chR k).set := View.set_slice_whole cc0_scratch0 _
theorem part_set (k : Fin 8) : (ch partM k).view.set = (chR k).set := View.set_slice_whole cc0_scratch1 _
theorem recv_set (k : Fin 8) : (ch recvM k).view.set = (chR k).set := View.set_slice_whole cc0_scratch2 _
theorem red_set (k : Fin 8) : (ch redM k).view.set = (chR k).set := View.set_slice_whole cc0_scratch3 _

theorem gath_split (c : Dev nD) : (wholeP c cc0_scratch0 anyV : sProp 𝕄) ⊢ bigSep Finset.univ (fun k => gathP c k anyV) :=
  in_pieces (ℓ := (c : Thread nD τ).loc cc0_scratch0) (fun k => (gathM.access (chR k)).set) (fun i => (ch_cover i).imp fun k h => (gath_set k).symm ▸ h)
    (fun k k' h => by rw [gath_set, gath_set]; exact ch_apart k k' h) anyV
theorem gath_back (c : Dev nD) : bigSep Finset.univ (fun k => gathP c k anyV) ⊢ (wholeP c cc0_scratch0 anyV : sProp 𝕄) :=
  whole_again (ℓ := (c : Thread nD τ).loc cc0_scratch0) (fun k => (gathM.access (chR k)).set) (fun i => (ch_cover i).imp fun k h => (gath_set k).symm ▸ h)
    (fun k k' h => by rw [gath_set, gath_set]; exact ch_apart k k' h) anyV
theorem part_split (c : Dev nD) : (wholeP c cc0_scratch1 anyV : sProp 𝕄) ⊢ bigSep Finset.univ (fun k => partP c k anyV) :=
  in_pieces (ℓ := (c : Thread nD τ).loc cc0_scratch1) (fun k => (ch partM k).view.set) (fun i => (ch_cover i).imp fun k h => (part_set k).symm ▸ h)
    (fun k k' h => by rw [part_set, part_set]; exact ch_apart k k' h) anyV
theorem part_back (c : Dev nD) : bigSep Finset.univ (fun k => partP c k anyV) ⊢ (wholeP c cc0_scratch1 anyV : sProp 𝕄) :=
  whole_again (ℓ := (c : Thread nD τ).loc cc0_scratch1) (fun k => (ch partM k).view.set) (fun i => (ch_cover i).imp fun k h => (part_set k).symm ▸ h)
    (fun k k' h => by rw [part_set, part_set]; exact ch_apart k k' h) anyV
theorem recv_split (c : Dev nD) : (wholeP c cc0_scratch2 anyV : sProp 𝕄) ⊢ bigSep Finset.univ (fun k => recvP c k anyV) :=
  in_pieces (ℓ := (c : Thread nD τ).loc cc0_scratch2) (fun k => (ch recvM k).view.set) (fun i => (ch_cover i).imp fun k h => (recv_set k).symm ▸ h)
    (fun k k' h => by rw [recv_set, recv_set]; exact ch_apart k k' h) anyV
theorem recv_back (c : Dev nD) : bigSep Finset.univ (fun k => recvP c k anyV) ⊢ (wholeP c cc0_scratch2 anyV : sProp 𝕄) :=
  whole_again (ℓ := (c : Thread nD τ).loc cc0_scratch2) (fun k => (ch recvM k).view.set) (fun i => (ch_cover i).imp fun k h => (recv_set k).symm ▸ h)
    (fun k k' h => by rw [recv_set, recv_set]; exact ch_apart k k' h) anyV
theorem red_split (c : Dev nD) : (wholeP c cc0_scratch3 anyV : sProp 𝕄) ⊢ bigSep Finset.univ (fun k => redP c k fullShare anyV) :=
  in_pieces (ℓ := (c : Thread nD τ).loc cc0_scratch3) (fun k => (ch redM k).view.set) (fun i => (ch_cover i).imp fun k h => (red_set k).symm ▸ h)
    (fun k k' h => by rw [red_set, red_set]; exact ch_apart k k' h) anyV
theorem red_back (c : Dev nD) : bigSep Finset.univ (fun k => redP c k fullShare anyV) ⊢ (wholeP c cc0_scratch3 anyV : sProp 𝕄) :=
  whole_again (ℓ := (c : Thread nD τ).loc cc0_scratch3) (fun k => (ch redM k).view.set) (fun i => (ch_cover i).imp fun k h => (red_set k).symm ▸ h)
    (fun k k' h => by rw [red_set, red_set]; exact ch_apart k k' h) anyV

/-! ## The result is five parts of each chunk -/

/-- The rows `b ≤ row < b + n` of the result. -/
theorem mem_rows (off : Fin 2 → ℕ) (b n : ℕ) (size : Fin 2 → ℕ) (inb) (hoff : off = ![b, 0]) (hsize : size = ![n, 2048]) (i : S4096x2048.Idx) :
    i ∈ (Rect.unit (s := S4096x2048) off size inb).set ↔ b ≤ (i 0).val ∧ (i 0).val < b + n := by
  subst hoff hsize
  rw [Rect.mem_set_unit]
  have h1 : (i 1).val < 2048 := (i 1).isLt
  constructor
  · intro hh; exact hh 0
  · intro hh a
    match a with
    | ⟨0, _⟩ => exact hh
    | ⟨1, _⟩ => exact ⟨Nat.zero_le _, by show (i 1).val < 0 + 2048; omega⟩

/-- Where device `d`'s quarter starts. -/
def quarter (d : Dev nD) : ℕ := 1024 * (d.val % 4)

theorem mem_own (d : Dev nD) (k : Fin 8) (i : S4096x2048.Idx) :
    i ∈ (outOwn d k).view.set ↔ quarter d + 128 * k.val ≤ (i 0).val ∧ (i 0).val < quarter d + 128 * k.val + 128 := by
  rw [show (outOwn d k).view.set = (Rect.unit (s := S4096x2048) (k0_off33 d (chW k)) S128x2048.size (k0_off33_inb d k)).set from View.set_slice_whole main_v34 _]
  refine mem_rows _ _ 128 _ _ ((k0_off33_eq d k).trans ?_) rfl i
  rw [show 2048 * ((d.val / 2) % 2) + 1024 * (d.val % 2) + 128 * k.val = quarter d + 128 * k.val from by unfold quarter; omega]
theorem mem_y (d : Dev nD) (k : Fin 8) (i : S4096x2048.Idx) :
    i ∈ (outY d k).view.set ↔ quarter (yp d) + 128 * k.val ≤ (i 0).val ∧ (i 0).val < quarter (yp d) + 128 * k.val + 64 := by
  rw [show (outY d k).view.set = (Rect.unit (s := S4096x2048) (k0_off34 d (chW k)) S64x2048.size (k0_off34_inb d k)).set from View.set_slice_whole main_v34 _]
  refine mem_rows _ _ 64 _ _ ((k0_off34_eq d k).trans ?_) rfl i
  congr 1
  have : quarter (yp d) = 2048 * (1 - d.val / 2 % 2) + 1024 * (d.val % 2) := by clear k i; revert d; decide +kernel
  omega
theorem mem_z (d : Dev nD) (k : Fin 8) (i : S4096x2048.Idx) :
    i ∈ (outZ d k).view.set ↔ quarter (zp d) + 128 * k.val + 64 ≤ (i 0).val ∧ (i 0).val < quarter (zp d) + 128 * k.val + 64 + 64 := by
  rw [show (outZ d k).view.set = (Rect.unit (s := S4096x2048) (k0_off35 d (chW k)) S64x2048.size (k0_off35_inb d k)).set from View.set_slice_whole main_v34 _]
  refine mem_rows _ _ 64 _ _ ((k0_off35_eq d k).trans ?_) rfl i
  congr 1
  have : quarter (zp d) = 2048 * (d.val / 2 % 2) + 1024 * (1 - d.val % 2) := by clear k i; revert d; decide +kernel
  omega

/-- The five parts of chunk `k` on device `c`: its own, its `y` neighbour's, its `z` neighbour's, and the two halves of the
    opposite one's. -/
def outSet (c : Dev nD) (p : Fin 8 × Fin 5) : Finset S4096x2048.Idx :=
  match p.2 with
  | 0 => (outOwn c p.1).view.set
  | 1 => (outOwn (yp c) p.1).view.set
  | 2 => (outOwn (zp c) p.1).view.set
  | 3 => (outY (zp c) p.1).view.set
  | 4 => (outZ (yp c) p.1).view.set

/-- The first row and the number of rows of each. -/
def outAt (c : Dev nD) (p : Fin 8 × Fin 5) : ℕ × ℕ :=
  match p.2 with
  | 0 => (quarter c + 128 * p.1.val, 128)
  | 1 => (quarter (yp c) + 128 * p.1.val, 128)
  | 2 => (quarter (zp c) + 128 * p.1.val, 128)
  | 3 => (quarter (yp (zp c)) + 128 * p.1.val, 64)
  | 4 => (quarter (zp (yp c)) + 128 * p.1.val + 64, 64)

theorem mem_out (c : Dev nD) (p : Fin 8 × Fin 5) (i : S4096x2048.Idx) :
    i ∈ outSet c p ↔ (outAt c p).1 ≤ (i 0).val ∧ (i 0).val < (outAt c p).1 + (outAt c p).2 := by
  obtain ⟨k, n⟩ := p
  match n with
  | 0 => exact mem_own c k i
  | 1 => exact mem_own (yp c) k i
  | 2 => exact mem_own (zp c) k i
  | 3 => exact mem_y (zp c) k i
  | 4 => exact mem_z (yp c) k i

/-- The quarters of the four devices with the same `x`, all different. -/
theorem quarters (c : Dev nD) : (quarter c = 0 ∨ quarter c = 1024 ∨ quarter c = 2048 ∨ quarter c = 3072)
    ∧ (quarter (yp c) = 0 ∨ quarter (yp c) = 1024 ∨ quarter (yp c) = 2048 ∨ quarter (yp c) = 3072)
    ∧ (quarter (zp c) = 0 ∨ quarter (zp c) = 1024 ∨ quarter (zp c) = 2048 ∨ quarter (zp c) = 3072)
    ∧ (quarter (yp (zp c)) = 0 ∨ quarter (yp (zp c)) = 1024 ∨ quarter (yp (zp c)) = 2048 ∨ quarter (yp (zp c)) = 3072)
    ∧ quarter (zp (yp c)) = quarter (yp (zp c)) ∧ quarter c ≠ quarter (yp c) ∧ quarter c ≠ quarter (zp c) ∧ quarter c ≠ quarter (yp (zp c))
    ∧ quarter (yp c) ≠ quarter (zp c) ∧ quarter (yp c) ≠ quarter (yp (zp c)) ∧ quarter (zp c) ≠ quarter (yp (zp c)) := by
  revert c; decide +kernel

theorem out_cover (c : Dev nD) (i : S4096x2048.Idx) : ∃ p, i ∈ outSet c p := by
  have hq := quarters c
  have h : (i 0).val < 4096 := (i 0).isLt
  let k : Fin 8 := ⟨(i 0).val % 1024 / 128, by omega⟩
  have hk : k.val = (i 0).val % 1024 / 128 := rfl
  have hcase : quarter c = 1024 * ((i 0).val / 1024) ∨ quarter (yp c) = 1024 * ((i 0).val / 1024) ∨ quarter (zp c) = 1024 * ((i 0).val / 1024)
      ∨ quarter (yp (zp c)) = 1024 * ((i 0).val / 1024) := by omega
  rcases hcase with e | e | e | e
  · exact ⟨(k, 0), (mem_out c _ i).mpr (by show quarter c + 128 * k.val ≤ _ ∧ _ < quarter c + 128 * k.val + 128; omega)⟩
  · exact ⟨(k, 1), (mem_out c _ i).mpr (by show quarter (yp c) + 128 * k.val ≤ _ ∧ _ < quarter (yp c) + 128 * k.val + 128; omega)⟩
  · exact ⟨(k, 2), (mem_out c _ i).mpr (by show quarter (zp c) + 128 * k.val ≤ _ ∧ _ < quarter (zp c) + 128 * k.val + 128; omega)⟩
  · by_cases hh : (i 0).val < quarter (yp (zp c)) + 128 * k.val + 64
    · exact ⟨(k, 3), (mem_out c _ i).mpr (by show quarter (yp (zp c)) + 128 * k.val ≤ _ ∧ _ < quarter (yp (zp c)) + 128 * k.val + 64; omega)⟩
    · exact ⟨(k, 4), (mem_out c _ i).mpr (by show quarter (zp (yp c)) + 128 * k.val + 64 ≤ _ ∧ _ < quarter (zp (yp c)) + 128 * k.val + 64 + 64; omega)⟩

/-- Whose quarter a part is in. -/
def outQ (c : Dev nD) (n : Fin 5) : ℕ :=
  match n with
  | 0 => quarter c
  | 1 => quarter (yp c)
  | 2 => quarter (zp c)
  | 3 => quarter (yp (zp c))
  | 4 => quarter (yp (zp c))

theorem row_of (q k b n r o : ℕ) (ho : o = q + 128 * k + b) (hq : q = 0 ∨ q = 1024 ∨ q = 2048 ∨ q = 3072) (hk : k < 8) (hb : b + n ≤ 128)
    (h : o ≤ r ∧ r < o + n) :
    k = r % 1024 / 128 ∧ q = 1024 * (r / 1024) ∧ b ≤ r % 128 ∧ r % 128 < b + n := by omega

/-- A row tells its part's chunk and quarter, and in the opposite quarter its half. -/
theorem out_row (c : Dev nD) (k : Fin 8) (n : Fin 5) (r : ℕ) (h : (outAt c (k, n)).1 ≤ r ∧ r < (outAt c (k, n)).1 + (outAt c (k, n)).2) :
    k.val = r % 1024 / 128 ∧ outQ c n = 1024 * (r / 1024) ∧ (n = 3 → r % 128 < 64) ∧ (n = 4 → 64 ≤ r % 128) := by
  obtain ⟨h0, h1, h2, h3, h4, -⟩ := quarters c
  match n, h with
  | 0, h =>
    have h' : quarter c + 128 * k.val ≤ r ∧ r < quarter c + 128 * k.val + 128 := h
    obtain ⟨e1, e2, e3, e4⟩ := row_of (quarter c) k.val 0 128 r (quarter c + 128 * k.val) (by omega) h0 k.isLt (by omega) h'
    exact ⟨e1, e2, fun h => absurd h (by decide), fun h => absurd h (by decide)⟩
  | 1, h =>
    have h' : quarter (yp c) + 128 * k.val ≤ r ∧ r < quarter (yp c) + 128 * k.val + 128 := h
    obtain ⟨e1, e2, e3, e4⟩ := row_of (quarter (yp c)) k.val 0 128 r (quarter (yp c) + 128 * k.val) (by omega) h1 k.isLt (by omega) h'
    exact ⟨e1, e2, fun h => absurd h (by decide), fun h => absurd h (by decide)⟩
  | 2, h =>
    have h' : quarter (zp c) + 128 * k.val ≤ r ∧ r < quarter (zp c) + 128 * k.val + 128 := h
    obtain ⟨e1, e2, e3, e4⟩ := row_of (quarter (zp c)) k.val 0 128 r (quarter (zp c) + 128 * k.val) (by omega) h2 k.isLt (by omega) h'
    exact ⟨e1, e2, fun h => absurd h (by decide), fun h => absurd h (by decide)⟩
  | 3, h =>
    have h' : quarter (yp (zp c)) + 128 * k.val ≤ r ∧ r < quarter (yp (zp c)) + 128 * k.val + 64 := h
    obtain ⟨e1, e2, e3, e4⟩ := row_of (quarter (yp (zp c))) k.val 0 64 r (quarter (yp (zp c)) + 128 * k.val) (by omega) h3 k.isLt (by omega) h'
    exact ⟨e1, e2, fun _ => e4, fun h => absurd h (by decide)⟩
  | 4, h =>
    have h' : quarter (zp (yp c)) + 128 * k.val + 64 ≤ r ∧ r < quarter (zp (yp c)) + 128 * k.val + 64 + 64 := h
    obtain ⟨e1, e2, e3, e4⟩ := row_of (quarter (zp (yp c))) k.val 64 64 r (quarter (zp (yp c)) + 128 * k.val + 64) rfl (by rw [h4]; exact h3) k.isLt (by omega) h'
    exact ⟨e1, h4.symm.trans e2, fun h => absurd h (by decide), fun _ => e3⟩

theorem outQ_inj (c : Dev nD) (n n' : Fin 5) (h : outQ c n = outQ c n') : n = n' ∨ (n = 3 ∧ n' = 4) ∨ (n = 4 ∧ n' = 3) := by
  revert n n'; revert c; decide +kernel

/-- Two parts with a row in common are one. -/
theorem out_once (c : Dev nD) (p p' : Fin 8 × Fin 5) (r : ℕ) (h : (outAt c p).1 ≤ r ∧ r < (outAt c p).1 + (outAt c p).2)
    (h' : (outAt c p').1 ≤ r ∧ r < (outAt c p').1 + (outAt c p').2) : p = p' := by
  obtain ⟨k, n⟩ := p
  obtain ⟨k', n'⟩ := p'
  obtain ⟨a1, a2, a3, a4⟩ := out_row c k n r h
  obtain ⟨b1, b2, b3, b4⟩ := out_row c k' n' r h'
  refine Prod.ext (Fin.ext (a1.trans b1.symm)) ?_
  rcases outQ_inj c n n' (a2.trans b2.symm) with e | ⟨e, e'⟩ | ⟨e, e'⟩
  · exact e
  · have := a3 e; have := b4 e'; omega
  · have := a4 e; have := b3 e'; omega

theorem out_apart (c : Dev nD) (p p' : Fin 8 × Fin 5) (h : p ≠ p') : Disjoint (outSet c p) (outSet c p') := by
  rw [Finset.disjoint_left]
  intro i hi hi'
  exact h (out_once c p p' _ ((mem_out c p i).mp hi) ((mem_out c p' i).mp hi'))

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The five parts of chunk `k`. -/
def outParts (c : Dev nD) (k : Fin 8) (P : S4096x2048.Idx → Elt F .bf16 → Prop) : sProp 𝕄 :=
  iprop(ownP c c k P ∗ ownP c (yp c) k P ∗ ownP c (zp c) k P ∗ yP c (zp c) k P ∗ zP c (yp c) k P)

theorem outParts_eq (c : Dev nD) (P : S4096x2048.Idx → Elt F .bf16 → Prop) :
    bigSep Finset.univ (fun p => (held ((c : Thread nD τ).loc main_v34) (outSet c p) fullShare P : sProp 𝕄))
      = bigSep Finset.univ (fun k => outParts c k P) := by
  rw [bigSep_univ_prod]
  refine bigSep_congr fun k _ => ?_
  rw [bigSep_five]
  rfl

theorem out_split (c : Dev nD) (P : S4096x2048.Idx → Elt F .bf16 → Prop) :
    (wholeP c main_v34 P : sProp 𝕄) ⊢ bigSep Finset.univ (fun k => outParts c k P) := by
  rw [← outParts_eq]
  exact in_pieces (ℓ := (c : Thread nD τ).loc main_v34) (outSet c) (out_cover c) (out_apart c) P
theorem out_back (c : Dev nD) (P : S4096x2048.Idx → Elt F .bf16 → Prop) :
    bigSep Finset.univ (fun k => outParts c k P) ⊢ (wholeP c main_v34 P : sProp 𝕄) := by
  rw [← outParts_eq]
  exact whole_again (ℓ := (c : Thread nD τ).loc main_v34) (outSet c) (out_cover c) (out_apart c) P

/-! ## The table is a share for each token -/

theorem tab_deal (c : Dev nD) :
    (tabL c ↦[Finset.univ]{fullShare} I.tab c : sProp 𝕄) = bigSep Finset.univ (fun k : Fin 8 => bigSep Finset.univ (tabT I c k)) := by
  haveI : Nonempty Trip := ⟨⟨0, by rw [gTrips]; decide⟩⟩
  rw [pointsTo_deal (Finset.univ : Finset (Fin 8)) Finset.univ_nonempty fullShare]
  refine bigSep_congr fun k _ => ?_
  rw [pointsTo_deal (Finset.univ : Finset Trip) Finset.univ_nonempty (dealOf fullShare Finset.univ k)]
  rfl

end Cert.KernelIdeal.Talk
-- ==== Proof.Cells.lean ====
/- The ghost state the launch deals: the cells' names, positions and tokens, the credits. -/
module

public import proofs.«01_k».proof.Proof.Buffers

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F)

local notation "𝕄" => MT nD τ sig Unit (Elt F) ℕ UU ℕ

/-! ## The cells and the tokens -/

theorem dcell_inj : Function.Injective fun p : Dev nD × Fin 11 × Fin 8 => (dcell p.1 p.2.1 p.2.2 : GSem nD τ sig) := by
  rintro ⟨c, a, k⟩ ⟨c', a', k'⟩ h
  have h1 : c = c' := congrArg (fun g : GSem nD τ sig => g.1.1) h
  have h2 : dsem a k = dsem a' k' := by
    have := congrArg (fun g : GSem nD τ sig => g.2) h
    exact SemLoc.dma.inj this
  have ha : a = a' := by rw [← arr_dsem a k, h2, arr_dsem]
  have hk : k = k' := by rw [← chk_dsem a k, h2, chk_dsem]
  rw [h1, ha, hk]
theorem bcell_inj : Function.Injective fun c : Dev nD => (bcell c : GSem nD τ sig) := fun c c' h => congrArg (fun g : GSem nD τ sig => g.1.1) h

theorem dcell_ne_bcell (c d : Dev nD) (a : Fin 11) (k : Fin 8) : dcell c a k ≠ bcell d := fun h => by
  have h2 : (SemLoc.dma (dsem a k) : SemLoc sig) = .reg barS := congrArg (fun g : GSem nD τ sig => g.2) h
  nomatch h2

theorem disjoint_cells : Disjoint openCells dormCells := by
  rw [Finset.disjoint_left]
  intro g h₁ h₂
  obtain ⟨c, -, rfl⟩ := Finset.mem_image.mp h₁
  obtain ⟨p, -, h⟩ := Finset.mem_image.mp h₂
  exact dcell_ne_bcell _ _ _ _ h

theorem open_eq (Φ : GSem nD τ sig → sProp 𝕄) : bigSep openCells Φ = bigSep Finset.univ fun c => Φ (bcell c) :=
  bigSep_image_of_injOn (f := fun c : Dev nD => (bcell c : GSem nD τ sig)) (s := Finset.univ) bcell_inj.injOn Φ
theorem dorm_eq (Φ : GSem nD τ sig → sProp 𝕄) :
    bigSep dormCells Φ = bigSep Finset.univ fun c : Dev nD => bigSep Finset.univ fun p : Fin 11 × Fin 8 => Φ (dcell c p.1 p.2) := by
  rw [dormCells, bigSep_image_of_injOn dcell_inj.injOn, bigSep_univ_prod]

abbrev barTok (p : Dev nD × Fin 3) : GSem nD τ sig × ℕ × Fin 3 := (bcell p.1, 0, p.2)
abbrev dmaTok (p : Dev nD × Fin 11 × Fin 8) : GSem nD τ sig × ℕ × Fin 3 := (dcell p.1 p.2.1 p.2.2, 0, 0)

theorem barTok_inj : Function.Injective barTok := fun p p' h => by
  have h1 := bcell_inj (congrArg (fun t : GSem nD τ sig × ℕ × Fin 3 => t.1) h)
  have h2 : p.2 = p'.2 := congrArg (fun t : GSem nD τ sig × ℕ × Fin 3 => t.2.2) h
  exact Prod.ext h1 h2
theorem dmaTok_inj : Function.Injective dmaTok := fun p p' h => dcell_inj (congrArg (fun t : GSem nD τ sig × ℕ × Fin 3 => t.1) h)

/-- Every duty's token. -/
def talkToks : Finset (GSem nD τ sig × ℕ × Fin 3) := Finset.univ.image barTok ∪ Finset.univ.image dmaTok

theorem toks_apart : Disjoint (Finset.univ.image barTok) (Finset.univ.image dmaTok) := by
  rw [Finset.disjoint_left]
  intro t h₁ h₂
  obtain ⟨p, -, rfl⟩ := Finset.mem_image.mp h₁
  obtain ⟨p', -, h⟩ := Finset.mem_image.mp h₂
  exact dcell_ne_bcell _ _ _ _ (congrArg (fun t : GSem nD τ sig × ℕ × Fin 3 => t.1) h)

/-- The neighbour that a device tells with its `n`-th unit. -/
def nb (n : Fin 3) (c : Dev nD) : Dev nD := match n with | 0 => xp c | 1 => yp c | 2 => zp c
theorem nb_nb (n : Fin 3) (c : Dev nD) : nb n (nb n c) = c := by revert n c; decide +kernel
theorem peer_peer (a : Fin 11) (c : Dev nD) : peer a (peer a c) = c := by revert a c; decide +kernel

def nbE : Dev nD × Fin 3 ≃ Dev nD × Fin 3 where
  toFun p := (nb p.2 p.1, p.2)
  invFun p := (nb p.2 p.1, p.2)
  left_inv p := Prod.ext (nb_nb p.2 p.1) rfl
  right_inv p := Prod.ext (nb_nb p.2 p.1) rfl
def peerE : Dev nD × Fin 11 × Fin 8 ≃ Dev nD × Fin 11 × Fin 8 where
  toFun p := (peer p.2.1 p.1, p.2)
  invFun p := (peer p.2.1 p.1, p.2)
  left_inv p := Prod.ext (peer_peer p.2.1 p.1) rfl
  right_inv p := Prod.ext (peer_peer p.2.1 p.1) rfl

theorem bigSep_three (Φ : Fin 3 → sProp 𝕄) : bigSep Finset.univ Φ = iprop(Φ 0 ∗ Φ 1 ∗ Φ 2) :=
  bigSep_univ_eq_bigSepL [0, 1, 2] (by decide) (by decide) Φ

/-- The tokens of the units device `c` signals. -/
def barToks (c : Dev nD) : sProp 𝕄 :=
  iprop(dutyTok ER (bcell (xp c)) 0 (0 : Fin 3) ∗ dutyTok ER (bcell (yp c)) 0 (1 : Fin 3) ∗ dutyTok ER (bcell (zp c)) 0 (2 : Fin 3))

/-- Each token at the device that pays with it. -/
theorem toks_eq : bigSep talkToks (fun x => (dutyTok ER x.1 x.2.1 x.2.2 : sProp 𝕄))
    = iprop(bigSep Finset.univ (fun c : Dev nD => barToks c)
        ∗ bigSep Finset.univ (fun c : Dev nD => bigSep Finset.univ fun p : Fin 11 × Fin 8 => tok c p.1 p.2)) := by
  unfold talkToks
  rw [bigSep_union toks_apart, bigSep_image_of_injOn barTok_inj.injOn, bigSep_image_of_injOn dmaTok_inj.injOn,
    bigSep_univ_equiv nbE, bigSep_univ_equiv peerE, bigSep_univ_prod, bigSep_univ_prod]
  rw [bigSep_congr (s := (Finset.univ : Finset (Dev nD))) (Ψ := fun c => barToks c) fun c _ => by rw [bigSep_three]; rfl]
  rfl

/-! ## The credits -/

theorem tally_at (g g' : GSem nD τ sig) (n : ℕ) : (tallyAt g () n g' () : ℕ) = if g' = g then n else 0 := by
  rw [tallyAt_apply]
  by_cases h : g' = g
  · rw [if_pos ⟨h, rfl⟩, if_pos h]
  · rw [if_neg fun e => h e.1, if_neg h]

theorem owed_dma (d c : Dev nD) {a : Fin 11} {k : Fin 8} (h : (a, k) ∈ recvs) :
    O₀ d (dcell c a k) () = if d = peer a c then amt a else 0 := by
  have hO : Ow d recvs (dcell c a k) () = if d = peer a c then amt a else 0 := by
    unfold Ow
    rw [Finset.sum_apply, Finsupp.finset_sum_apply, Finset.sum_eq_single (a, k)]
    · rw [tally_at]
      by_cases e : d = peer a c
      · subst e; rw [peer_peer, if_pos rfl, if_pos rfl]
      · rw [if_neg e, if_neg fun e' => e ?_]
        have := congrArg Prod.fst (dcell_inj (a₁ := (c, a, k)) (a₂ := (peer a d, a, k)) e')
        rw [show c = peer a d from this, peer_peer]
    · intro p _ hp
      rw [tally_at, if_neg fun e => hp ?_]
      exact (congrArg Prod.snd (dcell_inj (a₁ := (c, a, k)) (a₂ := (peer p.1 d, p.1, p.2)) e)).symm
    · exact fun hn => absurd h hn
  unfold O₀
  simp only [Pi.add_apply, Finsupp.add_apply, tally_at, if_neg (dcell_ne_bcell _ _ _ _), Nat.add_zero]
  exact hO

theorem owed_bar (d c : Dev nD) : O₀ d (bcell c) () = (if c = zp d then 1 else 0) + (if c = yp d then 1 else 0) + (if c = xp d then 1 else 0) := by
  have hO : Ow d recvs (bcell c) () = 0 := by
    by_contra hn
    obtain ⟨p, -, e⟩ := Ow_pos (Nat.pos_of_ne_zero hn)
    exact dcell_ne_bcell _ _ _ _ e.symm
  have hb (e : Dev nD) : (if bcell c = (bcell e : GSem nD τ sig) then 1 else 0 : ℕ) = if c = e then 1 else 0 := by
    by_cases h : c = e
    · subst h; rw [if_pos rfl, if_pos rfl]
    · rw [if_neg h, if_neg fun h' => h (bcell_inj h')]
  unfold O₀
  simp only [Pi.add_apply, Finsupp.add_apply, tally_at, hO, hb, Nat.zero_add]

theorem launch_dma (c : Dev nD) {a : Fin 11} {k : Fin 8} (h : (a, k) ∈ recvs) :
    tallyOn (dcell c a k) (launchCredit (Pipeline.owing O₀) 0 (dcell c a k)) = (tallyAt (dcell c a k) () (amt a) : CellTallies nD τ sig Unit) := by
  unfold tallyAt; refine congrArg _ (Finsupp.ext fun u => ?_); cases u
  rw [Pipeline.launchCredit_owing, Finsupp.single_eq_same, Finset.sum_congr rfl fun d _ => owed_dma d c h,
    Finset.sum_ite_eq' Finset.univ (peer a c) fun _ => amt a, if_pos (Finset.mem_univ _)]

theorem three (c : Dev nD) : ∑ d : Dev nD, ((if c = zp d then 1 else 0) + (if c = yp d then 1 else 0) + (if c = xp d then 1 else 0)) = 3 := by
  revert c; decide +kernel

theorem launch_bar (c : Dev nD) :
    tallyOn (bcell c) (launchCredit (Pipeline.owing O₀) 0 (bcell c)) = (tallyAt (bcell c) () 3 : CellTallies nD τ sig Unit) := by
  unfold tallyAt; refine congrArg _ (Finsupp.ext fun u => ?_); cases u
  rw [Pipeline.launchCredit_owing, Finsupp.single_eq_same, Finset.sum_congr rfl fun d _ => owed_bar d c, three]

/-- The receiving arrays, by number. -/
def rArr (n : Fin 5) : Fin 11 := match n with | 0 => 2 | 1 => 4 | 2 => 6 | 3 => 8 | 4 => 10
theorem rArr_inj : Function.Injective rArr := by decide
theorem rArr_mem (k : Fin 8) (n : Fin 5) : (rArr n, k) ∈ recvs := by revert k n; decide

/-- The credit of chunk `k`. -/
def crs (c : Dev nD) (k : Fin 8) : sProp 𝕄 := iprop(cr c 2 k ∗ cr c 4 k ∗ cr c 6 k ∗ cr c 8 k ∗ cr c 10 k)

/-- The semaphore of the `p.2`-th receiving array, chunk `p.1`. -/
def rSem (p : Fin 8 × Fin 5) : SemLoc sig := .dma (dsem (rArr p.2) p.1)
theorem rSem_inj : Function.Injective rSem := by
  intro p p' h
  have e : dcell 0 (rArr p.2) p.1 = dcell 0 (rArr p'.2) p'.1 := congrArg (fun s : SemLoc sig => (((0 : Dev nD) : Thread nD τ), s)) h
  have e' : ((0 : Dev nD), rArr p.2, p.1) = ((0 : Dev nD), rArr p'.2, p'.1) := dcell_inj e
  have h1 : rArr p.2 = rArr p'.2 := congrArg (fun q : Dev nD × Fin 11 × Fin 8 => q.2.1) e'
  have h2 : p.1 = p'.1 := congrArg (fun q : Dev nD × Fin 11 × Fin 8 => q.2.2) e'
  exact Prod.ext h2 (rArr_inj h1)
theorem rSem_mem : Finset.univ.image rSem ⊆ Finset.univ.erase (SemLoc.reg barS : SemLoc sig) := by
  intro s hs
  obtain ⟨p, -, rfl⟩ := Finset.mem_image.mp hs
  refine Finset.mem_erase.mpr ⟨fun h => ?_, Finset.mem_univ _⟩
  have h2 : (SemLoc.dma (dsem (rArr p.2) p.1) : SemLoc sig) = .reg barS := h
  nomatch h2
theorem cred_r (c : Dev nD) (p : Fin 8 × Fin 5) :
    (cred (tallyOn ((c : Thread nD τ), rSem p) (launchCredit (Pipeline.owing O₀) 0 ((c : Thread nD τ), rSem p))) : sProp 𝕄)
      = cr c (rArr p.2) p.1 := congrArg cred (launch_dma c (rArr_mem p.1 p.2))

theorem creds (c : Dev nD) :
    (Pipeline.launchCred O₀ c : sProp 𝕄) ⊢ iprop(cred (tallyAt (bcell c) () 3) ∗ bigSep Finset.univ (fun k => crs c k)) := by
  unfold Pipeline.launchCred
  rw [bigSep_univ_at _ (SemLoc.reg barS), launch_bar]
  refine BIClass.sep_mono (BI.Entails.refl _) ?_
  refine BI.Entails.trans (bigSep_subset rSem_mem) ?_
  rw [bigSep_image_of_injOn rSem_inj.injOn, bigSep_congr fun p _ => cred_r c p, bigSep_univ_prod]
  refine bigSep_mono fun k _ => ?_
  rw [bigSep_five]
  exact BI.Entails.refl _

end Cert.KernelIdeal.Talk
-- ==== Proof.Deal.lean ====
/- How each device comes by its ghost state: the launch deals it, the call opens its cells and closes them. -/
module

public import proofs.«01_k».proof.Proof.Cells

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F)

local notation "𝕄" => MT nD τ sig Unit (Elt F) ℕ UU ℕ

/-! ## What each device comes by -/

theorem pair_all {T : Type} [Fintype T] (Φ Ψ : T → sProp 𝕄) :
    iprop(bigSep Finset.univ Φ ∗ bigSep Finset.univ Ψ) ⊢ bigSep Finset.univ (fun p => iprop(Φ p ∗ Ψ p)) :=
  BI.BIBase.Entails.of_eq (bigSep_sep' _ _ _).symm
theorem unpair_all {T : Type} [Fintype T] (Φ Ψ : T → sProp 𝕄) :
    bigSep Finset.univ (fun p => iprop(Φ p ∗ Ψ p)) ⊢ iprop(bigSep Finset.univ Φ ∗ bigSep Finset.univ Ψ) :=
  BI.BIBase.Entails.of_eq (bigSep_sep' _ _ _)

/-- An update of every summand beside a fact that stays. -/
theorem update_all {T : Type} [Fintype T] [DecidableEq T] {R : sProp 𝕄} [BI.Persistent R] {Φ Ψ : T → sProp 𝕄} (h : ∀ p, iprop(R ∗ Φ p) ⊢ |={Set.univ}=> Ψ p) :
    iprop(R ∗ bigSep Finset.univ Φ) ⊢ |={Set.univ}=> bigSep Finset.univ Ψ := by
  have h1 : iprop(R ∗ bigSep Finset.univ Φ) ⊢ bigSep Finset.univ (fun p => iprop(|={Set.univ}=> Ψ p)) :=
    bigSep_with_persistent fun p _ => h p
  iintro H
  ihave H := h1 $$ H
  imod (BI.bigSep_fupd Finset.univ _) $$ [H] with H
  · iexact H
  imodintro
  iexact H

/-- The records every device may consult. -/
def records (κ : GSem nD τ sig → ℕ) : sProp 𝕄 :=
  iprop(bigSep (openCells ∪ dormCells) (fun g => cellInv ER (Rd I) (κ g) g) ∗ bigSep openCells (fun g => reached ER g 0))

instance records_persistent (κ : GSem nD τ sig → ℕ) : BI.Persistent (records I κ) := by unfold records; infer_instance

/-- What stays with device `c`: its position at the meeting, the right to open its cells, the tokens it pays with. -/
def linear (c : Dev nD) : sProp 𝕄 :=
  iprop(atPos ER (bcell c) 0 (∅ : Finset (Fin 3)) 0 ∗ barToks c ∗ bigSep Finset.univ (fun p : Fin 11 × Fin 8 => openTok ER (dcell c p.1 p.2))
    ∗ bigSep Finset.univ (fun p : Fin 11 × Fin 8 => tok c p.1 p.2))

/-- The kernel's own semaphores. -/
abbrev OwnK : Type := Fin 8 ⊕ (Fin 11 × Fin 8)
def osem (k : OwnK) : SemLoc sig := match k with | .inl k => .dma (gsem k) | .inr p => .dma (dsem p.1 p.2)

/-- All of device `c`'s own at zero. -/
def zeros (c : Dev nD) : sProp 𝕄 :=
  iprop(bigSep Finset.univ (fun k => semVal (gcell c k) 0) ∗ bigSep Finset.univ (fun p : Fin 11 × Fin 8 => semVal (dcell c p.1 p.2) 0))

theorem ownSems0_eq (c : Dev nD) : (Pipeline.ownSems0 osem c : sProp 𝕄) = zeros c := bigSep_univ_sum _

/-- The meeting's tokens, position and credit. -/
def barR (c : Dev nD) : sProp 𝕄 :=
  iprop(barToks c ∗ atPos ER (bcell c) 0 (∅ : Finset (Fin 3)) 0 ∗ cred (tallyAt (bcell c) () 3))

/-- What the launch keeps for the kernel of device `c`, -/
def start (c : Dev nD) : sProp 𝕄 :=
  iprop((∃ κ, records I κ ∗ linear c) ∗ cred (tallyAt (bcell c) () 3) ∗ bigSep Finset.univ (fun k => crs c k))
/-- and what it is once the cells are open. -/
def opened (c : Dev nD) : sProp 𝕄 :=
  iprop(∃ κ, Cx I κ c ∗ barR c ∗ bigSep Finset.univ (fun k => semVal (gcell c k) 0) ∗ bigSep Finset.univ (fun p : Fin 11 × Fin 8 => at0 c p.1 p.2)
    ∗ bigSep Finset.univ (fun p : Fin 11 × Fin 8 => tok c p.1 p.2) ∗ bigSep Finset.univ (fun k => crs c k))

variable {I}

theorem inv_dd (κ : GSem nD τ sig → ℕ) (c : Dev nD) (p : Fin 11 × Fin 8) :
    bigSep (openCells ∪ dormCells) (fun g => (cellInv ER (Rd I) (κ g) g : sProp 𝕄)) ⊢ cellInv ER (Rd I) (κ (dcell c p.1 p.2)) (dcell c p.1 p.2) :=
  bigSep_elim (Finset.mem_union_right _ (Finset.mem_image.mpr ⟨(c, p.1, p.2), Finset.mem_univ _, rfl⟩))
theorem inv_d (κ : GSem nD τ sig → ℕ) (c : Dev nD) (p : Fin 11 × Fin 8) :
    (records I κ : sProp 𝕄) ⊢ cellInv ER (Rd I) (κ (dcell c p.1 p.2)) (dcell c p.1 p.2) := by
  unfold records
  iintro ⟨H, -⟩
  iapply (show bigSep (openCells ∪ dormCells) (fun g => (cellInv ER (Rd I) (κ g) g : sProp 𝕄)) ⊢ cellInv ER (Rd I) (κ (dcell c p.1 p.2)) (dcell c p.1 p.2) from inv_dd κ c p) $$ H

theorem open_cells (κ : GSem nD τ sig → ℕ) (c : Dev nD) :
    iprop(records I κ
        ∗ bigSep Finset.univ (fun p : Fin 11 × Fin 8 => iprop(openTok ER (dcell c p.1 p.2) ∗ semVal (dcell c p.1 p.2) 0)))
      ⊢ |={Set.univ}=> bigSep Finset.univ (fun p : Fin 11 × Fin 8 => iprop(at0 c p.1 p.2 ∗ reached ER (dcell c p.1 p.2) 0)) := by
  refine update_all fun p => ?_
  iintro ⟨HI, Ho, Hv⟩
  iapply (Rounds.cell_open ER (Rd I) (g := dcell c p.1 p.2) (κ := κ (dcell c p.1 p.2)) (Set.mem_univ _))
  isplitl [HI]; · iapply (inv_d (I := I) κ c p); iexact HI
  isplitl [Ho] <;> iassumption

theorem Cx_intro (κ : GSem nD τ sig → ℕ) (c : Dev nD) :
    iprop(records I κ ∗ bigSep Finset.univ (fun p : Fin 11 × Fin 8 => reached ER (dcell c p.1 p.2) 0) ∗ levAts L lv) ⊢ (Cx I κ c : sProp 𝕄) := by
  unfold records Cx
  rw [open_eq (F := F) (fun g => reached ER g 0)]
  iintro ⟨⟨H1, H2⟩, H3, H4⟩
  isplitl [H1]; · iexact H1
  isplitl [H2]; · iexact H2
  isplitl [H3] <;> iassumption

theorem open_all (c : Dev nD) : iprop(start I c ∗ zeros c ∗ levAts L lv) ⊢ (|={Set.univ}=> opened I c : sProp 𝕄) := by
  unfold start linear zeros
  iintro ⟨⟨⟨%κ, #HR, Hat, Hbt, Hop, Htk⟩, Hc3, Hcr⟩, ⟨Hg, Hd⟩, #HL⟩
  imod (open_cells (I := I) κ c) $$ [Hop Hd] with H
  · isplitr; · iexact HR
    iapply (pair_all (fun p : Fin 11 × Fin 8 => openTok ER (dcell c p.1 p.2)) (fun p : Fin 11 × Fin 8 => semVal (dcell c p.1 p.2) 0))
    isplitl [Hop]; · iexact Hop
    iexact Hd
  ihave H := (unpair_all (fun p : Fin 11 × Fin 8 => at0 c p.1 p.2) (fun p : Fin 11 × Fin 8 => reached ER (dcell c p.1 p.2) 0)) $$ H
  icases H with ⟨Ha, #Hr⟩
  imodintro
  unfold opened barR
  iexists κ
  isplitr
  · iapply (Cx_intro (I := I) κ c)
    isplitr; · iexact HR
    isplitr; · iexact Hr
    iexact HL
  isplitl [Hbt Hat Hc3]
  · isplitl [Hbt]; · iexact Hbt
    isplitl [Hat]; · iexact Hat
    iexact Hc3
  isplitl [Hg]; · iexact Hg
  isplitl [Ha]; · iexact Ha
  isplitl [Htk]; · iexact Htk
  iexact Hcr

/-- The owner's positions past their rounds take every cell's counter back. -/
theorem close_all (κ : GSem nD τ sig → ℕ) (c : Dev nD) :
    iprop(Cx I κ c ∗ bigSep Finset.univ (fun p : Fin 11 × Fin 8 => at1 c p.1 p.2))
      ⊢ (|={Set.univ}=> bigSep Finset.univ (fun p : Fin 11 × Fin 8 => semVal (dcell c p.1 p.2) 0) : sProp 𝕄) := by
  refine update_all fun p => ?_
  iintro ⟨HC, Ha⟩
  iapply (Rounds.cell_close ER (Rd I) (g := dcell c p.1 p.2) (κ := κ (dcell c p.1 p.2)) (Set.mem_univ _) id (R := 1) (fun r hr => duties_later I _ r hr))
  isplitl [HC]; · iapply (Cx_d I κ c c p.1 p.2); iexact HC
  iexact Ha

theorem linear_all : iprop(bigSep Finset.univ (fun c : Dev nD => atPos ER (bcell c) 0 (∅ : Finset (Fin 3)) 0)
      ∗ bigSep Finset.univ (fun c : Dev nD => barToks c)
      ∗ bigSep Finset.univ (fun c : Dev nD => bigSep Finset.univ (fun p : Fin 11 × Fin 8 => openTok ER (dcell c p.1 p.2)))
      ∗ bigSep Finset.univ (fun c : Dev nD => bigSep Finset.univ (fun p : Fin 11 × Fin 8 => tok c p.1 p.2)))
    ⊢ (bigSep Finset.univ (fun c : Dev nD => linear c) : sProp 𝕄) := by
  unfold linear
  rw [bigSep_sep', bigSep_sep', bigSep_sep']

theorem deal_all : iprop(bigSep openCells (fun g => atPos ER g 0 (∅ : Finset (Fin 3)) 0) ∗ bigSep dormCells (fun g => openTok ER g)
      ∗ bigSep talkToks (fun x => dutyTok ER x.1 x.2.1 x.2.2))
    ⊢ (bigSep Finset.univ (fun c : Dev nD => linear c) : sProp 𝕄) := by
  rw [open_eq (F := F) (fun g => atPos ER g 0 (∅ : Finset (Fin 3)) 0), dorm_eq (F := F) (fun g => openTok ER g), toks_eq (F := F)]
  iintro ⟨H1, H2, H3, H4⟩
  iapply (linear_all (F := F))
  isplitl [H1]; · iexact H1
  isplitl [H3]; · iexact H3
  isplitl [H2]; · iexact H2
  iexact H4

/-- The launch over any cells. -/
theorem fund_over (S Sd : Finset (GSem nD τ sig)) (hd : Disjoint S Sd) (T : Finset (GSem nD τ sig × ℕ × Fin 3)) (Lin : Dev nD → sProp 𝕄)
    (h : iprop(bigSep S (fun g => atPos ER g 0 (∅ : Finset (Fin 3)) 0) ∗ bigSep Sd (fun g => openTok ER g)
      ∗ bigSep T (fun x => dutyTok ER x.1 x.2.1 x.2.2)) ⊢ bigSep Finset.univ Lin) :
    iprop(bigSep S (fun g => (semVal g 0 : sProp 𝕄)) ∗ BI.own (ER (launchOf S Sd T)))
      ⊢ (|={Set.univ}=> ∃ κ : GSem nD τ sig → ℕ, (bigSep (S ∪ Sd) (fun g => cellInv ER (Rd I) (κ g) g) ∗ bigSep S (fun g => reached ER g 0))
          ∗ bigSep Finset.univ Lin : sProp 𝕄) := by
  iintro H
  imod (Rounds.fund_launch ER (Rd I) hd (fun g _ h => h) T) $$ [H] with ⟨%κ, -, #Hinv, #Hr, Hat, Hopen, Htok⟩
  · iexact H
  imodintro
  iexists κ
  isplitr
  · isplitr; · iexact Hinv
    iexact Hr
  iapply h
  isplitl [Hat]; · iexact Hat
  isplitl [Hopen]; · iexact Hopen
  iexact Htok

/-- The launch: the meeting's cells open, the others' names and rights, the tokens dealt. -/
theorem fund : iprop(bigSep Finset.univ (fun c : Dev nD => (semVal (bcell c) 0 : sProp 𝕄)) ∗ BI.own (ER (launchOf openCells dormCells talkToks)))
    ⊢ (|={Set.univ}=> ∃ κ, records I κ ∗ bigSep Finset.univ (fun c : Dev nD => linear c) : sProp 𝕄) := by
  rw [← open_eq (F := F) (fun g => semVal g 0)]
  exact fund_over (I := I) openCells dormCells disjoint_cells talkToks (fun c => linear c) deal_all

end Cert.KernelIdeal.Talk
-- ==== Proof.Ends.lean ====
/- Into the kernel's state from what a call is given, and out of it. -/
module

public import proofs.«01_k».proof.Proof.Deal

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] (I : In F)

local notation "𝕄" => MT nD τ sig Unit (Elt F) ℕ UU ℕ

theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

/-- What is held of every array and chunk, chunk by chunk. -/
theorem by_chunk (Φ : Fin 11 → Fin 8 → sProp 𝕄) :
    bigSep Finset.univ (fun p : Fin 11 × Fin 8 => Φ p.1 p.2) = bigSep Finset.univ fun k => bigSep Finset.univ fun a => Φ a k := by
  rw [bigSep_univ_equiv (Equiv.prodComm (Fin 8) (Fin 11)), bigSep_univ_prod]
  rfl

/-- Chunk `k` as the call finds it. -/
theorem enter_chunk (c : Dev nD) (k : Fin 8) :
    iprop(gathP c k anyV ∗ semVal (gcell c k) 0 ∗ bigSep Finset.univ (tabT I c k) ∗ partP c k anyV ∗ recvP c k anyV ∗ redP c k fullShare anyV
        ∗ outParts c k anyV ∗ bigSep Finset.univ (fun a => at0 c a k) ∗ bigSep Finset.univ (fun a => tok c a k) ∗ crs c k)
      ⊢ (St0 I c 0 k : sProp 𝕄) := by
  rw [bigSep_eleven, bigSep_eleven, st0_0]
  unfold outParts crs idle T0 giveX giveY giveZ keep pr
  iintro ⟨Hg, Hs, Ht, Hp, Hr, Hd, ⟨Ho, Hoy, Hoz, Hy, Hz⟩, ⟨A0, A1, A2, A3, A4, A5, A6, A7, A8, A9, A10⟩, ⟨B0, B1, B2, B3, B4, B5, B6, B7, B8, B9, B10⟩,
    C2, C4, C6, C8, C10⟩
  isplitl [Hg Hs Ht]
  · isplitl [Hg]; · iexact Hg
    isplitl [Hs]; · iexact Hs
    iexact Ht
  isplitl [Hr]; · iexact Hr
  isplitl [Hoy Hz]
  · isplitl [Hoy]; · iexact Hoy
    iexact Hz
  isplitl [Hoz Hy]
  · isplitl [Hoz]; · iexact Hoz
    iexact Hy
  isplitl [Hp]; · iexact Hp
  isplitl [Hd]; · iexact Hd
  isplitl [Ho]; · iexact Ho
  isplitl [A0 B0]
  · isplitl [B0]; · iexact B0
    iexact A0
  isplitl [A1 B1 A2 B2 C2]
  · isplitl [B1]; · iexact B1
    isplitl [B2]; · iexact B2
    isplitl [A1]; · iexact A1
    isplitl [A2]; · iexact A2
    iexact C2
  isplitl [A3 B3 A4 B4 C4]
  · isplitl [B3]; · iexact B3
    isplitl [B4]; · iexact B4
    isplitl [A3]; · iexact A3
    isplitl [A4]; · iexact A4
    iexact C4
  isplitl [A5 B5 A6 B6 C6]
  · isplitl [B5]; · iexact B5
    isplitl [B6]; · iexact B6
    isplitl [A5]; · iexact A5
    isplitl [A6]; · iexact A6
    iexact C6
  isplitl [A7 B7 A8 B8 C8]
  · isplitl [B7]; · iexact B7
    isplitl [B8]; · iexact B8
    isplitl [A7]; · iexact A7
    isplitl [A8]; · iexact A8
    iexact C8
  isplitl [B9]; · iexact B9
  isplitl [B10]; · iexact B10
  isplitl [A9]; · iexact A9
  isplitl [A10]; · iexact A10
  iexact C10

/-- Chunk `k` as the call leaves it. -/
theorem leave_chunk (c : Dev nD) (k : Fin 8) :
    (St I c 5 k : sProp 𝕄) ⊢ iprop(gathP c k anyV ∗ semVal (gcell c k) 0 ∗ bigSep Finset.univ (tabT I c k) ∗ partP c k anyV ∗ recvP c k anyV
        ∗ redP c k fullShare anyV ∗ outParts c k (OutV I c) ∗ bigSep Finset.univ (fun a => at1 c a k)) := by
  rw [bigSep_eleven, st_5]
  unfold outParts idle T5 fin
  iintro ⟨⟨Hg, Hs, Ht⟩, Hp, Hr, Hd, ⟨Ho, Hoy, Hoz, Hy, Hz⟩, A0, ⟨A1, A2⟩, ⟨A3, A4⟩, ⟨A5, A6⟩, ⟨A7, A8⟩, A9, A10⟩
  isplitl [Hg]; · iexact Hg
  isplitl [Hs]; · iexact Hs
  isplitl [Ht]; · iexact Ht
  isplitl [Hp]; · iexact Hp
  isplitl [Hr]; · iexact Hr
  isplitl [Hd]; · iexact Hd
  isplitl [Ho Hoy Hoz Hy Hz]
  · isplitl [Ho]; · iexact Ho
    isplitl [Hoy]; · iexact Hoy
    isplitl [Hoz]; · iexact Hoz
    isplitl [Hy]; · iexact Hy
    iexact Hz
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

/-- All chunks as the call finds them. -/
theorem enter_chunks (c : Dev nD) :
    iprop(bigSep Finset.univ (fun k => gathP c k anyV) ∗ bigSep Finset.univ (fun k => semVal (gcell c k) 0)
        ∗ bigSep Finset.univ (fun k => bigSep Finset.univ (tabT I c k)) ∗ bigSep Finset.univ (fun k => partP c k anyV)
        ∗ bigSep Finset.univ (fun k => recvP c k anyV) ∗ bigSep Finset.univ (fun k => redP c k fullShare anyV)
        ∗ bigSep Finset.univ (fun k => outParts c k anyV) ∗ bigSep Finset.univ (fun k => bigSep Finset.univ fun a => at0 c a k)
        ∗ bigSep Finset.univ (fun k => bigSep Finset.univ fun a => tok c a k) ∗ bigSep Finset.univ (fun k => crs c k))
      ⊢ (bigSep Finset.univ (fun k => St0 I c 0 k) : sProp 𝕄) := by
  rw [← bigSep_sep', ← bigSep_sep', ← bigSep_sep', ← bigSep_sep', ← bigSep_sep', ← bigSep_sep', ← bigSep_sep', ← bigSep_sep', ← bigSep_sep']
  exact bigSep_mono fun k _ => enter_chunk I c k

/-- All chunks as the call leaves them. -/
theorem leave_chunks (c : Dev nD) :
    (bigSep Finset.univ (fun k => St I c 5 k) : sProp 𝕄)
      ⊢ iprop(bigSep Finset.univ (fun k => gathP c k anyV) ∗ bigSep Finset.univ (fun k => semVal (gcell c k) 0)
        ∗ bigSep Finset.univ (fun k => bigSep Finset.univ (tabT I c k)) ∗ bigSep Finset.univ (fun k => partP c k anyV)
        ∗ bigSep Finset.univ (fun k => recvP c k anyV) ∗ bigSep Finset.univ (fun k => redP c k fullShare anyV)
        ∗ bigSep Finset.univ (fun k => outParts c k (OutV I c)) ∗ bigSep Finset.univ (fun k => bigSep Finset.univ fun a => at1 c a k)) := by
  rw [← bigSep_sep', ← bigSep_sep', ← bigSep_sep', ← bigSep_sep', ← bigSep_sep', ← bigSep_sep', ← bigSep_sep']
  exact bigSep_mono fun k _ => leave_chunk I c k

/-- The scratch buffers, at any contents. -/
def scratch (c : Dev nD) : sProp 𝕄 :=
  iprop(wholeP c cc0_scratch0 anyV ∗ wholeP c cc0_scratch1 anyV ∗ wholeP c cc0_scratch2 anyV ∗ wholeP c cc0_scratch3 anyV)
/-- The staged operands. -/
def staged (c : Dev nD) : sProp 𝕄 := iprop(ownT I c ∗ lidsT I c ∗ cntT I c ∗ maskP I c)
/-- The table and the result, whole. -/
def tabP (c : Dev nD) : sProp 𝕄 := (tabL c ↦[Finset.univ]{fullShare} I.tab c)

/-- All a call is given. -/
def given (c : Dev nD) : sProp 𝕄 :=
  iprop(staged I c ∗ scratch c ∗ tabP I c ∗ wholeP c main_v34 anyV ∗ opened I c ∗ ∃ W, owes (c : Thread nD τ) (O₀ c) W)
/-- All it leaves. -/
def left (c : Dev nD) : sProp 𝕄 :=
  iprop(staged I c ∗ scratch c ∗ tabP I c ∗ wholeP c main_v34 (OutV I c) ∗ zeros c ∗ semVal (bcell c) 0 ∗ ∃ W, owes (c : Thread nD τ) 0 W)

theorem enter (c : Dev nD) : given I c ⊢ (iprop(∃ κ, At0 I κ c (every 0)) : sProp 𝕄) := by
  unfold given staged scratch opened tabP
  rw [tab_deal, by_chunk (fun a k => at0 c a k), by_chunk (fun a k => tok c a k)]
  iintro ⟨⟨H1, H2, H3, H4⟩, ⟨S0, S1, S2, S3⟩, Ht, Ho, ⟨%κ, HC, Hb, Hg, Ha, Htk, Hcr⟩, HO⟩
  ihave S0 := (gath_split (F := F) c) $$ S0
  ihave S1 := (part_split (F := F) c) $$ S1
  ihave S2 := (recv_split (F := F) c) $$ S2
  ihave S3 := (red_split (F := F) c) $$ S3
  ihave Ho := (out_split (F := F) c anyV) $$ Ho
  ihave H := (enter_chunks I c) $$ [S0 Hg Ht S1 S2 S3 Ho Ha Htk Hcr]
  · isplitl [S0]; · iexact S0
    isplitl [Hg]; · iexact Hg
    isplitl [Ht]; · iexact Ht
    isplitl [S1]; · iexact S1
    isplitl [S2]; · iexact S2
    isplitl [S3]; · iexact S3
    isplitl [Ho]; · iexact Ho
    isplitl [Ha]; · iexact Ha
    isplitl [Htk]; · iexact Htk
    iexact Hcr
  iexists κ
  unfold At0 Base barR barToks bar0
  icases Hb with ⟨⟨T1, T2, T3⟩, Hp, Hc⟩
  isplitr [H]
  · isplitl [HC]; · iexact HC
    isplitl [H1 H2 H3 H4]
    · isplitl [H1]; · iexact H1
      isplitl [H2]; · iexact H2
      isplitl [H3]; · iexact H3
      isplitl [H4]; · iexact H4
      iempintro
    isplitl [T1]; · iexact T1
    isplitl [T2]; · iexact T2
    isplitl [T3]; · iexact T3
    isplitl [Hp]; · iexact Hp
    isplitl [Hc]; · iexact Hc
    iexact HO
  iexact H

theorem leave (κ : GSem nD τ sig → ℕ) (c : Dev nD) : At I κ c (every 5) ⊢ (|={Set.univ}=> left I c : sProp 𝕄) := by
  unfold At Base owed
  rw [owS_none (f := every 5) fun _ => (by decide : 4 ≤ 5)]
  iintro ⟨⟨#HC, ⟨H1, H2, H3, H4, Hb⟩, HO⟩, H⟩
  ihave H := (leave_chunks I c) $$ H
  icases H with ⟨S0, Hg, Ht, S1, S2, S3, Ho, Ha⟩
  ihave S0 := (gath_back (F := F) c) $$ S0
  ihave S1 := (part_back (F := F) c) $$ S1
  ihave S2 := (recv_back (F := F) c) $$ S2
  ihave S3 := (red_back (F := F) c) $$ S3
  ihave Ho := (out_back (F := F) c (OutV I c)) $$ Ho
  ihave Ha := (BI.BIBase.Entails.of_eq (by_chunk (F := F) fun a k => at1 c a k).symm) $$ Ha
  ihave Ht := (BI.BIBase.Entails.of_eq (tab_deal (F := F) (I := I) c).symm) $$ Ht
  imod (close_all (I := I) κ c) $$ [Ha] with Hz
  · isplitr; · iexact HC
    iexact Ha
  imodintro
  unfold left staged scratch zeros tabP
  isplitl [H1 H2 H3 H4]
  · isplitl [H1]; · iexact H1
    isplitl [H2]; · iexact H2
    isplitl [H3]; · iexact H3
    iexact H4
  isplitl [S0 S1 S2 S3]
  · isplitl [S0]; · iexact S0
    isplitl [S1]; · iexact S1
    isplitl [S2]; · iexact S2
    iexact S3
  isplitl [Ht]; · iexact Ht
  isplitl [Ho]; · iexact Ho
  isplitl [Hg Hz]
  · isplitl [Hg]; · iexact Hg
    iexact Hz
  isplitl [Hb]; · iexact Hb
  iexact HO

/-- The whole kernel: of what a call is given, what it leaves. -/
theorem call_run (hI : I.Good) (c : Dev nD) : given I c ⊢ (wpc c (Steps.body (F := F)) (fun _ => left I c) : sProp 𝕄) := by
  iintro H
  ihave H := (enter I c) $$ H
  icases H with ⟨%κ, H⟩
  iapply (show At0 I κ c (every 0) ⊢ (wpc c (Steps.body (F := F)) (fun _ => left I c) : sProp 𝕄) from
    by
      refine BI.Entails.trans (body_run (K := κ) I hI c) ?_
      unfold wpc
      exact BI.Entails.trans (wp_mono _ _ _ fun _ => leave I κ c) (wp_fupd _ _ _ _ _)) $$ H

end Cert.KernelIdeal.Talk
-- ==== Proof.Same.lean ====
/- The printed body is the sequence of steps. -/
module

public import proofs.«01_k».proof.Proof.Steps

@[expose] public section

set_option maxRecDepth 65536
set_option synthInstance.maxSize 4096

noncomputable section

namespace Cert.KernelIdeal.Steps

open Idealize.ShloMosaic Idealize.SL.Sem Cert.KernelIdeal Cert.KernelIdeal.Gen

variable {F : FTy → Type} [FloatOps F]

set_option maxHeartbeats 4000000 in
/-- The printed body, called with the call's buffers, is `body`. -/
theorem body_eq (h0 h1 h2 h3 h4 h5 h6 h7 h8 h9) :
    cc0_body (F := F) lidsM h0 ownM h1 cntM h2 maskM h3 tabM h4 outM h5 gathM h6 partM h7 recvM h8 redM h9
      cc0_scratch4 cc0_scratch5 cc0_scratch6 cc0_scratch7 cc0_scratch8 cc0_scratch9 cc0_scratch10 cc0_scratch11
      cc0_scratch12 cc0_scratch13 cc0_scratch14 cc0_scratch15 = body (F := F) := by
  rw [cc0_body_eq_skeleton, cc0_body_skel]
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel, bind_assoc, pure_bind]
  simp only [body, phase1, first, gIssue, gDrain, meet, bind_assoc, pure_bind]
  rfl

end Cert.KernelIdeal.Steps
-- ==== Proof.Region.lean ====
/- The kernel call as a region: what it is called with, its record, what it leaves. -/
module

public import proofs.«01_k».proof.Proof.Ends
public import proofs.«01_k».proof.Proof.Same
public import proofs.«01_k».proof.Proof.Gen.KernelIdeal.Regions
public import Idealize.ShloMosaic.Lib.Pipeline.RegionTalk
public import Idealize.ShloMosaic.Lib.Pipeline.Value

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

open Idealize.ShloMosaic.Pipeline (Dat BodyObligation)

variable (V : Dev nD → Valuation τ sig (Elt F))

/-- What the call reads, of what the host left. -/
def inOf : In F where
  lids c := V c main_v28
  own c := V c main_v29
  cnt c := V c main_v31
  mask c := V c main_v33
  tab c := V c main_arg1

/-- The windows' arrays at entry. -/
def arrA (c : Dev nD) : (w : Fin cfg0.W) → Buf (Elt F) ((cfg0.win w).arr.view.loc (c : Thread nD τ))
  | ⟨0, _⟩ => (inOf V).lids c
  | ⟨1, _⟩ => (inOf V).own c
  | ⟨2, _⟩ => (inOf V).cnt c
  | ⟨3, _⟩ => (inOf V).mask c
/-- The same as the staging buffers hold them. -/
def arrS (c : Dev nD) : (w : Fin cfg0.W) → ((cfg0.win w).block.Idx → Elt F (cfg0.win w).elt)
  | ⟨0, _⟩ => (inOf V).lids c
  | ⟨1, _⟩ => (inOf V).own c
  | ⟨2, _⟩ => (inOf V).cnt c
  | ⟨3, _⟩ => (inOf V).mask c

/-- What a device carries into the call, and what the cells' opening makes of it. -/
def Tk (c : Dev nD) : sProp 𝕄 := iprop(start (inOf V) c ∗ tabP (inOf V) c ∗ wholeP c main_v34 anyV)
def Xk (c : Dev nD) : sProp 𝕄 := iprop(opened (inOf V) c ∗ tabP (inOf V) c ∗ wholeP c main_v34 anyV)
/-- What it carries out. -/
def Yk (c : Dev nD) : sProp 𝕄 := iprop(semVal (bcell c) 0 ∗ tabP (inOf V) c ∗ wholeP c main_v34 (OutV (inOf V) c))

def entering (c : Dev nD) : sProp 𝕄 := iprop(Xk V c ∗ scratch c ∗ ∃ r, prngReg c r)
def leaving (c : Dev nD) : sProp 𝕄 := iprop(Yk V c ∗ zeros c ∗ scratch c ∗ ∃ r, prngReg c r)

/-- The region's proof data. -/
def dats (_ : Fin 1) (c : Dev nD) : Dat τ (Elt F) Unit ℕ UU ℕ cfg0 c where
  A := arrA V c
  after w _ := arrS V c w
  Φ t := if t.val = 0 then entering V c else leaving V c
  q _ := fullShare
  owed t := if t.val = 0 then O₀ c else 0

theorem zero_first : (t0_0.castSucc : Fin (cfg0.N + 1)).val = 0 := rfl
theorem last_ne : ¬ (t0_0.succ : Fin (cfg0.N + 1)).val = 0 := by simp
theorem fin_last_ne : ¬ (Fin.last cfg0.N).val = 0 := by rw [Fin.val_last, show cfg0.N = 1 from N_0]; decide
theorem phi_first (c : Dev nD) : (dats V 0 c).Φ t0_0.castSucc = entering V c := by
  show (if (t0_0.castSucc : Fin (cfg0.N + 1)).val = 0 then entering V c else leaving V c) = entering V c; exact if_pos zero_first
theorem phi_last (c : Dev nD) : (dats V 0 c).Φ t0_0.succ = leaving V c := by
  show (if (t0_0.succ : Fin (cfg0.N + 1)).val = 0 then entering V c else leaving V c) = leaving V c; exact if_neg last_ne
theorem owed_first (c : Dev nD) : (dats V 0 c).owed t0_0.castSucc = O₀ c := by
  show (if (t0_0.castSucc : Fin (cfg0.N + 1)).val = 0 then O₀ c else 0) = O₀ c; exact if_pos zero_first
theorem owed_last (c : Dev nD) : (dats V 0 c).owed t0_0.succ = 0 := by
  show (if (t0_0.succ : Fin (cfg0.N + 1)).val = 0 then O₀ c else 0) = 0; exact if_neg last_ne

theorem owes_in {c : Dev nD} (dat : Dat τ (Elt F) Unit ℕ UU ℕ cfg0 c) (t : Fin (cfg0.N + 1)) (O : CellTallies nD τ sig Unit) (h0 : dat.owed t = O)
    (hr : dat.recorded t = Set.univ) :
    iprop(∃ W, owes (c : Thread nD τ) O W) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
theorem owes_out {c : Dev nD} (dat : Dat τ (Elt F) Unit ℕ UU ℕ cfg0 c) (t : Fin (cfg0.N + 1)) (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- Each window's block is its whole array. -/
theorem block_whole (c : Dev nD) (w : Fin cfg0.W) (d : (cfg0.win w).block.Idx → Elt F (cfg0.win w).elt) :
    (dats V 0 c).before w t0_0 d = arrS V c w := by
  have hw : (cfg0.win w).fetch t0_0 = true := by fin_cases w <;> rfl
  unfold Dat.before; rw [if_pos hw]
  fin_cases w <;> · funext i; unfold Dat.fetched; exact congrArg _ (funext fun a => Fin.ext (Pipeline.Window.rect_emb_val_of_index_zero _ _ _ rfl i))

theorem share_full (c : Dev nD) (w : Fin cfg0.W) : (dats V 0 c).share w = fullShare := by
  unfold Dat.share; split <;> rfl

/-- The scratch buffers are the scoped rest. -/
theorem scratch_eq (c : Dev nD) : (Pipeline.scopedRest (Ix := Unit) (Name := ℕ) (U := UU) (Lvl := ℕ) (Val := Elt F) spec0 c : sProp 𝕄) ⊢ scratch c := by
  rw [scopedRest0_eq]
  unfold scratch wholeP held
  iintro ⟨⟨%f0, H0⟩, ⟨%f1, H1⟩, ⟨%f2, H2⟩, ⟨%f3, H3⟩⟩
  isplitl [H0]; · iexists f0; isplitr; · ipureintro; exact fun _ _ => trivial
                  iexact H0
  isplitl [H1]; · iexists f1; isplitr; · ipureintro; exact fun _ _ => trivial
                  iexact H1
  isplitl [H2]; · iexists f2; isplitr; · ipureintro; exact fun _ _ => trivial
                  iexact H2
  iexists f3; isplitr; · ipureintro; exact fun _ _ => trivial
  iexact H3
theorem scratch_eq' (c : Dev nD) : (scratch c : sProp 𝕄) ⊢ (Pipeline.scopedRest (Ix := Unit) (Name := ℕ) (U := UU) (Lvl := ℕ) (Val := Elt F) spec0 c : sProp 𝕄) := by
  rw [scopedRest0_eq]
  unfold scratch wholeP held
  iintro ⟨⟨%f0, -, H0⟩, ⟨%f1, -, H1⟩, ⟨%f2, -, H2⟩, ⟨%f3, -, H3⟩⟩
  isplitl [H0]; · iexists f0; iexact H0
  isplitl [H1]; · iexists f1; iexact H1
  isplitl [H2]; · iexists f2; iexact H2
  iexists f3; iexact H3

/-- The call runs the body. -/
theorem called (t : Fin cfg0.N) : defs₀ (F := F) .tc cfg0.body (cfg0.bodyArgs t (cfg0.slots t)) = Steps.body (F := F) :=
  Steps.body_eq _ _ _ _ _ _ _ _ _ _

theorem body_obligation (hI : (inOf V).Good) (c : Dev nD) : BodyObligation (dats V 0 c) (defs₀ (F := F)) 𝒱₀ () Set.univ := fun t => by
  obtain rfl := fin_N0 t
  rw [bigSep_W0, bigSep_W0]
  simp only [owns_whole_eq]
  rw [phi_first, phi_last, called]
  unfold entering Xk
  iintro ⟨⟨⟨Hop, Ht, Ho⟩, Hs, Hp⟩, HO, ⟨%d0, %f0, %hf0, H0⟩, ⟨%d1, %f1, %hf1, H1⟩, ⟨%d2, %f2, %hf2, H2⟩, ⟨%d3, %f3, %hf3, H3⟩⟩
  rw [block_whole V c 0] at hf0; rw [block_whole V c 1] at hf1; rw [block_whole V c 2] at hf2; rw [block_whole V c 3] at hf3
  subst hf0 hf1 hf2 hf3
  ihave HO := (owes_out (dats V 0 c) _ (O₀ c) (owed_first V c)) $$ HO
  ihave HW := (show given (inOf V) c ⊢ _ from call_run (inOf V) hI c) $$ [Hop Ht Ho Hs HO H0 H1 H2 H3]
  · unfold given staged
    isplitl [H0 H1 H2 H3]
    · isplitl [H1]; · iexact H1
      isplitl [H0]; · iexact H0
      isplitl [H2]; · iexact H2
      iexact H3
    isplitl [Hs]; · iexact Hs
    isplitl [Ht]; · iexact Ht
    isplitl [Ho]; · iexact Ho
    isplitl [Hop]; · iexact Hop
    iexact HO
  unfold wpc
  iapply (wp_wand _ _ _) $$ HW
  iintro %u HL
  unfold left staged leaving Yk
  icases HL with ⟨⟨H1, H0, H2, H3⟩, Hs, Ht, Ho, Hz, Hb, HO⟩
  isplitl [Hp Hs Ht Ho Hz Hb]
  · isplitl [Ht Ho Hb]
    · isplitl [Hb]; · iexact Hb
      isplitl [Ht]; · iexact Ht
      iexact Ho
    isplitl [Hz]; · iexact Hz
    isplitl [Hs]; · iexact Hs
    iexact Hp
  isplitl [HO]; · iapply (owes_in (dats V 0 c) t0_0.succ 0 (owed_last V c) rfl) $$ HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

/-! ## The record -/

theorem O₀_pos {c : Dev nD} {g : GSem nD τ sig} {u : Unit} (h : 0 < O₀ c g u) :
    (∃ p ∈ recvs, g = dcell (peer p.1 c) p.1 p.2) ∨ ∃ d, g = bcell d := by
  have key (d : Dev nD) (h : 0 < (tallyAt (bcell d) () 1 : CellTallies nD τ sig Unit) g u) : g = bcell d := by
    rw [tallyAt_apply] at h
    split at h
    · next e => exact e.1
    · exact absurd h (Nat.lt_irrefl 0)
  unfold O₀ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (Ow_pos h)
      · exact .inr ⟨_, key _ h⟩
    · exact .inr ⟨_, key _ h⟩
  · exact .inr ⟨_, key _ h⟩

theorem cut_owed (c : Dev nD) (t : Fin (cfg0.N + 1)) (g : GSem nD τ sig) (i : Unit) (h : 0 < (dats V 0 c).owed t g i) :
    i ∈ L g ∧ (0 : ℕ) < lv g i := by
  have e : (dats V 0 c).owed t = if t.val = 0 then O₀ c else 0 := rfl
  rw [e] at h
  split at h
  · rcases O₀_pos h with ⟨p, hp, rfl⟩ | ⟨d, rfl⟩
    · exact ⟨by rw [L_tc]; exact Finset.mem_singleton_self _, by rw [lv_d]; exact lvA_pos (Finset.mem_filter.mp hp).2⟩
    · exact ⟨by rw [L_tc]; exact Finset.mem_singleton_self _, by rw [lv_b]; decide⟩
  · exact absurd h (Nat.lt_irrefl 0)

theorem stage_low : ∀ (w : Fin 4) (s : Fin (win0 w).nbuf), ((win0 w).sem s).val < 12 := by decide

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the call leaves alone. -/
def others : Finset (DevRef τ sig) :=
  ((Pipeline.ucRefs τ sig \ Pipeline.arrRefs (τ := τ) spec0).erase (Proc.devRef .tc main_arg1)).erase (Proc.devRef .tc main_v34)

theorem opening (c : Dev nD) : iprop(Tk V c ∗ Pipeline.ownSems0 osem c ∗ levAts L lv) ⊢ (|={Set.univ}=> Xk V c : sProp 𝕄) := by
  rw [ownSems0_eq]
  unfold Tk Xk
  iintro ⟨⟨Hs, Ht, Ho⟩, Hz, HL⟩
  imod (open_all (I := inOf V) c) $$ [Hs Hz HL] with H
  · isplitl [Hs]; · iexact Hs
    isplitl [Hz]; · iexact Hz
    iexact HL
  imodintro
  isplitl [H]; · iexact H
  isplitl [Ht]; · iexact Ht
  iexact Ho

theorem held_none (c : Dev nD) (W : Valuation τ sig (Elt F)) : (StableHlo.held (c.tc : Thread nD τ) (∅ : Finset (DevRef τ sig)) W : sProp 𝕄) = BI.emp := by
  unfold StableHlo.held; exact BI.bigSep_empty

theorem going_in (c : Dev nD) :
    iprop(Pipeline.scopedRest (Pipeline.pin (pcfgs (F := F)) adm 0).spec c ∗ (∃ r, prngReg c r) ∗ StableHlo.held (c.tc : Thread nD τ) ∅ (V c) ∗ Xk V c)
      ⊢ (dats V 0 c).Φ 0 := by
  rw [show (dats V 0 c).Φ 0 = entering V c from rfl]
  unfold entering
  iintro ⟨Hs, Hp, -, HX⟩
  isplitl [HX]; · iexact HX
  isplitl [Hs]; · iapply (scratch_eq (F := F) c) $$ Hs
  iexact Hp

theorem going_out (c : Dev nD) :
    (dats V 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (V c)
          ∗ Pipeline.ownSems0 osem c ∗ Yk V c) := by
  rw [show (dats V 0 c).Φ (Fin.last _) = leaving V c from phi_last V c, ownSems0_eq, held_none]
  unfold leaving
  iintro ⟨HY, Hz, Hs, Hp⟩
  isplitl [Hs]; · iapply (scratch_eq' (F := F) c) $$ Hs
  isplitl [Hp]; · iexact Hp
  isplitr; · iempintro
  isplitl [Hz]; · iexact Hz
  iexact HY

theorem own_facts : Pipeline.OwnSemFacts spec0 osem := by decide

set_option backward.isDefEq.respectTransparency.types false in
/-- The region. -/
def region (hI : (inOf V).Good) : Pipeline.RegionSeg (pcfgs (F := F)) adm (dats V) () defs₀ 𝒱₀ L lv 0 :=
  Pipeline.RegionSeg.ofTalk (pcfgs (F := F)) adm (dats V) () defs₀ 𝒱₀ L lv 0 osem own_facts
    ∅ others (Finset.empty_subset _) kitP rfl (fun c => (body_obligation V hI c).loose)
    (fun _ => 0) O₀ (fun c => (owed_first V c).trans (zero_add _).symm) (owed_last V) (fun _ => rfl) (share_full V)
    V V (fun _ _ _ => rfl)
    (Tk V) (Yk V) (Xk V) (Yk V) (opening V) (going_in V) (going_out V)
    (fun c => by iintro H; imodintro; iexact H)
    (fun _ => 0)
    ⟨fun c w s => by rw [L_tc]; exact Finset.mem_singleton_self _,
      fun c w s => by
        show (if 12 ≤ ((win0 w).sem s).val then _ else 0) ≤ 0
        rw [if_neg (by have := stage_low w s; omega)],
      fun c t g i h => cut_owed V c t g i h⟩
    (fun _ => iprop(emp))
    (fun c w => by fin_cases w <;> rfl)
    (fun c w => ((dats V 0 c).arrAt_in w (by fin_cases w <;> rfl) _).trans (by fin_cases w <;> rfl))

end Cert.KernelIdeal.Talk
-- ==== Proof.Run.lean ====
/- The run of the whole program from any launch memory. -/
module

public import proofs.«01_k».proof.Proof.Region
public import Idealize.ShloMosaic.Lib.Quiescent

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- What the call reads, from the launch memory. -/
abbrev inM : In F := inOf (V3 m)

/-- What rides beside the buffers up to the call. -/
def ride (c : Dev nD) : sProp 𝕄 := iprop(start (inM m) c ∗ (∃ r, prngReg c r) ∗ ∃ W, owes (c : Thread nD τ) (O₀ c) W)

theorem arr_sub : Pipeline.arrRefs (τ := τ) spec0 ⊆ Pipeline.ucRefs τ sig := by decide
theorem arg1_mem : (Proc.devRef .tc main_arg1 : DevRef τ sig) ∈ Pipeline.ucRefs τ sig \ Pipeline.arrRefs (τ := τ) spec0 := by decide
theorem v34_mem : (Proc.devRef .tc main_v34 : DevRef τ sig) ∈ (Pipeline.ucRefs τ sig \ Pipeline.arrRefs (τ := τ) spec0).erase (Proc.devRef .tc main_arg1) := by decide
theorem arg0_mem : (Proc.devRef .tc main_arg0 : DevRef τ sig) ∈ others := by decide

/-- The buffers, the table and the result apart. -/
theorem held_parts (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ (((c : Thread nD τ).loc main_arg1) ↦{fullShare} W main_arg1)
          ∗ (((c : Thread nD τ).loc main_v34) ↦{fullShare} W main_v34) ∗ StableHlo.held (c : Thread nD τ) others W) := by
  rw [StableHlo.held_sub_split (c : Thread nD τ) arr_sub W]
  unfold StableHlo.held others
  rw [bigSep_erase arg1_mem, bigSep_erase v34_mem]
  rfl

theorem tab_held (c : Dev nD) : ((((c : Thread nD τ).loc main_arg1) ↦{fullShare} V3 m c main_arg1) : sProp 𝕄) ⊢ tabP (inM m) c :=
  BI.BIBase.Entails.of_eq rfl

theorem arg0_held (c : Dev nD) (W : Valuation τ sig (Elt F)) :
    (StableHlo.held (c : Thread nD τ) others W : sProp 𝕄) ⊢ iprop((((c : Thread nD τ).loc main_arg0) ↦{fullShare} W main_arg0) ∗ True) := by
  have h : (StableHlo.held (c : Thread nD τ) others W : sProp 𝕄) = iprop((((c : Thread nD τ).loc main_arg0) ↦{fullShare} W main_arg0)
      ∗ StableHlo.held (c : Thread nD τ) (others.erase (Proc.devRef .tc main_arg0)) W) := by
    unfold StableHlo.held
    rw [bigSep_erase arg0_mem]; rfl
  rw [h]
  iintro ⟨H, -⟩
  isplitl [H]; · iexact H
  ipureintro; trivial

theorem region_pre (hI : (inM m).Good) (c : Dev nD) :
    iprop(StableHlo.held (c : Thread nD τ) (Pipeline.ucRefs τ sig) (V3 m c) ∗ ride m c) ⊢ (region (V3 m) hI).pre c := by
  show _ ⊢ iprop(StableHlo.held (c.tc : Thread nD τ) (Pipeline.arrRefs (τ := τ) spec0) (V3 m c) ∗ (∃ r, prngReg c r)
    ∗ (StableHlo.held (c.tc : Thread nD τ) others (V3 m c) ∗ emp) ∗ Tk (V3 m) c ∗ ∃ Wd, owes (c : Thread nD τ) (0 + O₀ c) Wd)
  rw [zero_add, held_parts]
  unfold ride Tk
  iintro ⟨⟨Ha, Ht, Ho, Hr⟩, Hs, Hp, HO⟩
  isplitl [Ha]; · iexact Ha
  isplitl [Hp]; · iexact Hp
  isplitl [Hr]
  · isplitl [Hr]; · iexact Hr
    iempintro
  isplitl [Hs Ht Ho]
  · isplitl [Hs]; · iexact Hs
    ihave Ht := (tab_held m c) $$ Ht
    isplitl [Ht]; · iexact Ht
    unfold wholeP held
    iexists _
    isplitr; swap; · iexact Ho
    ipureintro; exact fun _ _ => trivial
  iexact HO

/-- What a device ends with. -/
def ends (c : Dev nD) : sProp 𝕄 := iprop(StableHlo.held (c : Thread nD τ) others (V3 m c) ∗ Yk (V3 m) c)

theorem region_post (hI : (inM m).Good) (c : Dev nD) :
    (region (V3 m) hI).post c ⊢ iprop(ends m c ∗ ∃ W, owes (c : Thread nD τ) (0 : CellTallies nD τ sig Unit) W) := by
  show iprop(StableHlo.held (c.tc : Thread nD τ) (Pipeline.arrRefs (τ := τ) spec0) (V3 m c) ∗ (∃ r, prngReg c r)
    ∗ (StableHlo.held (c.tc : Thread nD τ) others (V3 m c) ∗ emp) ∗ Yk (V3 m) c ∗ ∃ Wd, owes (c : Thread nD τ) (0 : CellTallies nD τ sig Unit) Wd) ⊢ _
  unfold ends
  iintro ⟨-, -, ⟨Hh, -⟩, Hb, HO⟩
  isplitr [HO]
  · isplitl [Hh]; · iexact Hh
    iexact Hb
  iexact HO

/-! ## The launch -/

/-- The launch element. -/
def u₀ : UU :=
  (initOf (Pipeline.cells (Pipeline.pin (pcfgs (F := F)) adm) cellOf_inj) (Pipeline.launchToks (Pipeline.pin (pcfgs (F := F)) adm) cellOf_inj),
    (launchOf openCells dormCells talkToks, 1))

theorem own_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- A resource parked on device `c₀`. -/
def onDev (c₀ : Dev nD) (X : sProp 𝕄) (c : Dev nD) : sProp 𝕄 := if c = c₀ then X else BI.emp
theorem bigSep_onDev (c₀ : Dev nD) (X : sProp 𝕄) : bigSep Finset.univ (onDev c₀ X) = X := by
  rw [BI.bigSep_univ_split c₀, BI.bigSep_congr (s := Finset.univ.erase c₀) (Ψ := fun _ => (BI.emp : sProp 𝕄))
      fun c hc => by unfold onDev; rw [if_neg (Finset.ne_of_mem_erase hc)], BI.bigSep_emp_const]
  unfold onDev; rw [if_pos rfl]
  exact BI.equiv_iff.mp sep_emp

def parked : Dev nD → sProp 𝕄 := onDev 0 (BI.own (ER (launchOf openCells dormCells talkToks)))

theorem parked_all : bigSep Finset.univ (parked (F := F)) ⊢ BI.own (ER (launchOf openCells dormCells talkToks)) :=
  BI.BIBase.Entails.of_eq (bigSep_onDev 0 _)

theorem unscoped_bar : (Finset.univ.filter fun sm : SemLoc sig => ¬ sm.isScoped .tc) = {SemLoc.reg barS} := by decide
theorem unscoped_eq (sm : SemLoc sig) (h : sm.isScoped .tc = false) : sm = .reg barS := by
  have : sm ∈ (Finset.univ.filter fun sm : SemLoc sig => ¬ sm.isScoped .tc) := Finset.mem_filter.mpr ⟨Finset.mem_univ _, by rw [h]; decide⟩
  rw [unscoped_bar] at this
  exact Finset.mem_singleton.mp this
theorem unscopedSems0_eq (c : Dev nD) : (unscopedSems0 c : sProp 𝕄) = semVal (bcell c) 0 := by
  unfold unscopedSems0
  rw [unscoped_bar, BI.bigSep_singleton]

/-- What of a device's launch holdings is not the protocol's. -/
def bundle (c : Dev nD) : sProp 𝕄 :=
  iprop(StableHlo.held (c : Thread nD τ) (Pipeline.ucRefs τ sig) (V0 m c) ∗ (cred (tallyAt (bcell c) () 3) ∗ bigSep Finset.univ (fun k => crs c k))
    ∗ (∃ r, prngReg c r) ∗ ∃ W, owes (c : Thread nD τ) (O₀ c) W)

/-- A device's launch holdings. -/
def dealt (c : Dev nD) : sProp 𝕄 :=
  iprop(unscopedBufs c (fun b => m ((c : Thread nD τ).loc b)) ∗ unscopedSems0 c
          ∗ owes (c : Thread nD τ) (O₀ c) ∅ ∗ Pipeline.launchCred O₀ c ∗ prngReg c (ρ c) ∗ parked c)

theorem dealt_split (c : Dev nD) : dealt m ρ c ⊢ (iprop(bundle m c ∗ (semVal (bcell c) 0 ∗ parked c)) : sProp 𝕄) := by
  unfold dealt bundle
  rw [show unscopedBufs c (fun b => m ((c : Thread nD τ).loc b)) = StableHlo.held (c : Thread nD τ) (Pipeline.ucRefs τ sig) (V0 m c) from
    Pipeline.unscopedBufs_held c (V0 m c), unscopedSems0_eq]
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [Hp]; · iexists (ρ c); iexact Hp
    iexists ∅; iexact HO
  isplitl [Hus]; · iexact Hus
  iexact HG

/-- A device's state as @main starts. -/
abbrev T₀ (c : Dev nD) : sProp 𝕄 := iprop(StableHlo.held (c : Thread nD τ) (Pipeline.ucRefs τ sig) (V0 m c) ∗ ride m c)

theorem T₀_intro (κ : GSem nD τ sig → ℕ) (c : Dev nD) : iprop(records (inM m) κ ∗ (bundle m c ∗ linear c)) ⊢ T₀ m c := by
  unfold bundle T₀ ride start
  iintro ⟨#HR, ⟨Hh, ⟨H3, Hc⟩, Hp, HO⟩, Hl⟩
  isplitl [Hh]; · iexact Hh
  isplitl [Hl H3 Hc]
  · isplitl [Hl]
    · iexists κ
      isplitr; · iexact HR
      iexact Hl
    isplitl [H3]; · iexact H3
    iexact Hc
  isplitl [Hp]; · iexact Hp
  iexact HO

theorem dealt_all : bigSep Finset.univ (dealt m ρ) ⊢ (bigSep Finset.univ (fun c => iprop(bundle m c ∗ (semVal (bcell c) 0 ∗ parked c))) : sProp 𝕄) :=
  BI.bigSep_mono fun c _ => dealt_split m ρ c

theorem init : iprop(bigSep Finset.univ (dealt m ρ) ∗ levAts L lv) ⊢ (|={Set.univ}=> bigSep Finset.univ (T₀ m) : sProp 𝕄) := by
  iintro ⟨H, -⟩
  ihave H := (dealt_all m ρ) $$ H
  ihave H := (unpair_all (F := F) (bundle m) (fun c => iprop(semVal (bcell c) 0 ∗ parked c))) $$ H
  icases H with ⟨HB, H⟩
  ihave H := (unpair_all (F := F) (fun c : Dev nD => (semVal (bcell c) 0 : sProp 𝕄)) parked) $$ H
  icases H with ⟨Hv, HG⟩
  ihave HG := (parked_all (F := F)) $$ HG
  imod (fund (I := inM m)) $$ [Hv HG] with ⟨%κ, #HR, Hl⟩
  · isplitl [Hv]; · iexact Hv
    iexact HG
  imodintro
  ihave H := (pair_all (F := F) (bundle m) (fun c => linear c)) $$ [HB Hl]
  · isplitl [HB]; · iexact HB
    iexact Hl
  iapply (bigSep_with_persistent (R := records (inM m) κ) (Φ := fun c => iprop(bundle m c ∗ linear c)) fun c _ => T₀_intro m κ c)
  isplitr; · iexact HR
  iexact H

/-! ## The run -/

/-- What a final memory holds on device `c`. -/
def Final (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ (∀ i, OutV (inM m) c i (s.mem ((c : Thread nD τ).loc main_v34) i))

theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_arg1 (c : Dev nD) : V3 m c main_arg1 = m ((c : Thread nD τ).loc main_arg1) :=
  (V3_of m c main_arg1 (by decide)).trans <| (V2_of m c main_arg1 (by decide)).trans <| (V1_of m c main_arg1 (by decide)).trans rfl

theorem read_end (c : Dev nD) (s' : Phys nD τ sig (Elt F)) :
    iprop(ends m c ∗ SI s') ⊢ (|={Set.univ}=> iprop(⌜Final m c s'.mem ∧ s'.mem.sem (bcell c) = 0⌝ ∗ SI s') : sProp 𝕄) := by
  unfold ends Yk tabP wholeP held
  iintro ⟨⟨Hh, Hb, Ht, ⟨%f, %hf, Ho⟩⟩, HSI⟩
  ihave H := (arg0_held c _) $$ Hh
  icases H with ⟨H0, -⟩
  icombine HSI H0 gives %h0
  icombine HSI Ht gives %h1
  icombine HSI Ho gives %h2
  icombine HSI Hb gives %hb
  imodintro
  isplitr
  · ipureintro
    exact ⟨⟨(Buf.eq_of_forall_mem_univ h0).trans (V3_arg0 m c), (Buf.eq_of_forall_mem_univ h1).trans (V3_arg1 m c),
      fun i => by rw [Buf.eq_of_forall_mem_univ h2]; exact hf i (Finset.mem_univ i)⟩, by simpa using hb⟩
  iexact HSI

set_option backward.isDefEq.respectTransparency.types false in
/-- From any memory with zero counters every weakly fair execution terminates, each device then holding its arguments as
    launched and in its result what the call computes, every counter at zero. -/
theorem run_good (hI : (inM m).Good) : θ_run defs (onTc (τ := τ) (main (F := F))) ⟨m, fun _ => 0, ρ⟩
    (fun r => (∀ c : Dev nD, Final m c r.2) ∧ r.2.sem = fun _ => 0) :=
  Pipeline.θ_run_regions_kit_dev_sems (pcfgs (F := F)) adm (dats (V3 m)) () cellOf_inj EP defs₀ 𝒱₀ L lv m ρ main
    (segs m 𝒱₀ L lv (fun _ => ride m) () (dats (V3 m)) (region (V3 m) hI))
    (fun c Q => by
      rewrite [main_chain c, Pipeline.Seg.run_eq_chain,
        show (segs m 𝒱₀ L lv (fun _ => ride m) () (dats (V3 m)) (region (V3 m) hI) c).map Pipeline.Seg.prog = [
          StableHlo.seq (hostOps0 c),
          StableHlo.seq hostOps0_1,
          StableHlo.seq hostOps0_2,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne parked u₀
    (by
      unfold u₀ parked
      iintro Hu
      ihave H := (own_split (F := F) _ _) $$ Hu
      icases H with ⟨HP, HX⟩
      imodintro
      isplitl [HP]; · iexact HP
      rw [bigSep_onDev]; iexact HX)
    (T₀ m) (ends m)
    (fun c => ⟨.rfl, .rfl, .rfl, region_pre m hI c, region_post m hI c⟩)
    (init m ρ) (fun c s => Final m c s ∧ s.sem (bcell c) = 0) (read_end m)
    (fun s h hs => ⟨fun c => (h c).1, sem_eq_zero hs fun c sm hsm => by
        obtain rfl := unscoped_eq sm hsm
        exact (h c).2⟩)

end Cert.KernelIdeal.Talk
-- ==== Proof.Host.lean ====
/- What the host operations before the call leave for it, entry by entry. -/
module

public import proofs.«01_k».proof.Proof.Run
public import Idealize.ShloMosaic.Lib.StableHlo.RunClose

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The operations' terms -/

/-- A mesh coordinate, as the host computes it off the device's number. -/
def coordW (c : Dev nD) (a b : BitVec 32) : IVec S_ 32 :=
  id (Host.remui (Host.divui (constantI S_ 32 (Dev.word c)) (constantI S_ 32 a)) (constantI S_ 32 b))
/-- The first token of the device's quarter. -/
def quarterW (c : Dev nD) : IVec S_ 32 :=
  muli (addi (muli (constantI S_ 32 2#32) (coordW c 2#32 2#32)) (coordW c 1#32 2#32)) (constantI S_ 32 1024#32)
/-- The same, as a slice's start. -/
def startW (c : Dev nD) : IVec S_ 32 :=
  select (cmpi .slt (quarterW c) (constantI S_ 32 0#32)) (addi (quarterW c) (constantI S_ 32 4096#32)) (quarterW c)
/-- The first row of the device's half of the table. -/
def baseW (c : Dev nD) : IVec S_ 32 := muli (coordW c 4#32 2#32) (constantI S_ 32 8192#32)
/-- The device's tokens. -/
def idsW (c : Dev nD) : IVec S1024 32 :=
  Host.dynamicSlice S1024 (m ((c : Thread nD τ).loc main_arg0) : IVec S4096 32) (fun k => ((![startW c] : Fin 1 → IVec S_ 32) k (Shape.Idx.first h_S_)).toInt) sliceFits_S4096_S1024
/-- Each token's row of the device's half, not yet clipped. -/
def localW (c : Dev nD) : IVec S1024 32 := subi (idsW m c) (broadcastInDim S1024 ![] bcast_S_S1024 (baseW c))
/-- Whether that row is one of the half's. -/
def ownW (c : Dev nD) : IVec S1024 1 :=
  andi (cmpi .sge (localW m c) (broadcastInDim S1024 ![] bcast_S_S1024 (constantI S_ 32 0#32)))
    (cmpi .slt (localW m c) (broadcastInDim S1024 ![] bcast_S_S1024 (constantI S_ 32 8192#32)))
/-- The row, clipped. -/
def clipW (c : Dev nD) : IVec S1024 32 :=
  minsi (broadcastInDim S1024 ![] bcast_S_S1024 (constantI S_ 32 8191#32))
    (maxsi (broadcastInDim S1024 ![] bcast_S_S1024 (constantI S_ 32 0#32)) (localW m c))

/-! ## What each stretch leaves, from what it finds -/

theorem first_local (c : Dev nD) : V1 m c main_v22 = localW m c := by
  show StableHlo.after (hostOps0 c) (V0 m c) _ = _
  after_results_simp_entrywise
  simp only [ownW, localW, idsW, startW, quarterW, baseW, coordW]
  all_goals rfl

theorem first_own (c : Dev nD) : V1 m c main_v27 = ownW m c := by
  show StableHlo.after (hostOps0 c) (V0 m c) _ = _
  after_results_simp_entrywise
  simp only [ownW, localW, idsW, startW, quarterW, baseW, coordW]
  all_goals rfl

theorem first_lo (c : Dev nD) : V1 m c main_c_12 = constantI S_ 32 0#32 := by
  show StableHlo.after (hostOps0 c) (V0 m c) _ = _
  after_results
theorem first_hi (c : Dev nD) : V1 m c main_c_13 = constantI S_ 32 8191#32 := by
  show StableHlo.after (hostOps0 c) (V0 m c) _ = _
  after_results

section Later
variable (V : Valuation τ sig (Elt F))

theorem second_clip : StableHlo.after hostOps0_1 V main_v28
    = minsi (broadcastInDim S1024 ![] bcast_S_S1024 (V main_c_13 : IVec S_ 32)) (maxsi (broadcastInDim S1024 ![] bcast_S_S1024 (V main_c_12 : IVec S_ 32)) (V main_v22 : IVec S1024 32)) := by
  after_results <;> rfl
theorem third_own : StableHlo.after hostOps0_2 V main_v29 = extui 32 (V main_v27 : IVec S1024 1) natLt_1_32 := by
  after_results
theorem third_count : StableHlo.after hostOps0_2 V main_v31
    = Host.reduce IntOp.addi (shapeCast S8x128 (extui 32 (V main_v27 : IVec S1024 1) natLt_1_32) shapeCasts_S1024_S8x128) (constantI S_ 32 0#32) reducesTo_S8x128_S8_d1 h_S_ := by
  after_results <;> rfl
theorem third_mask : StableHlo.after hostOps0_2 V main_v33 = shapeCast S1024x1 (uitofp (F := F) .bf16 (V main_v27 : IVec S1024 1)) shapeCasts_S1024_S1024x1 := by
  after_results <;> rfl
end Later

end Cert.KernelIdeal.Talk
-- ==== Proof.Good.lean ====
/- The host's tables meet what the call asks of them, whatever the tokens. -/
module

public import proofs.«01_k».proof.Proof.Host
public import Idealize.ShloMosaic.Lib.StableHlo.Predicate

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## Words -/

/-- A clipped word is a row number of the half. -/
theorem clip_lt (x : BitVec 32) : (IntOp.minsi 8191#32 (IntOp.maxsi 0#32 x)).toNat < 8192 := by
  have hx := x.isLt
  have hi := BitVec.toInt_eq_toNat_cond x
  unfold IntOp.minsi IntOp.maxsi
  by_cases h : x.slt 0#32 = true
  · rw [if_pos h]; decide
  · rw [if_neg h]
    rw [BitVec.slt_iff_toInt_lt] at h
    have h0 : (0#32 : BitVec 32).toInt = 0 := by decide
    by_cases h2 : (8191#32 : BitVec 32).slt x = true
    · rw [if_pos h2]; decide
    · rw [if_neg h2]
      rw [BitVec.slt_iff_toInt_lt] at h2
      have h1 : (8191#32 : BitVec 32).toInt = 8191 := by decide
      rw [h0] at h; rw [h1] at h2
      split at hi <;> omega

/-- A row number of the half is its own clip. -/
theorem clip_of_lt (x : BitVec 32) (h : x.toNat < 8192) : IntOp.minsi 8191#32 (IntOp.maxsi 0#32 x) = x := by
  have hi : x.toInt = x.toNat := StableHlo.Predicate.toInt_eq_toNat_of_lt (by omega)
  have h0 : (0#32 : BitVec 32).toInt = 0 := by decide
  have h1 : (8191#32 : BitVec 32).toInt = 8191 := by decide
  unfold IntOp.minsi IntOp.maxsi
  have hn : ¬ x.slt 0#32 = true := by rw [BitVec.slt_iff_toInt_lt, hi, h0]; omega
  rw [if_neg hn, if_neg (by rw [BitVec.slt_iff_toInt_lt, hi, h1]; omega)]

theorem widened_one (b : BitVec 1) : b.setWidth 32 = 1#32 ↔ b = 1#1 := by revert b; decide

/-! ## The tables, entry by entry -/

section Read
variable (V : Dev nD → Valuation τ sig (Elt F)) (c : Dev nD)
theorem inOf_lids : (inOf V).lids c = V c main_v28 := rfl
theorem inOf_own : (inOf V).own c = V c main_v29 := rfl
theorem inOf_cnt : (inOf V).cnt c = V c main_v31 := rfl
theorem inOf_mask : (inOf V).mask c = V c main_v33 := rfl
theorem inOf_tab : (inOf V).tab c = V c main_arg1 := rfl
end Read

theorem clip_eq (c : Dev nD) : (inM m).lids c = clipW m c := by
  refine (inOf_lids (V3 m) c).trans ?_
  refine (V3_of m c main_v28 (by decide)).trans ((second_clip (V1 m c)).trans ?_)
  rw [first_lo, first_hi, first_local]
  unfold clipW
  with_reducible rfl

theorem clipW_at (c : Dev nD) (t : S1024.Idx) : clipW m c t = IntOp.minsi 8191#32 (IntOp.maxsi 0#32 (localW m c t)) := rfl

theorem lids_at (c : Dev nD) (t : S1024.Idx) : (inM m).lids c t = IntOp.minsi 8191#32 (IntOp.maxsi 0#32 (localW m c t)) := by
  rw [clip_eq]
  exact clipW_at m c t

theorem own_at (c : Dev nD) (t : S1024.Idx) : (inM m).own c t = 1#32 ↔ ownW m c t = 1#1 := by
  have h : V3 m c main_v29 = extui 32 (ownW m c) natLt_1_32 := by
    refine (third_own (V2 m c)).trans ?_
    rw [V2_of m c main_v27 (by decide), first_own]
  rw [show (inM m).own c t = extui 32 (ownW m c) natLt_1_32 t from congrFun h t]
  exact widened_one _

/-- The widened flags as eight rows of a chunk each. -/
theorem rows_at (x : IVec S1024 1) (j : S8x128.Idx) (t : S1024.Idx) (h : (t 0).val = 128 * (j 0).val + (j 1).val) :
    shapeCast S8x128 x shapeCasts_S1024_S8x128 j = x t :=
  shapeCast_apply x _ j t (by
    rw [Shape.rowMajor_val_one, Shape.rowMajor_val_two]
    show (t 0).val = (j 0).val * 128 + (j 1).val
    omega)

theorem rows_widened (x : IVec S1024 1) : shapeCast S8x128 (extui 32 x natLt_1_32) shapeCasts_S1024_S8x128
    = extui 32 (shapeCast S8x128 x shapeCasts_S1024_S8x128) natLt_1_32 := rfl

theorem cnt_at (c : Dev nD) (k : Fin 8) : ((inM m).cnt c (cntI k) : BitVec 32).toNat
    = (Finset.univ.filter fun q : Fin 128 => shapeCast S8x128 (ownW m c) shapeCasts_S1024_S8x128 (StableHlo.Predicate.ij (n := 8) (m := 128) k q) = 1#1).card := by
  have h : V3 m c main_v31 = Host.reduce IntOp.addi (extui 32 (shapeCast S8x128 (ownW m c) shapeCasts_S1024_S8x128) natLt_1_32)
      (constantI S_ 32 0#32) reducesTo_S8x128_S8_d1 h_S_ := by
    refine (third_count (V2 m c)).trans ?_
    rw [V2_of m c main_v27 (by decide), first_own, rows_widened]
  show (V3 m c main_v31 (cntI k) : BitVec 32).toNat = _
  rw [h]
  exact StableHlo.Predicate.toNat_reduce_count_cols (by decide) _ _ _ _ _

theorem good : (inM m).Good where
  row c t _ := by rw [lids_at]; exact clip_lt _
  count c k := by
    rw [cnt_at]
    refine (Finset.card_bij' (fun (t : Trip) _ => (⟨t.val, gTrips ▸ t.isLt⟩ : Fin 128)) (fun q _ => ⟨q.val, gTrips.symm ▸ q.isLt⟩) ?_ ?_ (fun _ _ => rfl) (fun _ _ => rfl)).symm
    · intro t ht
      rw [mem_ownS, own_at] at ht
      exact Finset.mem_filter.mpr ⟨Finset.mem_univ _, (rows_at (ownW m c) _ (tokI k t) rfl).trans ht⟩
    · intro q hq
      rw [mem_ownS, own_at]
      exact (rows_at (ownW m c) (StableHlo.Predicate.ij (n := 8) (m := 128) k q) _ rfl).symm.trans (Finset.mem_filter.mp hq).2

end Cert.KernelIdeal.Talk
-- ==== Proof.Text.lean ====
/- The kernel's text printed for the two readings is one text: their tables and host programs are equal. -/
module

public import proofs.«01_k».proof.Proof.Gen.KernelIdeal
public import proofs.«01_k».proof.Proof.Gen.Kernel

@[expose] public section

set_option maxRecDepth 16384

noncomputable section

namespace Cert.Proof

open Idealize.ShloMosaic Idealize.SL.Sem

section Same
variable {F : FTy → Type} [FloatOps F]

/-- The two readings print one kernel body. -/
theorem same_body : Cert.Kernel.cc0_body (F := F) = Cert.KernelIdeal.cc0_body (F := F) := rfl

/-- One body table. -/
theorem same_bodies : Cert.Kernel.defs₀ (F := F) = Cert.KernelIdeal.defs₀ (F := F) := by
  unfold Cert.Kernel.defs₀ Cert.KernelIdeal.defs₀
  rw [same_body]
  refine congrArg Defs.onTc ?_
  funext l a
  match l, a with
  | 0, (t, s) => rfl
  | ⟨n + 1, h⟩, a => exact absurd h (Nat.not_lt.2 (Nat.le_add_left _ _))

/-- One table of regions. -/
theorem same_defs : Cert.Kernel.defs (F := F) = Cert.KernelIdeal.defs (F := F) := by
  unfold Cert.Kernel.defs Cert.KernelIdeal.defs
  rw [same_bodies]
  rfl

set_option maxHeartbeats 0 in
/-- One host program. -/
theorem same_main : Cert.Kernel.main (F := F) = Cert.KernelIdeal.main (F := F) := rfl
end Same

end Cert.Proof
-- ==== Proof.Frames.lean ====
/- The frames: both readings of the kernel's program run, keep their arguments and end with every counter at zero. -/
module

public import proofs.«01_k».proof.Proof.Good
public import proofs.«01_k».proof.Defs
public import proofs.«01_k».proof.Proof.Gen.Kernel
public import proofs.«01_k».proof.Proof.Text
public import proofs.«01_k».proof.Proof.Gen.ReferenceIdeal.Run

@[expose] public section

set_option maxRecDepth 16384

noncomputable section

namespace Cert.Proof

open Idealize.ShloMosaic Idealize.SL.Sem Cert.KernelIdeal.Talk

/-- The tokens' condition prints one fact: a scalar spreads over the list. -/
instance pre_kernel : Cert.Pre_ids_in_range_KernelIdeal.Facts := ⟨by decide⟩

/-- The same for the condition over the reference's arguments. -/
instance pre_reference : Cert.Pre_ids_in_range_ReferenceIdeal.Facts := ⟨by decide⟩

/-- The program as printed. -/
theorem frame_kernel : Cert.quiescent_Kernel := by
  intro m ρ _
  rw [same_defs, same_main]
  exact (θ_run Cert.KernelIdeal.defs _ _).mono (fun _ h => ⟨fun c => ⟨(h.1 c).1, (h.1 c).2.1⟩, h.2⟩)
    (run_good (F := Bits) m ρ (good m))

/-- The program read at the ideal instance. -/
theorem frame_ideal : Cert.quiescent_KernelIdeal := fun m ρ _ =>
  (θ_run Cert.KernelIdeal.defs _ _).mono (fun _ h => ⟨fun c => ⟨(h.1 c).1, (h.1 c).2.1⟩, h.2⟩) (run_good (F := Ideal) m ρ (good m))

/-- The same under the claim's condition on the tokens. -/
theorem frame_ideal_pre : Cert.quiescent_KernelIdeal_pre_ids_in_range_KernelIdeal := fun m ρ _ => frame_ideal m ρ trivial

/-- The reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the claim's condition on the tokens. -/
theorem frame_reference_pre : Cert.quiescent_ReferenceIdeal_pre_ids_in_range_ReferenceIdeal := fun m ρ _ =>
  frame_reference m ρ trivial

end Cert.Proof
-- ==== Proof.Tokens.lean ====
/- What the mathematics asks of the tables: which device owns a token, and which row of the whole table it reads. -/
module

public import proofs.«01_k».proof.Proof.Good
public import Idealize.ShloMosaic.Lib.Pipeline.Value
public import Idealize.ShloMosaic.Lib.Pointwise.ShapeOpsCore
public import Idealize.ShloMosaic.Lib.Layout

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Words -/
theorem both_one (a b : BitVec 1) : IntOp.andi a b = 1#1 ↔ a = 1#1 ∧ b = 1#1 := by revert a b; decide

theorem sge_zero (x : BitVec 32) : IntOp.cmpi .sge x 0#32 = 1#1 ↔ 0 ≤ x.toInt := by
  show BitVec.ofBool ((0#32 : BitVec 32).sle x) = 1#1 ↔ _
  rw [StableHlo.Predicate.ofBool_eq_one_iff, BitVec.sle_iff_toInt_le]
  simp

theorem slt_at (x y : BitVec 32) : IntOp.cmpi .slt x y = 1#1 ↔ x.toInt < y.toInt := by
  show BitVec.ofBool (x.slt y) = 1#1 ↔ _
  rw [StableHlo.Predicate.ofBool_eq_one_iff, BitVec.slt_iff_toInt_lt]

/-- A token less the first row of half `h`, as an integer. -/
theorem less_base (w : BitVec 32) (h : ℕ) (hh : h < 2) (hw : w.toNat < 16384) :
    (w - BitVec.ofNat 32 (8192 * h)).toInt = (w.toNat : ℤ) - 8192 * h := by
  have e := BitVec.toInt_eq_toNat_cond (w - BitVec.ofNat 32 (8192 * h))
  rw [BitVec.toNat_sub, BitVec.toNat_ofNat] at e
  split at e <;> omega

/-- It is one of the half's rows exactly when the half has the token. -/
theorem owns_iff (w : BitVec 32) (h : ℕ) (hh : h < 2) (hw : w.toNat < 16384) :
    IntOp.andi (IntOp.cmpi .sge (w - BitVec.ofNat 32 (8192 * h)) 0#32) (IntOp.cmpi .slt (w - BitVec.ofNat 32 (8192 * h)) 8192#32) = 1#1
      ↔ w.toNat / 8192 = h := by
  rw [both_one, sge_zero, slt_at, less_base w h hh hw, show (8192#32 : BitVec 32).toInt = 8192 by decide]
  omega

/-- It is then the row's number in the half. -/
theorem local_row (w : BitVec 32) (h : ℕ) (hw : w.toNat < 16384) (ho : w.toNat / 8192 = h) :
    (IntOp.minsi 8191#32 (IntOp.maxsi 0#32 (w - BitVec.ofNat 32 (8192 * h)))).toNat = w.toNat - 8192 * h := by
  have e : (w - BitVec.ofNat 32 (8192 * h)).toNat = w.toNat - 8192 * h := by
    rw [BitVec.toNat_sub, BitVec.toNat_ofNat]; omega
  rw [clip_of_lt _ (by omega), e]

/-! ## The device's coordinates -/

theorem start_val (c : Dev nD) : (startW c (Shape.Idx.first h_S_)).toInt = ((1024 * (c.val % 4) : ℕ) : ℤ) := by
  revert c; decide +kernel
theorem base_val (c : Dev nD) : baseW c (Shape.Idx.first h_S_) = BitVec.ofNat 32 (8192 * (c.val / 4)) := by
  revert c; decide +kernel
theorem xp_half (c : Dev nD) : (xp c).val / 4 = 1 - c.val / 4 := by revert c; decide +kernel
theorem xp_quarter (c : Dev nD) : (xp c).val % 4 = c.val % 4 := by revert c; decide +kernel
theorem half_lt (c : Dev nD) : c.val / 4 < 2 := by have : c.val < 8 := c.isLt; omega

/-! ## The tokens -/

variable (m : (ℓ : Loc nD τ sig) → Buf (Elt F) ℓ)

/-- The token list, as words. -/
abbrev toksW (c : Dev nD) : IVec S4096 32 := m ((c : Thread nD τ).loc main_arg0)

/-- Where token `t` of a device's quarter is in the list. -/
def tokAt (c : Dev nD) (t : S1024.Idx) : S4096.Idx :=
  fun | ⟨0, _⟩ => ⟨1024 * (c.val % 4) + (t 0).val, by have : (t 0).val < 1024 := (t 0).isLt; show _ < 4096; omega⟩

theorem ids_at (c : Dev nD) (t : S1024.Idx) : idsW m c t = toksW m c (tokAt c t) := by
  unfold idsW
  rw [Host.dynamicSlice_apply]
  refine congrArg (toksW m c) (funext fun a => Fin.ext ?_)
  match a with
  | ⟨0, _⟩ =>
    show Host.clampedStart S4096 S1024 _ _ 0 + (t 0).val = 1024 * (c.val % 4) + (t 0).val
    rw [Host.clampedStart_of_le _ _ 0 (1024 * (c.val % 4)) (start_val c) (by show _ + 1024 ≤ 4096; omega)]

theorem local_at (c : Dev nD) (t : S1024.Idx) : localW m c t = toksW m c (tokAt c t) - BitVec.ofNat 32 (8192 * (c.val / 4)) := by
  show IntOp.subi (idsW m c t) (broadcastInDim S1024 ![] bcast_S_S1024 (baseW c) t) = _
  rw [broadcastInDim_apply _ _ _ t (Shape.Idx.first h_S_) (fun a => a.elim0), base_val, ids_at]
  rfl

theorem own_tok (c : Dev nD) (t : S1024.Idx) (hw : (toksW m c (tokAt c t)).toNat < 16384) :
    ownW m c t = 1#1 ↔ (toksW m c (tokAt c t)).toNat / 8192 = c.val / 4 := by
  have e : ownW m c t = IntOp.andi (IntOp.cmpi .sge (localW m c t) 0#32) (IntOp.cmpi .slt (localW m c t) 8192#32) := rfl
  rw [e, local_at]
  exact owns_iff _ _ (half_lt c) hw

theorem lids_tok (c : Dev nD) (t : S1024.Idx) (hw : (toksW m c (tokAt c t)).toNat < 16384)
    (ho : (toksW m c (tokAt c t)).toNat / 8192 = c.val / 4) :
    ((inM m).lids c t : BitVec 32).toNat = (toksW m c (tokAt c t)).toNat - 8192 * (c.val / 4) := by
  rw [lids_at, local_at]
  exact local_row _ _ hw ho

theorem tab_at (c : Dev nD) : (inM m).tab c = m ((c : Thread nD τ).loc main_arg1) :=
  (inOf_tab (V3 m) c).trans (V3_arg1 m c)

/-- The mask column is the flags, converted. -/
theorem mask_at (c : Dev nD) (u : S1024x1.Idx) (t : S1024.Idx) (ht : (t 0).val = (u 0).val) :
    (inM m).mask c u = FloatOps.uitofp (F := F) .bf16 (ownW m c t) := by
  have h : V3 m c main_v33 = shapeCast S1024x1 (uitofp (F := F) .bf16 (ownW m c)) shapeCasts_S1024_S1024x1 := by
    refine (third_mask (V2 m c)).trans ?_
    rw [V2_of m c main_v27 (by decide), first_own]
  rw [show (inM m).mask c u = shapeCast S1024x1 (uitofp (F := F) .bf16 (ownW m c)) shapeCasts_S1024_S1024x1 u from congrFun h u]
  have h1 : (u 1).val < 1 := (u 1).isLt
  rw [shapeCast_apply _ _ u t (by rw [Shape.rowMajor_val_two, Shape.rowMajor_val_one]; show (t 0).val = (u 0).val * 1 + (u 1).val; omega)]
  rfl

end Cert.KernelIdeal.Talk
-- ==== Proof.Value.lean ====
/- The result, entry by entry, read at the ideal instance: each row is the row of the whole table its token names. -/
module

public import proofs.«01_k».proof.Proof.Tokens
public import Idealize.ShloMosaic.PureOps.Ideal

@[expose] public section

set_option maxRecDepth 16384
set_option synthInstance.maxSize 4096

noncomputable section

namespace Cert.KernelIdeal.Talk

open Cert.KernelIdeal Cert.KernelIdeal.Gen Cert.KernelIdeal.Steps
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable (m : (ℓ : Loc nD τ sig) → Buf (Elt Ideal) ℓ)

abbrev SAll : Shape := ⟨2, ![16384, 2048]⟩

/-- A flag, converted, differs from zero exactly when it is set. -/
theorem flag_one (b : BitVec 1) :
    FloatOps.cmpf (F := Ideal) .one (FloatOps.uitofp (F := Ideal) .bf16 b) (Scalar.ofBits .bf16 0x0000#16) = 1#1 ↔ b = 1#1 := by
  have hz : (Scalar.ofBits .bf16 0x0000#16 : Ideal .bf16) = (0 : EReal) := by
    show Ideal.ofBits .bf16 0x0000#16 = 0
    simp [Ideal.ofBits, Ideal.ieee]
  show BitVec.ofBool (decide ((((b.toNat : ℝ) : EReal)) ≠ (Scalar.ofBits .bf16 0x0000#16 : Ideal .bf16))) = 1#1 ↔ _
  rw [hz, StableHlo.Predicate.ofBool_eq_one_iff, decide_eq_true_iff]
  have hb : b = 0#1 ∨ b = 1#1 := by revert b; decide
  rcases hb with rfl | rfl <;> simp

theorem mesh_half (d : Dev nD) : Layout.meshLin [2, 2, 2] d.val [0] = d.val / 4 := by revert d; decide +kernel

/-- The half of the table a device holds. -/
def halfOf (T : SAll.Idx → EReal) (c : Dev nD) : S8192x2048.Idx → EReal :=
  Layout.blockN ⟨2, ![8192, 2048]⟩ ⟨2, ![16384, 2048]⟩ (Layout.meshBlock [2, 2, 2] ![[0], []] c) T

section Entry

variable (T : SAll.Idx → EReal)
variable (hT : ∀ c : Dev nD, m ((c : Thread nD τ).loc main_arg1) = halfOf T c)

include hT in
/-- A device's half of the table, at row `w - 8192 * (d / 4)`, is the whole table at row `w`. -/
theorem tab_row (d : Dev nD) (w : ℕ) (hw : w / 8192 = d.val / 4) (j : S8192x2048.Idx) (hj : (j 0).val = w - 8192 * (d.val / 4))
    (b : SAll.Idx) (hb0 : (b 0).val = w) (hb1 : (b 1).val = (j 1).val) : (inM m).tab d j = T b := by
  rw [tab_at, hT d]
  unfold halfOf
  rw [Layout.blockN_apply]
  refine congrArg T (funext fun a => Fin.ext ?_)
  have hd : Layout.meshLin [2, 2, 2] d.val [0] = d.val / 4 := mesh_half d
  match a with
  | ⟨0, _⟩ =>
    show Layout.meshLin [2, 2, 2] d.val [0] * 8192 + (j 0).val = (b 0).val
    rw [hd]; omega
  | ⟨1, _⟩ =>
    show 0 * 2048 + (j 1).val = (b 1).val
    omega

include hT in
/-- A gathered entry of an owned token is the table's. -/
theorem gath_row (d : Dev nD) (t : S1024.Idx) (i : S1024x2048.Idx) (ht : (t 0).val = (i 0).val) (v : EReal)
    (hv : GathV (inM m) d i v) (hw : (toksW m d (tokAt d t)).toNat < 16384)
    (ho : (toksW m d (tokAt d t)).toNat / 8192 = d.val / 4)
    (b : SAll.Idx) (hb0 : (b 0).val = (toksW m d (tokAt d t)).toNat) (hb1 : (b 1).val = (i 1).val) : v = T b := by
  have hlt : (toksW m d (tokAt d t)).toNat - 8192 * (d.val / 4) < 8192 := by omega
  let j : S8192x2048.Idx := fun | ⟨0, _⟩ => ⟨_, hlt⟩ | ⟨1, _⟩ => i 1
  have e : v = (inM m).tab d j :=
    hv t ht ((own_at m d t).2 ((own_tok m d t hw).2 ho)) j (lids_tok m d t hw ho).symm rfl
  rw [e]
  exact tab_row m T hT d _ ho j rfl b hb0 hb1

variable (tok : IVec S4096 32) (htok : ∀ c : Dev nD, m ((c : Thread nD τ).loc main_arg0) = tok)
variable (hr : ∀ i, (tok i).toNat < 16384)

include hT htok hr in
/-- Every entry of the result: the token's row. -/
theorem out_entry (c : Dev nD) (i : S4096x2048.Idx) (v : EReal) (hv : OutV (inM m) c i v) (k : S4096.Idx) (hk : (k 0).val = (i 0).val)
    (b : SAll.Idx) (hb0 : (b 0).val = (tok k).toNat) (hb1 : (b 1).val = (i 1).val) : v = T b := by
  have hi : (i 0).val < 4096 := (i 0).isLt
  have hc := half_lt c
  let d : Dev nD := ⟨4 * (c.val / 4) + (i 0).val / 1024, by show _ < 8; omega⟩
  let j : S1024x2048.Idx := fun | ⟨0, _⟩ => ⟨(i 0).val % 1024, Nat.mod_lt _ (by decide)⟩ | ⟨1, _⟩ => i 1
  let t : S1024.Idx := fun | ⟨0, _⟩ => ⟨(i 0).val % 1024, Nat.mod_lt _ (by decide)⟩
  let u : S1024x1.Idx := fun | ⟨0, _⟩ => ⟨(i 0).val % 1024, Nat.mod_lt _ (by decide)⟩ | ⟨1, _⟩ => ⟨0, Nat.one_pos⟩
  have dv : d.val = 4 * (c.val / 4) + (i 0).val / 1024 := rfl
  have jv : (j 0).val = (i 0).val % 1024 := rfl
  have at_ (e : Dev nD) (he : e.val % 4 = (i 0).val / 1024) : tokAt e t = k := by
    funext a
    match a with
    | ⟨0, _⟩ =>
      refine Fin.ext ?_
      show 1024 * (e.val % 4) + (i 0).val % 1024 = (k 0).val
      rw [he, hk]; omega
  have hd := at_ d (by omega)
  have hx := at_ (xp d) (by rw [xp_quarter]; omega)
  have wd : toksW m d (tokAt d t) = tok k := by rw [hd]; exact congrFun (htok d) k
  have wx : toksW m (xp d) (tokAt (xp d) t) = tok k := by rw [hx]; exact congrFun (htok (xp d)) k
  have hw := hr k
  obtain ⟨p, r, ⟨p', gp, hp⟩, ⟨r', gr, hq⟩, hm⟩ := hv d j (by omega) (by rw [dv, jv]; omega) rfl
  have hv' := hm u rfl
  rw [mask_at m d u t rfl] at hv'
  by_cases ho : (tok k).toNat / 8192 = d.val / 4
  · rw [if_pos ((flag_one _).2 ((own_tok m d t (by rw [wd]; exact hw)).2 (by rw [wd]; exact ho)))] at hv'
    exact (hv'.trans hp).trans (gath_row m T hT d t j rfl p' gp (by rw [wd]; exact hw) (by rw [wd]; exact ho) b (by rw [wd]; exact hb0) hb1)
  · have hn : ¬ ownW m d t = 1#1 := fun h => ho (by have := (own_tok m d t (by rw [wd]; exact hw)).1 h; rwa [wd] at this)
    rw [if_neg (fun h => hn ((flag_one _).1 h))] at hv'
    have hox : (tok k).toNat / 8192 = (xp d).val / 4 := by
      have := half_lt d
      rw [xp_half]; omega
    exact (hv'.trans hq).trans (gath_row m T hT (xp d) t j rfl r' gr (by rw [wx]; exact hw) (by rw [wx]; exact hox) b (by rw [wx]; exact hb0) hb1)

end Entry

end Cert.KernelIdeal.Talk
-- ==== Proof.Agree.lean ====
/- The kernel's result and the reference's are one array, where the tokens are row numbers of the table. -/
module

public import proofs.«01_k».proof.Proof.Frames
public import proofs.«01_k».proof.Proof.Value
public import Idealize.ShloMosaic.Lib.Routing.Ops

@[expose] public section

set_option maxRecDepth 16384

noncomputable section

namespace Cert.Proof

open Idealize.ShloMosaic Idealize.SL.Sem Cert.KernelIdeal.Talk

/-- A word in range, from the two tests of the condition. -/
theorem in_range (x : BitVec 32) (h : IntOp.andi (IntOp.cmpi .sge x 0#32) (IntOp.cmpi .slt x 16384#32) = 1#1) : x.toNat < 16384 := by
  rw [both_one, sge_zero, slt_at, show (16384#32 : BitVec 32).toInt = 16384 by decide] at h
  have e := BitVec.toInt_eq_toNat_cond x
  split at e <;> omega

/-- The tokens are in range where the condition holds. -/
theorem toks_in_range (tok : IVec Cert.Pre_ids_in_range_KernelIdeal.S4096 32) (x : FVec Ideal Cert.Pre_ids_in_range_KernelIdeal.S8192x2048 .f32)
    (h : Cert.Pre_ids_in_range_KernelIdeal.fn (F := Ideal) tok x = fun _ => 1#1) (i : Cert.Pre_ids_in_range_KernelIdeal.S4096.Idx) :
    (tok i).toNat < 16384 :=
  in_range (tok i) (congrFun h i)

section Reference
open Cert.ReferenceIdeal Cert.ReferenceIdeal.Gen

/-- The reference's rows: the tokens, a negative one counted from the end. -/
def rowsW (tok : IVec S4096 32) : IVec S4096x1 32 :=
  broadcastInDim S4096x1 ![0] Facts₀.bcast_S4096_S4096x1_0
    (select (cmpi .slt tok (broadcastInDim S4096 ![] Facts₀.bcast_S_S4096 (constantI S_ 32 0#32)))
      (addi tok (broadcastInDim S4096 ![] Facts₀.bcast_S_S4096 (constantI S_ 32 16384#32))) tok)

/-- What the reference computes. -/
def refV (T : FVec Ideal S16384x2048 .f32) (tok : IVec S4096 32) : FVec Ideal S4096x2048 .bf16 :=
  truncf .bf16 (Host.gather gather_S16384x2048_S4096x1_S4096x2048_1_0_n_n_0_1_12048 T (rowsW tok)) Facts₀.bitsLt_bf16_f32

/-- A token in range is its own row. -/
theorem rows_tok (tok : IVec S4096 32) (k : Fin 4096) (hk : (tok (ValueIdx.ix1 k)).toNat < 16384) :
    rowsW tok (ValueIdx.ix2 k (0 : Fin 1)) = tok (ValueIdx.ix1 k) := by
  unfold rowsW
  rw [broadcastInDim_apply _ _ _ (ValueIdx.ix2 k (0 : Fin 1)) (ValueIdx.ix1 k) (fun a => by
    match a with
    | ⟨0, _⟩ => rfl)]
  show (if IntOp.cmpi .slt (tok (ValueIdx.ix1 k)) 0#32 = 1#1 then _ else _) = _
  refine if_neg fun h => ?_
  rw [slt_at, StableHlo.Predicate.toInt_eq_toNat_of_lt (by omega)] at h
  have h0 : (0#32 : BitVec 32).toInt = 0 := by decide
  omega

/-- The reference's entry. -/
theorem ref_entry (T : FVec Ideal S16384x2048 .f32) (tok : IVec S4096 32) (hr : ∀ i, (tok i).toNat < 16384) (k : Fin 4096) (y : Fin 2048) :
    refV T tok (ValueIdx.ix2 k y) = T (ValueIdx.ix2 (⟨(tok (ValueIdx.ix1 k)).toNat, hr _⟩ : Fin 16384) y) :=
  Routing.gather_row gather_S16384x2048_S4096x1_S4096x2048_1_0_n_n_0_1_12048 rfl rfl rfl rfl rfl T (rowsW tok) k y
    ⟨(tok (ValueIdx.ix1 k)).toNat, hr _⟩ ((rows_tok tok k (hr _)).trans (BitVec.ofNat_toNat 32 _ |>.trans (BitVec.setWidth_eq _)).symm) (by decide)

end Reference

/-- The kernel's result is the reference's, on every device. -/
theorem same_value (m : (ℓ : Loc Cert.KernelIdeal.nD Cert.KernelIdeal.τ Cert.KernelIdeal.sig) → Buf (Elt Ideal) ℓ)
    (T : SAll.Idx → EReal) (tok : IVec Cert.KernelIdeal.S4096 32)
    (hT : ∀ c : Dev Cert.KernelIdeal.nD, m ((c.tc : Thread Cert.KernelIdeal.nD Cert.KernelIdeal.τ).loc Cert.KernelIdeal.main_arg1) = halfOf T c)
    (htok : ∀ c : Dev Cert.KernelIdeal.nD, m ((c.tc : Thread Cert.KernelIdeal.nD Cert.KernelIdeal.τ).loc Cert.KernelIdeal.main_arg0) = tok)
    (hr : ∀ i, (tok i).toNat < 16384) (c : Dev Cert.KernelIdeal.nD) (v : FVec Ideal Cert.KernelIdeal.S4096x2048 .bf16)
    (hv : ∀ i, OutV (inM m) c i (v i)) : v = refV T tok := by
  funext i
  have e : i = ValueIdx.ix2 (i 0) (i 1) := by
    funext a
    match a with
    | ⟨0, _⟩ => rfl
    | ⟨1, _⟩ => rfl
  refine (out_entry m T hT tok htok hr c i (v i) (hv i) (ValueIdx.ix1 (i 0)) rfl
    (ValueIdx.ix2 (⟨(tok (ValueIdx.ix1 (i 0))).toNat, hr _⟩ : Fin 16384) (i 1)) rfl rfl).trans ?_
  exact (ref_entry T tok hr (i 0) (i 1)).symm.trans (congrArg (refV T tok) e.symm)

/-- The value claim. -/
theorem agree : Cert.algebraic_KernelIdeal_ReferenceIdeal_pre_ids_in_range_KernelIdeal := by
  intro m g m' g' hp hm
  have hr := toks_in_range _ _ (hp 0)
  rw [(hm 0).1] at hr
  refine ⟨refV _ _, (θ_run Cert.KernelIdeal.defs _ _).mono (fun r h c => ⟨?_, (h.1 c).1, (h.1 c).2.1⟩) (run_good (F := Ideal) m g (good m)),
    (θ_run Cert.ReferenceIdeal.defs _ _).mono (fun r h => h 0) (Cert.ReferenceIdeal.Value.run (F := Ideal) m' g')⟩
  exact same_value m _ _ (fun c => (hm c).2) (fun c => (hm c).1) hr c _ (h.1 c).2.2

end Cert.Proof
-- ==== Proof.lean ====
/- The claims together: the frames of the kernel and of the reference, the kernel's ideal reading, and the value. -/
module

public import proofs.«01_k».proof.Defs
public import proofs.«01_k».proof.Proof.Frames
public import proofs.«01_k».proof.Proof.Agree

@[expose] public section

noncomputable section

namespace Cert.Proof

/-- Every claim of the certificate. -/
theorem claim : Cert.Claim :=
  ⟨Cert.Kernel.Gen.facts, Cert.KernelIdeal.Gen.facts, Cert.ReferenceIdeal.Gen.facts, pre_kernel, pre_reference,
    frame_kernel, frame_ideal, frame_ideal_pre, frame_reference, frame_reference_pre, trivial, agree⟩

end Cert.Proof

end
